-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routable_KernelIdeal [hPre_routable_KernelIdeal : Cert.Pre_routable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routable_ReferenceIdeal [hPre_routable_ReferenceIdeal : Cert.Pre_routable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routable_KernelIdeal [hKernelIdeal : Cert.KernelIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routable_ReferenceIdeal [hReferenceIdeal : Cert.ReferenceIdeal.Facts] [hPre_routable_ReferenceIdeal : Cert.Pre_routable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routable_KernelIdeal [hKernelIdeal : Cert.KernelIdeal.Facts] [hReferenceIdeal : Cert.ReferenceIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routable_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routable_KernelIdeal : Cert.Pre_routable_KernelIdeal.Facts) (hPre_routable_ReferenceIdeal : Cert.Pre_routable_ReferenceIdeal.Facts),
    quiescent_Kernel (hKernel := hKernel)
    ∧ quiescent_KernelIdeal (hKernelIdeal := hKernelIdeal)
    ∧ quiescent_KernelIdeal_pre_routable_KernelIdeal (hKernelIdeal := hKernelIdeal) (hPre_routable_KernelIdeal := hPre_routable_KernelIdeal)
    ∧ quiescent_ReferenceIdeal (hReferenceIdeal := hReferenceIdeal)
    ∧ quiescent_ReferenceIdeal_pre_routable_ReferenceIdeal (hReferenceIdeal := hReferenceIdeal) (hPre_routable_ReferenceIdeal := hPre_routable_ReferenceIdeal)
    ∧ preserves_Kernel_KernelIdeal
    ∧ algebraic_KernelIdeal_ReferenceIdeal_pre_routable_KernelIdeal (hKernelIdeal := hKernelIdeal) (hReferenceIdeal := hReferenceIdeal) (hPre_routable_KernelIdeal := hPre_routable_KernelIdeal)
-- ==== Pre_routable_KernelIdeal.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S512x1024 : Shape := ⟨2, ![512, 1024]⟩
abbrev S1024x128 : Shape := ⟨2, ![1024, 128]⟩
abbrev S_ : Shape := ⟨0, ![]⟩
abbrev S1024 : Shape := ⟨1, ![1024]⟩

class Facts : Prop where
  bitsLt_bf16_f32 : FTy.bits .bf16 < FTy.bits .f32
  reducesTo_S1024x128_S1024_d1 : S1024x128.ReducesTo [1] S1024
  h_S_ : 0 < S_.numel
  bcast_S_S1024x1 : S_.BroadcastsInDim S1024x1 (![] : Fin 0 → Fin S1024x1.rank)
  reducesTo_S1024x1_S_d0_1 : S1024x1.ReducesTo [0, 1] S_
  bcast_S_S1024 : S_.BroadcastsInDim S1024 (![] : Fin 0 → Fin S1024.rank)
  reducesTo_S1024_S_d0 : S1024.ReducesTo [0] S_
  dot_S1024x512_S512x128_S1024x128_1_0_0_1_n_n_wf : DotDims.WF S1024x512 S512x128 S1024x128 [1] [0] [0] [1] [] []

variable [Facts]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def fn {F : FTy → Type} [FloatOps F] (main_arg0 : FVec F S1024x512 .bf16) (main_arg1 : FVec F S512x128 .bf16) (main_arg2 : IVec S1024x1 32) (main_arg3 : FVec F S4x512x1024 .bf16) (main_arg4 : FVec F S512x1024 .bf16) : IVec S_ 1 :=
  let main_v0 : FVec F S1024x512 .f32 := (extf .f32 · bitsLt_bf16_f32) main_arg0
  let main_v1 : FVec F S512x128 .f32 := (extf .f32 · bitsLt_bf16_f32) main_arg1
  let main_v2 : FVec F S1024x128 .f32 := (fun l r => Host.dotGeneral dot_S1024x512_S512x128_S1024x128_1_0_0_1_n_n none l r) main_v0 main_v1
  let main_cst : FVec F S_ .f32 := constant S_ .f32 0xFF800000#32
  let main_v3 : FVec F S1024 .f32 := (fun x v => Host.reduce FloatOps.maximumf x v reducesTo_S1024x128_S1024_d1 h_S_) main_v2 main_cst
  let main_c : IVec S_ 32 := constantI S_ 32 0#32
  let main_v4 : IVec S1024x1 32 := broadcastInDim S1024x1 ![] bcast_S_S1024x1 main_c
  let main_v5 : IVec S1024x1 1 := cmpi .sge main_arg2 main_v4
  let main_c_0 : IVec S_ 32 := constantI S_ 32 128#32
  let main_v6 : IVec S1024x1 32 := broadcastInDim S1024x1 ![] bcast_S_S1024x1 main_c_0
  let main_v7 : IVec S1024x1 1 := cmpi .slt main_arg2 main_v6
  let main_v8 : IVec S1024x1 1 := andi main_v5 main_v7
  let main_c_1 : IVec S_ 1 := constantI S_ 1 1#1
  let main_v9 : IVec S_ 1 := (fun x v => Host.reduce IntOp.andi x v reducesTo_S1024x1_S_d0_1 h_S_) main_v8 main_c_1
  let main_v10 : FVec F S1024 .f32 := Host.absf main_v3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  main_v14
-- ==== Pre_routable_ReferenceIdeal.lean ====
abbrev S1024x512 : Shape := ⟨2, ![1024, 512]⟩
abbrev S512x128 : Shape := ⟨2, ![512, 128]⟩
abbrev S1024x1 : Shape := ⟨2, ![1024, 1]⟩
abbrev S128x512x1024 : Shape := ⟨3, ![128, 512, 1024]⟩
abbrev S512x1024 : Shape := ⟨2, ![512, 1024]⟩
abbrev S1024x128 : Shape := ⟨2, ![1024, 128]⟩
abbrev S_ : Shape := ⟨0, ![]⟩
abbrev S1024 : Shape := ⟨1, ![1024]⟩

class Facts : Prop where
  bitsLt_bf16_f32 : FTy.bits .bf16 < FTy.bits .f32
  reducesTo_S1024x128_S1024_d1 : S1024x128.ReducesTo [1] S1024
  h_S_ : 0 < S_.numel
  bcast_S_S1024x1 : S_.BroadcastsInDim S1024x1 (![] : Fin 0 → Fin S1024x1.rank)
  reducesTo_S1024x1_S_d0_1 : S1024x1.ReducesTo [0, 1] S_
  bcast_S_S1024 : S_.BroadcastsInDim S1024 (![] : Fin 0 → Fin S1024.rank)
  reducesTo_S1024_S_d0 : S1024.ReducesTo [0] S_
  dot_S1024x512_S512x128_S1024x128_1_0_0_1_n_n_wf : DotDims.WF S1024x512 S512x128 S1024x128 [1] [0] [0] [1] [] []

variable [Facts]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def fn {F : FTy → Type} [FloatOps F] (main_arg0 : FVec F S1024x512 .bf16) (main_arg1 : FVec F S512x128 .bf16) (main_arg2 : IVec S1024x1 32) (main_arg3 : FVec F S128x512x1024 .bf16) (main_arg4 : FVec F S512x1024 .bf16) : IVec S_ 1 :=
  let main_v0 : FVec F S1024x512 .f32 := (extf .f32 · bitsLt_bf16_f32) main_arg0
  let main_v1 : FVec F S512x128 .f32 := (extf .f32 · bitsLt_bf16_f32) main_arg1
  let main_v2 : FVec F S1024x128 .f32 := (fun l r => Host.dotGeneral dot_S1024x512_S512x128_S1024x128_1_0_0_1_n_n none l r) main_v0 main_v1
  let main_cst : FVec F S_ .f32 := constant S_ .f32 0xFF800000#32
  let main_v3 : FVec F S1024 .f32 := (fun x v => Host.reduce FloatOps.maximumf x v reducesTo_S1024x128_S1024_d1 h_S_) main_v2 main_cst
  let main_c : IVec S_ 32 := constantI S_ 32 0#32
  let main_v4 : IVec S1024x1 32 := broadcastInDim S1024x1 ![] bcast_S_S1024x1 main_c
  let main_v5 : IVec S1024x1 1 := cmpi .sge main_arg2 main_v4
  let main_c_0 : IVec S_ 32 := constantI S_ 32 128#32
  let main_v6 : IVec S1024x1 32 := broadcastInDim S1024x1 ![] bcast_S_S1024x1 main_c_0
  let main_v7 : IVec S1024x1 1 := cmpi .slt main_arg2 main_v6
  let main_v8 : IVec S1024x1 1 := andi main_v5 main_v7
  let main_c_1 : IVec S_ 1 := constantI S_ 1 1#1
  let main_v9 : IVec S_ 1 := (fun x v => Host.reduce IntOp.andi x v reducesTo_S1024x1_S_d0_1 h_S_) main_v8 main_c_1
  let main_v10 : FVec F S1024 .f32 := Host.absf main_v3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  main_v14
-- ==== Kernel.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S512x1024 : Shape := ⟨2, ![512, 1024]⟩
abbrev S1024x1024 : Shape := ⟨2, ![1024, 1024]⟩
abbrev S2x5 : Shape := ⟨2, ![2, 5]⟩
abbrev S_ : Shape := ⟨0, ![]⟩
abbrev S1024x128 : Shape := ⟨2, ![1024, 128]⟩
abbrev S1024 : Shape := ⟨1, ![1024]⟩
abbrev S1x128 : Shape := ⟨2, ![1, 128]⟩
abbrev S1x512x1024 : Shape := ⟨3, ![1, 512, 1024]⟩
abbrev S1x1 : Shape := ⟨2, ![1, 1]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1024x512, .bf16⟩
  | .hbm, ⟨1, _⟩ => ⟨S512x128, .bf16⟩
  | .hbm, ⟨2, _⟩ => ⟨S1024x1, .i32⟩
  | .hbm, ⟨3, _⟩ => ⟨S4x512x1024, .bf16⟩
  | .hbm, ⟨4, _⟩ => ⟨S512x1024, .bf16⟩
  | .hbm, ⟨5, _⟩ => ⟨S1024x1024, .f32⟩
  | .local _ .vmem, ⟨0, _⟩ => ⟨S1024x512, .bf16⟩
  | .local _ .vmem, ⟨1, _⟩ => ⟨S512x128, .bf16⟩
  | .local _ .vmem, ⟨2, _⟩ => ⟨S1024x1, .i32⟩
  | .local _ .vmem, ⟨3, _⟩ => ⟨S4x512x1024, .bf16⟩
  | .local _ .vmem, ⟨4, _⟩ => ⟨S512x1024, .bf16⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_101 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let c2_i32_26 : BitVec 32 := 2#32
  let c0_i32_27 : BitVec 32 := 0#32
  let v62 : BitVec 1 := Scalar.cmpi .eq c2_i32_26 c0_i32_27
  let c1_i32_28 : BitVec 32 := 1#32
  let v63 : BitVec 32 := Scalar.select v62 c1_i32_28 c2_i32_26
  let v64 : BitVec 32 := Scalar.remsi v46 v63
  let c0_i32_30 : BitVec 32 := 0#32
  let v66 : BitVec 1 := Scalar.cmpi .slt v64 c0_i32_30
  let c0_i32_31 : BitVec 32 := 0#32
  let v67 : BitVec 1 := Scalar.cmpi .slt v63 c0_i32_31
  let v68 : BitVec 1 := Scalar.xori v66 v67
  let c0_i32_29 : BitVec 32 := 0#32
  let v65 : BitVec 1 := Scalar.cmpi .ne v64 c0_i32_29
  let v69 : BitVec 1 := Scalar.andi v68 v65
  let v70 : BitVec 32 := Scalar.addi v64 v63
  let v71 : BitVec 32 := Scalar.select v69 v70 v64
  let v72 : BitVec 32 := Scalar.xori v58 v71
  let v73 : BitVec 32 := Scalar.addi v61 v72
  let c1_i32_100 : BitVec 32 := 1#32
  let v198 : BitVec 32 := Scalar.muli v73 c1_i32_100
  let v199 : BitVec 32 := Scalar.addi c0_i32_101 v198
  v199.toNat
def k0_dev2 (d0 : Dev nD) : Nat :=
  let c0_i32_104 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v75 : BitVec 32 := Scalar.muli c8_i32_33 v19
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_35 : BitVec 32 := 2#32
  let c0_i32_36 : BitVec 32 := 0#32
  let v78 : BitVec 1 := Scalar.cmpi .eq c2_i32_35 c0_i32_36
  let c1_i32_37 : BitVec 32 := 1#32
  let v79 : BitVec 32 := Scalar.select v78 c1_i32_37 c2_i32_35
  let v80 : BitVec 32 := Scalar.remsi v74 v79
  let c0_i32_39 : BitVec 32 := 0#32
  let v82 : BitVec 1 := Scalar.cmpi .slt v80 c0_i32_39
  let c0_i32_40 : BitVec 32 := 0#32
  let v83 : BitVec 1 := Scalar.cmpi .slt v79 c0_i32_40
  let v84 : BitVec 1 := Scalar.xori v82 v83
  let c0_i32_38 : BitVec 32 := 0#32
  let v81 : BitVec 1 := Scalar.cmpi .ne v80 c0_i32_38
  let v85 : BitVec 1 := Scalar.andi v84 v81
  let v86 : BitVec 32 := Scalar.addi v80 v79
  let v87 : BitVec 32 := Scalar.select v85 v86 v80
  let v88 : BitVec 32 := Scalar.xori v57 v87
  let v89 : BitVec 32 := Scalar.addi v77 v88
  let c1_i32_103 : BitVec 32 := 1#32
  let v200 : BitVec 32 := Scalar.muli v89 c1_i32_103
  let v201 : BitVec 32 := Scalar.addi c0_i32_104 v200
  v201.toNat
def k0_dev3 (d0 : Dev nD) : Nat :=
  let c0_i32_107 : BitVec 32 := 0#32
  let c8_i32_42 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_41 : BitVec 32 := 1#32
  let v90 : BitVec 32 := Scalar.xori v19 c1_i32_41
  let v91 : BitVec 32 := Scalar.muli c8_i32_42 v90
  let c2_i32_43 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v92 : BitVec 32 := Scalar.muli c2_i32_43 v46
  let v93 : BitVec 32 := Scalar.addi v91 v92
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_44 : BitVec 32 := 2#32
  let c0_i32_45 : BitVec 32 := 0#32
  let v94 : BitVec 1 := Scalar.cmpi .eq c2_i32_44 c0_i32_45
  let c1_i32_46 : BitVec 32 := 1#32
  let v95 : BitVec 32 := Scalar.select v94 c1_i32_46 c2_i32_44
  let v96 : BitVec 32 := Scalar.remsi v46 v95
  let c0_i32_48 : BitVec 32 := 0#32
  let v98 : BitVec 1 := Scalar.cmpi .slt v96 c0_i32_48
  let c0_i32_49 : BitVec 32 := 0#32
  let v99 : BitVec 1 := Scalar.cmpi .slt v95 c0_i32_49
  let v100 : BitVec 1 := Scalar.xori v98 v99
  let c0_i32_47 : BitVec 32 := 0#32
  let v97 : BitVec 1 := Scalar.cmpi .ne v96 c0_i32_47
  let v101 : BitVec 1 := Scalar.andi v100 v97
  let v102 : BitVec 32 := Scalar.addi v96 v95
  let v103 : BitVec 32 := Scalar.select v101 v102 v96
  let v104 : BitVec 32 := Scalar.xori v57 v103
  let v105 : BitVec 32 := Scalar.addi v93 v104
  let c1_i32_106 : BitVec 32 := 1#32
  let v202 : BitVec 32 := Scalar.muli v105 c1_i32_106
  let v203 : BitVec 32 := Scalar.addi c0_i32_107 v202
  v203.toNat
def k0_dev4 (d0 : Dev nD) : Nat :=
  let c0_i32_110 : BitVec 32 := 0#32
  let c8_i32_51 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v107 : BitVec 32 := Scalar.muli c8_i32_51 v19
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_50 : BitVec 32 := 2#32
  let v106 : BitVec 32 := Scalar.xori v46 c2_i32_50
  let v108 : BitVec 32 := Scalar.muli c2_i32_52 v106
  let v109 : BitVec 32 := Scalar.addi v107 v108
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v106 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let v120 : BitVec 32 := Scalar.xori v57 v119
  let v121 : BitVec 32 := Scalar.addi v109 v120
  let c1_i32_109 : BitVec 32 := 1#32
  let v204 : BitVec 32 := Scalar.muli v121 c1_i32_109
  let v205 : BitVec 32 := Scalar.addi c0_i32_110 v204
  v205.toNat
def k0_dev5 (d0 : Dev nD) : Nat :=
  let c0_i32_113 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_59 : BitVec 32 := 2#32
  let v122 : BitVec 32 := Scalar.xori v19 c2_i32_59
  let v123 : BitVec 32 := Scalar.muli c8_i32_60 v122
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v124 : BitVec 32 := Scalar.muli c2_i32_61 v46
  let v125 : BitVec 32 := Scalar.addi v123 v124
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_62 : BitVec 32 := 2#32
  let c0_i32_63 : BitVec 32 := 0#32
  let v126 : BitVec 1 := Scalar.cmpi .eq c2_i32_62 c0_i32_63
  let c1_i32_64 : BitVec 32 := 1#32
  let v127 : BitVec 32 := Scalar.select v126 c1_i32_64 c2_i32_62
  let v128 : BitVec 32 := Scalar.remsi v46 v127
  let c0_i32_66 : BitVec 32 := 0#32
  let v130 : BitVec 1 := Scalar.cmpi .slt v128 c0_i32_66
  let c0_i32_67 : BitVec 32 := 0#32
  let v131 : BitVec 1 := Scalar.cmpi .slt v127 c0_i32_67
  let v132 : BitVec 1 := Scalar.xori v130 v131
  let c0_i32_65 : BitVec 32 := 0#32
  let v129 : BitVec 1 := Scalar.cmpi .ne v128 c0_i32_65
  let v133 : BitVec 1 := Scalar.andi v132 v129
  let v134 : BitVec 32 := Scalar.addi v128 v127
  let v135 : BitVec 32 := Scalar.select v133 v134 v128
  let v136 : BitVec 32 := Scalar.xori v57 v135
  let v137 : BitVec 32 := Scalar.addi v125 v136
  let c1_i32_112 : BitVec 32 := 1#32
  let v206 : BitVec 32 := Scalar.muli v137 c1_i32_112
  let v207 : BitVec 32 := Scalar.addi c0_i32_113 v206
  v207.toNat
def k0_off1 (d0 : Dev nD) : Fin 2 → Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_149 : BitVec 32 := 0#32
  let v293 : BitVec 32 := Scalar.muli v2 c0_i32_149
  let c16_i32 : BitVec 32 := 16#32
  let c1_i32_68 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v295 : BitVec 32 := Scalar.muli c16_i32 v138
  let v296 : BitVec 32 := Scalar.addi v293 v295
  let c16_i32_151 : BitVec 32 := 16#32
  let v297 : BitVec 32 := Scalar.muli v296 c16_i32_151
  let v298 : BitVec 32 := Scalar.addi c0_i32_152 v297
  let c0_i32_161 : BitVec 32 := 0#32
  ![v298.toNat, 0]
def k0_dev6 (d0 : Dev nD) : Nat :=
  let c0_i32_158 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let c2_i32_26 : BitVec 32 := 2#32
  let c0_i32_27 : BitVec 32 := 0#32
  let v62 : BitVec 1 := Scalar.cmpi .eq c2_i32_26 c0_i32_27
  let c1_i32_28 : BitVec 32 := 1#32
  let v63 : BitVec 32 := Scalar.select v62 c1_i32_28 c2_i32_26
  let v64 : BitVec 32 := Scalar.remsi v46 v63
  let c0_i32_30 : BitVec 32 := 0#32
  let v66 : BitVec 1 := Scalar.cmpi .slt v64 c0_i32_30
  let c0_i32_31 : BitVec 32 := 0#32
  let v67 : BitVec 1 := Scalar.cmpi .slt v63 c0_i32_31
  let v68 : BitVec 1 := Scalar.xori v66 v67
  let c0_i32_29 : BitVec 32 := 0#32
  let v65 : BitVec 1 := Scalar.cmpi .ne v64 c0_i32_29
  let v69 : BitVec 1 := Scalar.andi v68 v65
  let v70 : BitVec 32 := Scalar.addi v64 v63
  let v71 : BitVec 32 := Scalar.select v69 v70 v64
  let v72 : BitVec 32 := Scalar.xori v58 v71
  let v73 : BitVec 32 := Scalar.addi v61 v72
  let c1_i32_157 : BitVec 32 := 1#32
  let v299 : BitVec 32 := Scalar.muli v73 c1_i32_157
  let v300 : BitVec 32 := Scalar.addi c0_i32_158 v299
  v300.toNat
def k0_off2 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_150 : BitVec 32 := 0#32
  let v294 : BitVec 32 := Scalar.muli v2 c0_i32_150
  let c16_i32_162 : BitVec 32 := 16#32
  let c1_i32_75 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v307 : BitVec 32 := Scalar.muli c16_i32_162 v149
  let v308 : BitVec 32 := Scalar.addi v294 v307
  let c16_i32_163 : BitVec 32 := 16#32
  let v309 : BitVec 32 := Scalar.muli v308 c16_i32_163
  let v310 : BitVec 32 := Scalar.addi c512_i32 v309
  let c0_i32_172 : BitVec 32 := 0#32
  ![v310.toNat, 0]
def k0_dev7 (d0 : Dev nD) : Nat :=
  let c0_i32_169 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v75 : BitVec 32 := Scalar.muli c8_i32_33 v19
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_35 : BitVec 32 := 2#32
  let c0_i32_36 : BitVec 32 := 0#32
  let v78 : BitVec 1 := Scalar.cmpi .eq c2_i32_35 c0_i32_36
  let c1_i32_37 : BitVec 32 := 1#32
  let v79 : BitVec 32 := Scalar.select v78 c1_i32_37 c2_i32_35
  let v80 : BitVec 32 := Scalar.remsi v74 v79
  let c0_i32_39 : BitVec 32 := 0#32
  let v82 : BitVec 1 := Scalar.cmpi .slt v80 c0_i32_39
  let c0_i32_40 : BitVec 32 := 0#32
  let v83 : BitVec 1 := Scalar.cmpi .slt v79 c0_i32_40
  let v84 : BitVec 1 := Scalar.xori v82 v83
  let c0_i32_38 : BitVec 32 := 0#32
  let v81 : BitVec 1 := Scalar.cmpi .ne v80 c0_i32_38
  let v85 : BitVec 1 := Scalar.andi v84 v81
  let v86 : BitVec 32 := Scalar.addi v80 v79
  let v87 : BitVec 32 := Scalar.select v85 v86 v80
  let v88 : BitVec 32 := Scalar.xori v57 v87
  let v89 : BitVec 32 := Scalar.addi v77 v88
  let c1_i32_168 : BitVec 32 := 1#32
  let v311 : BitVec 32 := Scalar.muli v89 c1_i32_168
  let v312 : BitVec 32 := Scalar.addi c0_i32_169 v311
  v312.toNat
def k0_off3 (d0 : Dev nD) : Fin 2 → Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_149 : BitVec 32 := 0#32
  let v293 : BitVec 32 := Scalar.muli v2 c0_i32_149
  let c16_i32_191 : BitVec 32 := 16#32
  let c1_i32_190 : BitVec 32 := 1#32
  let c1_i32_68 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v329 : BitVec 32 := Scalar.subi c1_i32_190 v138
  let v330 : BitVec 32 := Scalar.muli c16_i32_191 v329
  let v331 : BitVec 32 := Scalar.addi v293 v330
  let c16_i32_192 : BitVec 32 := 16#32
  let v332 : BitVec 32 := Scalar.muli v331 c16_i32_192
  let v333 : BitVec 32 := Scalar.addi c0_i32_193 v332
  let v334 : Index := Scalar.indexCast v333
  let c0_194 : Index := 0#32
  ![v334.toNat, 0]
def k0_off4 (d0 : Dev nD) : Fin 2 → Nat :=
  let c512_i32_218 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_150 : BitVec 32 := 0#32
  let v294 : BitVec 32 := Scalar.muli v2 c0_i32_150
  let c16_i32_216 : BitVec 32 := 16#32
  let c1_i32_215 : BitVec 32 := 1#32
  let c1_i32_75 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v352 : BitVec 32 := Scalar.subi c1_i32_215 v149
  let v353 : BitVec 32 := Scalar.muli c16_i32_216 v352
  let v354 : BitVec 32 := Scalar.addi v294 v353
  let c16_i32_217 : BitVec 32 := 16#32
  let v355 : BitVec 32 := Scalar.muli v354 c16_i32_217
  let v356 : BitVec 32 := Scalar.addi c512_i32_218 v355
  let v357 : Index := Scalar.indexCast v356
  let c0_219 : Index := 0#32
  ![v357.toNat, 0]
def k0_off5 (d0 : Dev nD) : Fin 2 → Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_149 : BitVec 32 := 0#32
  let v293 : BitVec 32 := Scalar.muli v2 c0_i32_149
  let c16_i32_191 : BitVec 32 := 16#32
  let c1_i32_190 : BitVec 32 := 1#32
  let c1_i32_68 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v329 : BitVec 32 := Scalar.subi c1_i32_190 v138
  let v330 : BitVec 32 := Scalar.muli c16_i32_191 v329
  let v331 : BitVec 32 := Scalar.addi v293 v330
  let c8_i32_222 : BitVec 32 := 8#32
  let c1_i32_75 : BitVec 32 := 1#32
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v365 : BitVec 32 := Scalar.muli c8_i32_222 v149
  let v366 : BitVec 32 := Scalar.addi v331 v365
  let c16_i32_223 : BitVec 32 := 16#32
  let v367 : BitVec 32 := Scalar.muli v366 c16_i32_223
  let v368 : BitVec 32 := Scalar.addi c0_i32_224 v367
  let c0_i32_232 : BitVec 32 := 0#32
  ![v368.toNat, 0]
def k0_dev8 (d0 : Dev nD) : Nat :=
  let c0_i32_230 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v75 : BitVec 32 := Scalar.muli c8_i32_33 v19
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_35 : BitVec 32 := 2#32
  let c0_i32_36 : BitVec 32 := 0#32
  let v78 : BitVec 1 := Scalar.cmpi .eq c2_i32_35 c0_i32_36
  let c1_i32_37 : BitVec 32 := 1#32
  let v79 : BitVec 32 := Scalar.select v78 c1_i32_37 c2_i32_35
  let v80 : BitVec 32 := Scalar.remsi v74 v79
  let c0_i32_39 : BitVec 32 := 0#32
  let v82 : BitVec 1 := Scalar.cmpi .slt v80 c0_i32_39
  let c0_i32_40 : BitVec 32 := 0#32
  let v83 : BitVec 1 := Scalar.cmpi .slt v79 c0_i32_40
  let v84 : BitVec 1 := Scalar.xori v82 v83
  let c0_i32_38 : BitVec 32 := 0#32
  let v81 : BitVec 1 := Scalar.cmpi .ne v80 c0_i32_38
  let v85 : BitVec 1 := Scalar.andi v84 v81
  let v86 : BitVec 32 := Scalar.addi v80 v79
  let v87 : BitVec 32 := Scalar.select v85 v86 v80
  let v88 : BitVec 32 := Scalar.xori v57 v87
  let v89 : BitVec 32 := Scalar.addi v77 v88
  let c1_i32_229 : BitVec 32 := 1#32
  let v369 : BitVec 32 := Scalar.muli v89 c1_i32_229
  let v370 : BitVec 32 := Scalar.addi c0_i32_230 v369
  v370.toNat
def k0_off6 (d0 : Dev nD) : Fin 2 → Nat :=
  let c512_i32_235 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_150 : BitVec 32 := 0#32
  let v294 : BitVec 32 := Scalar.muli v2 c0_i32_150
  let c16_i32_216 : BitVec 32 := 16#32
  let c1_i32_215 : BitVec 32 := 1#32
  let c1_i32_75 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v352 : BitVec 32 := Scalar.subi c1_i32_215 v149
  let v353 : BitVec 32 := Scalar.muli c16_i32_216 v352
  let v354 : BitVec 32 := Scalar.addi v294 v353
  let c8_i32_233 : BitVec 32 := 8#32
  let c1_i32_68 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v377 : BitVec 32 := Scalar.muli c8_i32_233 v138
  let v378 : BitVec 32 := Scalar.addi v354 v377
  let c16_i32_234 : BitVec 32 := 16#32
  let v379 : BitVec 32 := Scalar.muli v378 c16_i32_234
  let v380 : BitVec 32 := Scalar.addi c512_i32_235 v379
  let c0_i32_243 : BitVec 32 := 0#32
  ![v380.toNat, 0]
def k0_dev9 (d0 : Dev nD) : Nat :=
  let c0_i32_241 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let c2_i32_26 : BitVec 32 := 2#32
  let c0_i32_27 : BitVec 32 := 0#32
  let v62 : BitVec 1 := Scalar.cmpi .eq c2_i32_26 c0_i32_27
  let c1_i32_28 : BitVec 32 := 1#32
  let v63 : BitVec 32 := Scalar.select v62 c1_i32_28 c2_i32_26
  let v64 : BitVec 32 := Scalar.remsi v46 v63
  let c0_i32_30 : BitVec 32 := 0#32
  let v66 : BitVec 1 := Scalar.cmpi .slt v64 c0_i32_30
  let c0_i32_31 : BitVec 32 := 0#32
  let v67 : BitVec 1 := Scalar.cmpi .slt v63 c0_i32_31
  let v68 : BitVec 1 := Scalar.xori v66 v67
  let c0_i32_29 : BitVec 32 := 0#32
  let v65 : BitVec 1 := Scalar.cmpi .ne v64 c0_i32_29
  let v69 : BitVec 1 := Scalar.andi v68 v65
  let v70 : BitVec 32 := Scalar.addi v64 v63
  let v71 : BitVec 32 := Scalar.select v69 v70 v64
  let v72 : BitVec 32 := Scalar.xori v58 v71
  let v73 : BitVec 32 := Scalar.addi v61 v72
  let c1_i32_240 : BitVec 32 := 1#32
  let v381 : BitVec 32 := Scalar.muli v73 c1_i32_240
  let v382 : BitVec 32 := Scalar.addi c0_i32_241 v381
  v382.toNat
def k0_off7 (d0 : Dev nD) : Fin 2 → Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_149 : BitVec 32 := 0#32
  let v293 : BitVec 32 := Scalar.muli v2 c0_i32_149
  let c16_i32_191 : BitVec 32 := 16#32
  let c1_i32_190 : BitVec 32 := 1#32
  let c1_i32_68 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v329 : BitVec 32 := Scalar.subi c1_i32_190 v138
  let v330 : BitVec 32 := Scalar.muli c16_i32_191 v329
  let v331 : BitVec 32 := Scalar.addi v293 v330
  let c8_i32_262 : BitVec 32 := 8#32
  let c1_i32_261 : BitVec 32 := 1#32
  let c1_i32_75 : BitVec 32 := 1#32
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v399 : BitVec 32 := Scalar.subi c1_i32_261 v149
  let v400 : BitVec 32 := Scalar.muli c8_i32_262 v399
  let v401 : BitVec 32 := Scalar.addi v331 v400
  let c16_i32_263 : BitVec 32 := 16#32
  let v402 : BitVec 32 := Scalar.muli v401 c16_i32_263
  let v403 : BitVec 32 := Scalar.addi c0_i32_264 v402
  let v404 : Index := Scalar.indexCast v403
  let c0_265 : Index := 0#32
  ![v404.toNat, 0]
def k0_off8 (d0 : Dev nD) : Fin 2 → Nat :=
  let c512_i32_288 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_150 : BitVec 32 := 0#32
  let v294 : BitVec 32 := Scalar.muli v2 c0_i32_150
  let c16_i32_216 : BitVec 32 := 16#32
  let c1_i32_215 : BitVec 32 := 1#32
  let c1_i32_75 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v352 : BitVec 32 := Scalar.subi c1_i32_215 v149
  let v353 : BitVec 32 := Scalar.muli c16_i32_216 v352
  let v354 : BitVec 32 := Scalar.addi v294 v353
  let c8_i32_286 : BitVec 32 := 8#32
  let c1_i32_285 : BitVec 32 := 1#32
  let c1_i32_68 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v422 : BitVec 32 := Scalar.subi c1_i32_285 v138
  let v423 : BitVec 32 := Scalar.muli c8_i32_286 v422
  let v424 : BitVec 32 := Scalar.addi v354 v423
  let c16_i32_287 : BitVec 32 := 16#32
  let v425 : BitVec 32 := Scalar.muli v424 c16_i32_287
  let v426 : BitVec 32 := Scalar.addi c512_i32_288 v425
  let v427 : Index := Scalar.indexCast v426
  let c0_289 : Index := 0#32
  ![v427.toNat, 0]
def k0_off9 (d0 : Dev nD) : Fin 2 → Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_149 : BitVec 32 := 0#32
  let v293 : BitVec 32 := Scalar.muli v2 c0_i32_149
  let c16_i32_191 : BitVec 32 := 16#32
  let c1_i32_190 : BitVec 32 := 1#32
  let c1_i32_68 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v329 : BitVec 32 := Scalar.subi c1_i32_190 v138
  let v330 : BitVec 32 := Scalar.muli c16_i32_191 v329
  let v331 : BitVec 32 := Scalar.addi v293 v330
  let c8_i32_262 : BitVec 32 := 8#32
  let c1_i32_261 : BitVec 32 := 1#32
  let c1_i32_75 : BitVec 32 := 1#32
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v399 : BitVec 32 := Scalar.subi c1_i32_261 v149
  let v400 : BitVec 32 := Scalar.muli c8_i32_262 v399
  let v401 : BitVec 32 := Scalar.addi v331 v400
  let c4_i32_292 : BitVec 32 := 4#32
  let c1_i32_82 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_76 : BitVec 32 := 2#32
  let c0_i32_77 : BitVec 32 := 0#32
  let v150 : BitVec 1 := Scalar.cmpi .eq c2_i32_76 c0_i32_77
  let c1_i32_78 : BitVec 32 := 1#32
  let v151 : BitVec 32 := Scalar.select v150 c1_i32_78 c2_i32_76
  let v152 : BitVec 32 := Scalar.remsi v19 v151
  let c0_i32_80 : BitVec 32 := 0#32
  let v154 : BitVec 1 := Scalar.cmpi .slt v152 c0_i32_80
  let c0_i32_81 : BitVec 32 := 0#32
  let v155 : BitVec 1 := Scalar.cmpi .slt v151 c0_i32_81
  let v156 : BitVec 1 := Scalar.xori v154 v155
  let c0_i32_79 : BitVec 32 := 0#32
  let v153 : BitVec 1 := Scalar.cmpi .ne v152 c0_i32_79
  let v157 : BitVec 1 := Scalar.andi v156 v153
  let v158 : BitVec 32 := Scalar.addi v152 v151
  let v159 : BitVec 32 := Scalar.select v157 v158 v152
  let v160 : BitVec 32 := Scalar.subi c1_i32_82 v159
  let v435 : BitVec 32 := Scalar.muli c4_i32_292 v160
  let v436 : BitVec 32 := Scalar.addi v401 v435
  let c16_i32_293 : BitVec 32 := 16#32
  let v437 : BitVec 32 := Scalar.muli v436 c16_i32_293
  let v438 : BitVec 32 := Scalar.addi c0_i32_294 v437
  let c0_i32_302 : BitVec 32 := 0#32
  ![v438.toNat, 0]
def k0_dev10 (d0 : Dev nD) : Nat :=
  let c0_i32_300 : BitVec 32 := 0#32
  let c8_i32_42 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_41 : BitVec 32 := 1#32
  let v90 : BitVec 32 := Scalar.xori v19 c1_i32_41
  let v91 : BitVec 32 := Scalar.muli c8_i32_42 v90
  let c2_i32_43 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v92 : BitVec 32 := Scalar.muli c2_i32_43 v46
  let v93 : BitVec 32 := Scalar.addi v91 v92
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_44 : BitVec 32 := 2#32
  let c0_i32_45 : BitVec 32 := 0#32
  let v94 : BitVec 1 := Scalar.cmpi .eq c2_i32_44 c0_i32_45
  let c1_i32_46 : BitVec 32 := 1#32
  let v95 : BitVec 32 := Scalar.select v94 c1_i32_46 c2_i32_44
  let v96 : BitVec 32 := Scalar.remsi v46 v95
  let c0_i32_48 : BitVec 32 := 0#32
  let v98 : BitVec 1 := Scalar.cmpi .slt v96 c0_i32_48
  let c0_i32_49 : BitVec 32 := 0#32
  let v99 : BitVec 1 := Scalar.cmpi .slt v95 c0_i32_49
  let v100 : BitVec 1 := Scalar.xori v98 v99
  let c0_i32_47 : BitVec 32 := 0#32
  let v97 : BitVec 1 := Scalar.cmpi .ne v96 c0_i32_47
  let v101 : BitVec 1 := Scalar.andi v100 v97
  let v102 : BitVec 32 := Scalar.addi v96 v95
  let v103 : BitVec 32 := Scalar.select v101 v102 v96
  let v104 : BitVec 32 := Scalar.xori v57 v103
  let v105 : BitVec 32 := Scalar.addi v93 v104
  let c1_i32_299 : BitVec 32 := 1#32
  let v439 : BitVec 32 := Scalar.muli v105 c1_i32_299
  let v440 : BitVec 32 := Scalar.addi c0_i32_300 v439
  v440.toNat
def k0_off10 (d0 : Dev nD) : Fin 2 → Nat :=
  let c512_i32_305 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_150 : BitVec 32 := 0#32
  let v294 : BitVec 32 := Scalar.muli v2 c0_i32_150
  let c16_i32_216 : BitVec 32 := 16#32
  let c1_i32_215 : BitVec 32 := 1#32
  let c1_i32_75 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v352 : BitVec 32 := Scalar.subi c1_i32_215 v149
  let v353 : BitVec 32 := Scalar.muli c16_i32_216 v352
  let v354 : BitVec 32 := Scalar.addi v294 v353
  let c8_i32_286 : BitVec 32 := 8#32
  let c1_i32_285 : BitVec 32 := 1#32
  let c1_i32_68 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v422 : BitVec 32 := Scalar.subi c1_i32_285 v138
  let v423 : BitVec 32 := Scalar.muli c8_i32_286 v422
  let v424 : BitVec 32 := Scalar.addi v354 v423
  let c4_i32_303 : BitVec 32 := 4#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v447 : BitVec 32 := Scalar.muli c4_i32_303 v178
  let v448 : BitVec 32 := Scalar.addi v424 v447
  let c16_i32_304 : BitVec 32 := 16#32
  let v449 : BitVec 32 := Scalar.muli v448 c16_i32_304
  let v450 : BitVec 32 := Scalar.addi c512_i32_305 v449
  let c0_i32_313 : BitVec 32 := 0#32
  ![v450.toNat, 0]
def k0_dev11 (d0 : Dev nD) : Nat :=
  let c0_i32_311 : BitVec 32 := 0#32
  let c8_i32_51 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v107 : BitVec 32 := Scalar.muli c8_i32_51 v19
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_50 : BitVec 32 := 2#32
  let v106 : BitVec 32 := Scalar.xori v46 c2_i32_50
  let v108 : BitVec 32 := Scalar.muli c2_i32_52 v106
  let v109 : BitVec 32 := Scalar.addi v107 v108
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v106 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let v120 : BitVec 32 := Scalar.xori v57 v119
  let v121 : BitVec 32 := Scalar.addi v109 v120
  let c1_i32_310 : BitVec 32 := 1#32
  let v451 : BitVec 32 := Scalar.muli v121 c1_i32_310
  let v452 : BitVec 32 := Scalar.addi c0_i32_311 v451
  v452.toNat
def k0_off11 (d0 : Dev nD) : Fin 2 → Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_149 : BitVec 32 := 0#32
  let v293 : BitVec 32 := Scalar.muli v2 c0_i32_149
  let c16_i32_191 : BitVec 32 := 16#32
  let c1_i32_190 : BitVec 32 := 1#32
  let c1_i32_68 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v329 : BitVec 32 := Scalar.subi c1_i32_190 v138
  let v330 : BitVec 32 := Scalar.muli c16_i32_191 v329
  let v331 : BitVec 32 := Scalar.addi v293 v330
  let c8_i32_262 : BitVec 32 := 8#32
  let c1_i32_261 : BitVec 32 := 1#32
  let c1_i32_75 : BitVec 32 := 1#32
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v399 : BitVec 32 := Scalar.subi c1_i32_261 v149
  let v400 : BitVec 32 := Scalar.muli c8_i32_262 v399
  let v401 : BitVec 32 := Scalar.addi v331 v400
  let c4_i32_332 : BitVec 32 := 4#32
  let c1_i32_331 : BitVec 32 := 1#32
  let c1_i32_82 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_76 : BitVec 32 := 2#32
  let c0_i32_77 : BitVec 32 := 0#32
  let v150 : BitVec 1 := Scalar.cmpi .eq c2_i32_76 c0_i32_77
  let c1_i32_78 : BitVec 32 := 1#32
  let v151 : BitVec 32 := Scalar.select v150 c1_i32_78 c2_i32_76
  let v152 : BitVec 32 := Scalar.remsi v19 v151
  let c0_i32_80 : BitVec 32 := 0#32
  let v154 : BitVec 1 := Scalar.cmpi .slt v152 c0_i32_80
  let c0_i32_81 : BitVec 32 := 0#32
  let v155 : BitVec 1 := Scalar.cmpi .slt v151 c0_i32_81
  let v156 : BitVec 1 := Scalar.xori v154 v155
  let c0_i32_79 : BitVec 32 := 0#32
  let v153 : BitVec 1 := Scalar.cmpi .ne v152 c0_i32_79
  let v157 : BitVec 1 := Scalar.andi v156 v153
  let v158 : BitVec 32 := Scalar.addi v152 v151
  let v159 : BitVec 32 := Scalar.select v157 v158 v152
  let v160 : BitVec 32 := Scalar.subi c1_i32_82 v159
  let v469 : BitVec 32 := Scalar.subi c1_i32_331 v160
  let v470 : BitVec 32 := Scalar.muli c4_i32_332 v469
  let v471 : BitVec 32 := Scalar.addi v401 v470
  let c16_i32_333 : BitVec 32 := 16#32
  let v472 : BitVec 32 := Scalar.muli v471 c16_i32_333
  let v473 : BitVec 32 := Scalar.addi c0_i32_334 v472
  let v474 : Index := Scalar.indexCast v473
  let c0_335 : Index := 0#32
  ![v474.toNat, 0]
def k0_off12 (d0 : Dev nD) : Fin 2 → Nat :=
  let c512_i32_358 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_150 : BitVec 32 := 0#32
  let v294 : BitVec 32 := Scalar.muli v2 c0_i32_150
  let c16_i32_216 : BitVec 32 := 16#32
  let c1_i32_215 : BitVec 32 := 1#32
  let c1_i32_75 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v352 : BitVec 32 := Scalar.subi c1_i32_215 v149
  let v353 : BitVec 32 := Scalar.muli c16_i32_216 v352
  let v354 : BitVec 32 := Scalar.addi v294 v353
  let c8_i32_286 : BitVec 32 := 8#32
  let c1_i32_285 : BitVec 32 := 1#32
  let c1_i32_68 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v422 : BitVec 32 := Scalar.subi c1_i32_285 v138
  let v423 : BitVec 32 := Scalar.muli c8_i32_286 v422
  let v424 : BitVec 32 := Scalar.addi v354 v423
  let c4_i32_356 : BitVec 32 := 4#32
  let c1_i32_355 : BitVec 32 := 1#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v492 : BitVec 32 := Scalar.subi c1_i32_355 v178
  let v493 : BitVec 32 := Scalar.muli c4_i32_356 v492
  let v494 : BitVec 32 := Scalar.addi v424 v493
  let c16_i32_357 : BitVec 32 := 16#32
  let v495 : BitVec 32 := Scalar.muli v494 c16_i32_357
  let v496 : BitVec 32 := Scalar.addi c512_i32_358 v495
  let v497 : Index := Scalar.indexCast v496
  let c0_359 : Index := 0#32
  ![v497.toNat, 0]
def k0_off13 (d0 : Dev nD) : Fin 2 → Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_149 : BitVec 32 := 0#32
  let v293 : BitVec 32 := Scalar.muli v2 c0_i32_149
  let c16_i32_191 : BitVec 32 := 16#32
  let c1_i32_190 : BitVec 32 := 1#32
  let c1_i32_68 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v329 : BitVec 32 := Scalar.subi c1_i32_190 v138
  let v330 : BitVec 32 := Scalar.muli c16_i32_191 v329
  let v331 : BitVec 32 := Scalar.addi v293 v330
  let c8_i32_262 : BitVec 32 := 8#32
  let c1_i32_261 : BitVec 32 := 1#32
  let c1_i32_75 : BitVec 32 := 1#32
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v399 : BitVec 32 := Scalar.subi c1_i32_261 v149
  let v400 : BitVec 32 := Scalar.muli c8_i32_262 v399
  let v401 : BitVec 32 := Scalar.addi v331 v400
  let c4_i32_332 : BitVec 32 := 4#32
  let c1_i32_331 : BitVec 32 := 1#32
  let c1_i32_82 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_76 : BitVec 32 := 2#32
  let c0_i32_77 : BitVec 32 := 0#32
  let v150 : BitVec 1 := Scalar.cmpi .eq c2_i32_76 c0_i32_77
  let c1_i32_78 : BitVec 32 := 1#32
  let v151 : BitVec 32 := Scalar.select v150 c1_i32_78 c2_i32_76
  let v152 : BitVec 32 := Scalar.remsi v19 v151
  let c0_i32_80 : BitVec 32 := 0#32
  let v154 : BitVec 1 := Scalar.cmpi .slt v152 c0_i32_80
  let c0_i32_81 : BitVec 32 := 0#32
  let v155 : BitVec 1 := Scalar.cmpi .slt v151 c0_i32_81
  let v156 : BitVec 1 := Scalar.xori v154 v155
  let c0_i32_79 : BitVec 32 := 0#32
  let v153 : BitVec 1 := Scalar.cmpi .ne v152 c0_i32_79
  let v157 : BitVec 1 := Scalar.andi v156 v153
  let v158 : BitVec 32 := Scalar.addi v152 v151
  let v159 : BitVec 32 := Scalar.select v157 v158 v152
  let v160 : BitVec 32 := Scalar.subi c1_i32_82 v159
  let v469 : BitVec 32 := Scalar.subi c1_i32_331 v160
  let v470 : BitVec 32 := Scalar.muli c4_i32_332 v469
  let v471 : BitVec 32 := Scalar.addi v401 v470
  let c2_i32_362 : BitVec 32 := 2#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v505 : BitVec 32 := Scalar.muli c2_i32_362 v178
  let v506 : BitVec 32 := Scalar.addi v471 v505
  let c16_i32_363 : BitVec 32 := 16#32
  let v507 : BitVec 32 := Scalar.muli v506 c16_i32_363
  let v508 : BitVec 32 := Scalar.addi c0_i32_364 v507
  let c0_i32_372 : BitVec 32 := 0#32
  ![v508.toNat, 0]
def k0_dev12 (d0 : Dev nD) : Nat :=
  let c0_i32_370 : BitVec 32 := 0#32
  let c8_i32_51 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v107 : BitVec 32 := Scalar.muli c8_i32_51 v19
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_50 : BitVec 32 := 2#32
  let v106 : BitVec 32 := Scalar.xori v46 c2_i32_50
  let v108 : BitVec 32 := Scalar.muli c2_i32_52 v106
  let v109 : BitVec 32 := Scalar.addi v107 v108
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v106 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let v120 : BitVec 32 := Scalar.xori v57 v119
  let v121 : BitVec 32 := Scalar.addi v109 v120
  let c1_i32_369 : BitVec 32 := 1#32
  let v509 : BitVec 32 := Scalar.muli v121 c1_i32_369
  let v510 : BitVec 32 := Scalar.addi c0_i32_370 v509
  v510.toNat
def k0_off14 (d0 : Dev nD) : Fin 2 → Nat :=
  let c512_i32_375 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_150 : BitVec 32 := 0#32
  let v294 : BitVec 32 := Scalar.muli v2 c0_i32_150
  let c16_i32_216 : BitVec 32 := 16#32
  let c1_i32_215 : BitVec 32 := 1#32
  let c1_i32_75 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v352 : BitVec 32 := Scalar.subi c1_i32_215 v149
  let v353 : BitVec 32 := Scalar.muli c16_i32_216 v352
  let v354 : BitVec 32 := Scalar.addi v294 v353
  let c8_i32_286 : BitVec 32 := 8#32
  let c1_i32_285 : BitVec 32 := 1#32
  let c1_i32_68 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v422 : BitVec 32 := Scalar.subi c1_i32_285 v138
  let v423 : BitVec 32 := Scalar.muli c8_i32_286 v422
  let v424 : BitVec 32 := Scalar.addi v354 v423
  let c4_i32_356 : BitVec 32 := 4#32
  let c1_i32_355 : BitVec 32 := 1#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v492 : BitVec 32 := Scalar.subi c1_i32_355 v178
  let v493 : BitVec 32 := Scalar.muli c4_i32_356 v492
  let v494 : BitVec 32 := Scalar.addi v424 v493
  let c2_i32_373 : BitVec 32 := 2#32
  let c1_i32_98 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_92 : BitVec 32 := 0#32
  let v180 : BitVec 1 := Scalar.cmpi .sgt v19 c0_i32_92
  let v181 : BitVec 32 := Scalar.extui v180
  let c0_i32_93 : BitVec 32 := 0#32
  let v182 : BitVec 1 := Scalar.cmpi .slt v19 c0_i32_93
  let v183 : BitVec 32 := Scalar.extui v182
  let v184 : BitVec 32 := Scalar.subi v181 v183
  let c2_i32_91 : BitVec 32 := 2#32
  let c0_i32_94 : BitVec 32 := 0#32
  let v185 : BitVec 1 := Scalar.cmpi .sgt c2_i32_91 c0_i32_94
  let v186 : BitVec 32 := Scalar.extui v185
  let c0_i32_95 : BitVec 32 := 0#32
  let v187 : BitVec 1 := Scalar.cmpi .slt c2_i32_91 c0_i32_95
  let v188 : BitVec 32 := Scalar.extui v187
  let v189 : BitVec 32 := Scalar.subi v186 v188
  let v190 : BitVec 1 := Scalar.cmpi .ne v184 v189
  let v191 : BitVec 32 := Scalar.remsi v19 c2_i32_91
  let c0_i32_96 : BitVec 32 := 0#32
  let v192 : BitVec 1 := Scalar.cmpi .ne v191 c0_i32_96
  let v193 : BitVec 1 := Scalar.andi v190 v192
  let v179 : BitVec 32 := Scalar.divsi v19 c2_i32_91
  let c1_i32_97 : BitVec 32 := 1#32
  let v194 : BitVec 32 := Scalar.subi v179 c1_i32_97
  let v195 : BitVec 32 := Scalar.select v193 v194 v179
  let v196 : BitVec 32 := Scalar.subi c1_i32_98 v195
  let v517 : BitVec 32 := Scalar.muli c2_i32_373 v196
  let v518 : BitVec 32 := Scalar.addi v494 v517
  let c16_i32_374 : BitVec 32 := 16#32
  let v519 : BitVec 32 := Scalar.muli v518 c16_i32_374
  let v520 : BitVec 32 := Scalar.addi c512_i32_375 v519
  let c0_i32_383 : BitVec 32 := 0#32
  ![v520.toNat, 0]
def k0_dev13 (d0 : Dev nD) : Nat :=
  let c0_i32_381 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_59 : BitVec 32 := 2#32
  let v122 : BitVec 32 := Scalar.xori v19 c2_i32_59
  let v123 : BitVec 32 := Scalar.muli c8_i32_60 v122
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v124 : BitVec 32 := Scalar.muli c2_i32_61 v46
  let v125 : BitVec 32 := Scalar.addi v123 v124
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_62 : BitVec 32 := 2#32
  let c0_i32_63 : BitVec 32 := 0#32
  let v126 : BitVec 1 := Scalar.cmpi .eq c2_i32_62 c0_i32_63
  let c1_i32_64 : BitVec 32 := 1#32
  let v127 : BitVec 32 := Scalar.select v126 c1_i32_64 c2_i32_62
  let v128 : BitVec 32 := Scalar.remsi v46 v127
  let c0_i32_66 : BitVec 32 := 0#32
  let v130 : BitVec 1 := Scalar.cmpi .slt v128 c0_i32_66
  let c0_i32_67 : BitVec 32 := 0#32
  let v131 : BitVec 1 := Scalar.cmpi .slt v127 c0_i32_67
  let v132 : BitVec 1 := Scalar.xori v130 v131
  let c0_i32_65 : BitVec 32 := 0#32
  let v129 : BitVec 1 := Scalar.cmpi .ne v128 c0_i32_65
  let v133 : BitVec 1 := Scalar.andi v132 v129
  let v134 : BitVec 32 := Scalar.addi v128 v127
  let v135 : BitVec 32 := Scalar.select v133 v134 v128
  let v136 : BitVec 32 := Scalar.xori v57 v135
  let v137 : BitVec 32 := Scalar.addi v125 v136
  let c1_i32_380 : BitVec 32 := 1#32
  let v521 : BitVec 32 := Scalar.muli v137 c1_i32_380
  let v522 : BitVec 32 := Scalar.addi c0_i32_381 v521
  v522.toNat
def k0_off15 (d0 : Dev nD) : Fin 2 → Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_149 : BitVec 32 := 0#32
  let v293 : BitVec 32 := Scalar.muli v2 c0_i32_149
  let c16_i32_191 : BitVec 32 := 16#32
  let c1_i32_190 : BitVec 32 := 1#32
  let c1_i32_68 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v329 : BitVec 32 := Scalar.subi c1_i32_190 v138
  let v330 : BitVec 32 := Scalar.muli c16_i32_191 v329
  let v331 : BitVec 32 := Scalar.addi v293 v330
  let c8_i32_262 : BitVec 32 := 8#32
  let c1_i32_261 : BitVec 32 := 1#32
  let c1_i32_75 : BitVec 32 := 1#32
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v399 : BitVec 32 := Scalar.subi c1_i32_261 v149
  let v400 : BitVec 32 := Scalar.muli c8_i32_262 v399
  let v401 : BitVec 32 := Scalar.addi v331 v400
  let c4_i32_332 : BitVec 32 := 4#32
  let c1_i32_331 : BitVec 32 := 1#32
  let c1_i32_82 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_76 : BitVec 32 := 2#32
  let c0_i32_77 : BitVec 32 := 0#32
  let v150 : BitVec 1 := Scalar.cmpi .eq c2_i32_76 c0_i32_77
  let c1_i32_78 : BitVec 32 := 1#32
  let v151 : BitVec 32 := Scalar.select v150 c1_i32_78 c2_i32_76
  let v152 : BitVec 32 := Scalar.remsi v19 v151
  let c0_i32_80 : BitVec 32 := 0#32
  let v154 : BitVec 1 := Scalar.cmpi .slt v152 c0_i32_80
  let c0_i32_81 : BitVec 32 := 0#32
  let v155 : BitVec 1 := Scalar.cmpi .slt v151 c0_i32_81
  let v156 : BitVec 1 := Scalar.xori v154 v155
  let c0_i32_79 : BitVec 32 := 0#32
  let v153 : BitVec 1 := Scalar.cmpi .ne v152 c0_i32_79
  let v157 : BitVec 1 := Scalar.andi v156 v153
  let v158 : BitVec 32 := Scalar.addi v152 v151
  let v159 : BitVec 32 := Scalar.select v157 v158 v152
  let v160 : BitVec 32 := Scalar.subi c1_i32_82 v159
  let v469 : BitVec 32 := Scalar.subi c1_i32_331 v160
  let v470 : BitVec 32 := Scalar.muli c4_i32_332 v469
  let v471 : BitVec 32 := Scalar.addi v401 v470
  let c2_i32_402 : BitVec 32 := 2#32
  let c1_i32_401 : BitVec 32 := 1#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v539 : BitVec 32 := Scalar.subi c1_i32_401 v178
  let v540 : BitVec 32 := Scalar.muli c2_i32_402 v539
  let v541 : BitVec 32 := Scalar.addi v471 v540
  let c16_i32_403 : BitVec 32 := 16#32
  let v542 : BitVec 32 := Scalar.muli v541 c16_i32_403
  let v543 : BitVec 32 := Scalar.addi c0_i32_404 v542
  let v544 : Index := Scalar.indexCast v543
  let c0_405 : Index := 0#32
  ![v544.toNat, 0]
def k0_off16 (d0 : Dev nD) : Fin 2 → Nat :=
  let c512_i32_428 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_150 : BitVec 32 := 0#32
  let v294 : BitVec 32 := Scalar.muli v2 c0_i32_150
  let c16_i32_216 : BitVec 32 := 16#32
  let c1_i32_215 : BitVec 32 := 1#32
  let c1_i32_75 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v352 : BitVec 32 := Scalar.subi c1_i32_215 v149
  let v353 : BitVec 32 := Scalar.muli c16_i32_216 v352
  let v354 : BitVec 32 := Scalar.addi v294 v353
  let c8_i32_286 : BitVec 32 := 8#32
  let c1_i32_285 : BitVec 32 := 1#32
  let c1_i32_68 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v422 : BitVec 32 := Scalar.subi c1_i32_285 v138
  let v423 : BitVec 32 := Scalar.muli c8_i32_286 v422
  let v424 : BitVec 32 := Scalar.addi v354 v423
  let c4_i32_356 : BitVec 32 := 4#32
  let c1_i32_355 : BitVec 32 := 1#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v492 : BitVec 32 := Scalar.subi c1_i32_355 v178
  let v493 : BitVec 32 := Scalar.muli c4_i32_356 v492
  let v494 : BitVec 32 := Scalar.addi v424 v493
  let c2_i32_426 : BitVec 32 := 2#32
  let c1_i32_425 : BitVec 32 := 1#32
  let c1_i32_98 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_92 : BitVec 32 := 0#32
  let v180 : BitVec 1 := Scalar.cmpi .sgt v19 c0_i32_92
  let v181 : BitVec 32 := Scalar.extui v180
  let c0_i32_93 : BitVec 32 := 0#32
  let v182 : BitVec 1 := Scalar.cmpi .slt v19 c0_i32_93
  let v183 : BitVec 32 := Scalar.extui v182
  let v184 : BitVec 32 := Scalar.subi v181 v183
  let c2_i32_91 : BitVec 32 := 2#32
  let c0_i32_94 : BitVec 32 := 0#32
  let v185 : BitVec 1 := Scalar.cmpi .sgt c2_i32_91 c0_i32_94
  let v186 : BitVec 32 := Scalar.extui v185
  let c0_i32_95 : BitVec 32 := 0#32
  let v187 : BitVec 1 := Scalar.cmpi .slt c2_i32_91 c0_i32_95
  let v188 : BitVec 32 := Scalar.extui v187
  let v189 : BitVec 32 := Scalar.subi v186 v188
  let v190 : BitVec 1 := Scalar.cmpi .ne v184 v189
  let v191 : BitVec 32 := Scalar.remsi v19 c2_i32_91
  let c0_i32_96 : BitVec 32 := 0#32
  let v192 : BitVec 1 := Scalar.cmpi .ne v191 c0_i32_96
  let v193 : BitVec 1 := Scalar.andi v190 v192
  let v179 : BitVec 32 := Scalar.divsi v19 c2_i32_91
  let c1_i32_97 : BitVec 32 := 1#32
  let v194 : BitVec 32 := Scalar.subi v179 c1_i32_97
  let v195 : BitVec 32 := Scalar.select v193 v194 v179
  let v196 : BitVec 32 := Scalar.subi c1_i32_98 v195
  let v562 : BitVec 32 := Scalar.subi c1_i32_425 v196
  let v563 : BitVec 32 := Scalar.muli c2_i32_426 v562
  let v564 : BitVec 32 := Scalar.addi v494 v563
  let c16_i32_427 : BitVec 32 := 16#32
  let v565 : BitVec 32 := Scalar.muli v564 c16_i32_427
  let v566 : BitVec 32 := Scalar.addi c512_i32_428 v565
  let v567 : Index := Scalar.indexCast v566
  let c0_429 : Index := 0#32
  ![v567.toNat, 0]
def k0_off17 (d0 : Dev nD) : Fin 2 → Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_149 : BitVec 32 := 0#32
  let v293 : BitVec 32 := Scalar.muli v2 c0_i32_149
  let c16_i32_191 : BitVec 32 := 16#32
  let c1_i32_190 : BitVec 32 := 1#32
  let c1_i32_68 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v329 : BitVec 32 := Scalar.subi c1_i32_190 v138
  let v330 : BitVec 32 := Scalar.muli c16_i32_191 v329
  let v331 : BitVec 32 := Scalar.addi v293 v330
  let c8_i32_262 : BitVec 32 := 8#32
  let c1_i32_261 : BitVec 32 := 1#32
  let c1_i32_75 : BitVec 32 := 1#32
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v399 : BitVec 32 := Scalar.subi c1_i32_261 v149
  let v400 : BitVec 32 := Scalar.muli c8_i32_262 v399
  let v401 : BitVec 32 := Scalar.addi v331 v400
  let c4_i32_332 : BitVec 32 := 4#32
  let c1_i32_331 : BitVec 32 := 1#32
  let c1_i32_82 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_76 : BitVec 32 := 2#32
  let c0_i32_77 : BitVec 32 := 0#32
  let v150 : BitVec 1 := Scalar.cmpi .eq c2_i32_76 c0_i32_77
  let c1_i32_78 : BitVec 32 := 1#32
  let v151 : BitVec 32 := Scalar.select v150 c1_i32_78 c2_i32_76
  let v152 : BitVec 32 := Scalar.remsi v19 v151
  let c0_i32_80 : BitVec 32 := 0#32
  let v154 : BitVec 1 := Scalar.cmpi .slt v152 c0_i32_80
  let c0_i32_81 : BitVec 32 := 0#32
  let v155 : BitVec 1 := Scalar.cmpi .slt v151 c0_i32_81
  let v156 : BitVec 1 := Scalar.xori v154 v155
  let c0_i32_79 : BitVec 32 := 0#32
  let v153 : BitVec 1 := Scalar.cmpi .ne v152 c0_i32_79
  let v157 : BitVec 1 := Scalar.andi v156 v153
  let v158 : BitVec 32 := Scalar.addi v152 v151
  let v159 : BitVec 32 := Scalar.select v157 v158 v152
  let v160 : BitVec 32 := Scalar.subi c1_i32_82 v159
  let v469 : BitVec 32 := Scalar.subi c1_i32_331 v160
  let v470 : BitVec 32 := Scalar.muli c4_i32_332 v469
  let v471 : BitVec 32 := Scalar.addi v401 v470
  let c2_i32_402 : BitVec 32 := 2#32
  let c1_i32_401 : BitVec 32 := 1#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v539 : BitVec 32 := Scalar.subi c1_i32_401 v178
  let v540 : BitVec 32 := Scalar.muli c2_i32_402 v539
  let v541 : BitVec 32 := Scalar.addi v471 v540
  let c1_i32_432 : BitVec 32 := 1#32
  let c1_i32_98 : BitVec 32 := 1#32
  let c0_i32_92 : BitVec 32 := 0#32
  let v180 : BitVec 1 := Scalar.cmpi .sgt v19 c0_i32_92
  let v181 : BitVec 32 := Scalar.extui v180
  let c0_i32_93 : BitVec 32 := 0#32
  let v182 : BitVec 1 := Scalar.cmpi .slt v19 c0_i32_93
  let v183 : BitVec 32 := Scalar.extui v182
  let v184 : BitVec 32 := Scalar.subi v181 v183
  let c2_i32_91 : BitVec 32 := 2#32
  let c0_i32_94 : BitVec 32 := 0#32
  let v185 : BitVec 1 := Scalar.cmpi .sgt c2_i32_91 c0_i32_94
  let v186 : BitVec 32 := Scalar.extui v185
  let c0_i32_95 : BitVec 32 := 0#32
  let v187 : BitVec 1 := Scalar.cmpi .slt c2_i32_91 c0_i32_95
  let v188 : BitVec 32 := Scalar.extui v187
  let v189 : BitVec 32 := Scalar.subi v186 v188
  let v190 : BitVec 1 := Scalar.cmpi .ne v184 v189
  let v191 : BitVec 32 := Scalar.remsi v19 c2_i32_91
  let c0_i32_96 : BitVec 32 := 0#32
  let v192 : BitVec 1 := Scalar.cmpi .ne v191 c0_i32_96
  let v193 : BitVec 1 := Scalar.andi v190 v192
  let v179 : BitVec 32 := Scalar.divsi v19 c2_i32_91
  let c1_i32_97 : BitVec 32 := 1#32
  let v194 : BitVec 32 := Scalar.subi v179 c1_i32_97
  let v195 : BitVec 32 := Scalar.select v193 v194 v179
  let v196 : BitVec 32 := Scalar.subi c1_i32_98 v195
  let v575 : BitVec 32 := Scalar.muli c1_i32_432 v196
  let v576 : BitVec 32 := Scalar.addi v541 v575
  let c16_i32_433 : BitVec 32 := 16#32
  let v577 : BitVec 32 := Scalar.muli v576 c16_i32_433
  let v578 : BitVec 32 := Scalar.addi c0_i32_434 v577
  let c0_i32_442 : BitVec 32 := 0#32
  ![v578.toNat, 0]
def k0_dev14 (d0 : Dev nD) : Nat :=
  let c0_i32_440 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_59 : BitVec 32 := 2#32
  let v122 : BitVec 32 := Scalar.xori v19 c2_i32_59
  let v123 : BitVec 32 := Scalar.muli c8_i32_60 v122
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v124 : BitVec 32 := Scalar.muli c2_i32_61 v46
  let v125 : BitVec 32 := Scalar.addi v123 v124
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_62 : BitVec 32 := 2#32
  let c0_i32_63 : BitVec 32 := 0#32
  let v126 : BitVec 1 := Scalar.cmpi .eq c2_i32_62 c0_i32_63
  let c1_i32_64 : BitVec 32 := 1#32
  let v127 : BitVec 32 := Scalar.select v126 c1_i32_64 c2_i32_62
  let v128 : BitVec 32 := Scalar.remsi v46 v127
  let c0_i32_66 : BitVec 32 := 0#32
  let v130 : BitVec 1 := Scalar.cmpi .slt v128 c0_i32_66
  let c0_i32_67 : BitVec 32 := 0#32
  let v131 : BitVec 1 := Scalar.cmpi .slt v127 c0_i32_67
  let v132 : BitVec 1 := Scalar.xori v130 v131
  let c0_i32_65 : BitVec 32 := 0#32
  let v129 : BitVec 1 := Scalar.cmpi .ne v128 c0_i32_65
  let v133 : BitVec 1 := Scalar.andi v132 v129
  let v134 : BitVec 32 := Scalar.addi v128 v127
  let v135 : BitVec 32 := Scalar.select v133 v134 v128
  let v136 : BitVec 32 := Scalar.xori v57 v135
  let v137 : BitVec 32 := Scalar.addi v125 v136
  let c1_i32_439 : BitVec 32 := 1#32
  let v579 : BitVec 32 := Scalar.muli v137 c1_i32_439
  let v580 : BitVec 32 := Scalar.addi c0_i32_440 v579
  v580.toNat
def k0_off18 (d0 : Dev nD) : Fin 2 → Nat :=
  let c512_i32_445 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_150 : BitVec 32 := 0#32
  let v294 : BitVec 32 := Scalar.muli v2 c0_i32_150
  let c16_i32_216 : BitVec 32 := 16#32
  let c1_i32_215 : BitVec 32 := 1#32
  let c1_i32_75 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v352 : BitVec 32 := Scalar.subi c1_i32_215 v149
  let v353 : BitVec 32 := Scalar.muli c16_i32_216 v352
  let v354 : BitVec 32 := Scalar.addi v294 v353
  let c8_i32_286 : BitVec 32 := 8#32
  let c1_i32_285 : BitVec 32 := 1#32
  let c1_i32_68 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v422 : BitVec 32 := Scalar.subi c1_i32_285 v138
  let v423 : BitVec 32 := Scalar.muli c8_i32_286 v422
  let v424 : BitVec 32 := Scalar.addi v354 v423
  let c4_i32_356 : BitVec 32 := 4#32
  let c1_i32_355 : BitVec 32 := 1#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v492 : BitVec 32 := Scalar.subi c1_i32_355 v178
  let v493 : BitVec 32 := Scalar.muli c4_i32_356 v492
  let v494 : BitVec 32 := Scalar.addi v424 v493
  let c2_i32_426 : BitVec 32 := 2#32
  let c1_i32_425 : BitVec 32 := 1#32
  let c1_i32_98 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_92 : BitVec 32 := 0#32
  let v180 : BitVec 1 := Scalar.cmpi .sgt v19 c0_i32_92
  let v181 : BitVec 32 := Scalar.extui v180
  let c0_i32_93 : BitVec 32 := 0#32
  let v182 : BitVec 1 := Scalar.cmpi .slt v19 c0_i32_93
  let v183 : BitVec 32 := Scalar.extui v182
  let v184 : BitVec 32 := Scalar.subi v181 v183
  let c2_i32_91 : BitVec 32 := 2#32
  let c0_i32_94 : BitVec 32 := 0#32
  let v185 : BitVec 1 := Scalar.cmpi .sgt c2_i32_91 c0_i32_94
  let v186 : BitVec 32 := Scalar.extui v185
  let c0_i32_95 : BitVec 32 := 0#32
  let v187 : BitVec 1 := Scalar.cmpi .slt c2_i32_91 c0_i32_95
  let v188 : BitVec 32 := Scalar.extui v187
  let v189 : BitVec 32 := Scalar.subi v186 v188
  let v190 : BitVec 1 := Scalar.cmpi .ne v184 v189
  let v191 : BitVec 32 := Scalar.remsi v19 c2_i32_91
  let c0_i32_96 : BitVec 32 := 0#32
  let v192 : BitVec 1 := Scalar.cmpi .ne v191 c0_i32_96
  let v193 : BitVec 1 := Scalar.andi v190 v192
  let v179 : BitVec 32 := Scalar.divsi v19 c2_i32_91
  let c1_i32_97 : BitVec 32 := 1#32
  let v194 : BitVec 32 := Scalar.subi v179 c1_i32_97
  let v195 : BitVec 32 := Scalar.select v193 v194 v179
  let v196 : BitVec 32 := Scalar.subi c1_i32_98 v195
  let v562 : BitVec 32 := Scalar.subi c1_i32_425 v196
  let v563 : BitVec 32 := Scalar.muli c2_i32_426 v562
  let v564 : BitVec 32 := Scalar.addi v494 v563
  let c1_i32_443 : BitVec 32 := 1#32
  let c1_i32_82 : BitVec 32 := 1#32
  let c2_i32_76 : BitVec 32 := 2#32
  let c0_i32_77 : BitVec 32 := 0#32
  let v150 : BitVec 1 := Scalar.cmpi .eq c2_i32_76 c0_i32_77
  let c1_i32_78 : BitVec 32 := 1#32
  let v151 : BitVec 32 := Scalar.select v150 c1_i32_78 c2_i32_76
  let v152 : BitVec 32 := Scalar.remsi v19 v151
  let c0_i32_80 : BitVec 32 := 0#32
  let v154 : BitVec 1 := Scalar.cmpi .slt v152 c0_i32_80
  let c0_i32_81 : BitVec 32 := 0#32
  let v155 : BitVec 1 := Scalar.cmpi .slt v151 c0_i32_81
  let v156 : BitVec 1 := Scalar.xori v154 v155
  let c0_i32_79 : BitVec 32 := 0#32
  let v153 : BitVec 1 := Scalar.cmpi .ne v152 c0_i32_79
  let v157 : BitVec 1 := Scalar.andi v156 v153
  let v158 : BitVec 32 := Scalar.addi v152 v151
  let v159 : BitVec 32 := Scalar.select v157 v158 v152
  let v160 : BitVec 32 := Scalar.subi c1_i32_82 v159
  let v587 : BitVec 32 := Scalar.muli c1_i32_443 v160
  let v588 : BitVec 32 := Scalar.addi v564 v587
  let c16_i32_444 : BitVec 32 := 16#32
  let v589 : BitVec 32 := Scalar.muli v588 c16_i32_444
  let v590 : BitVec 32 := Scalar.addi c512_i32_445 v589
  let c0_i32_453 : BitVec 32 := 0#32
  ![v590.toNat, 0]
def k0_dev15 (d0 : Dev nD) : Nat :=
  let c0_i32_451 : BitVec 32 := 0#32
  let c8_i32_42 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_41 : BitVec 32 := 1#32
  let v90 : BitVec 32 := Scalar.xori v19 c1_i32_41
  let v91 : BitVec 32 := Scalar.muli c8_i32_42 v90
  let c2_i32_43 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v92 : BitVec 32 := Scalar.muli c2_i32_43 v46
  let v93 : BitVec 32 := Scalar.addi v91 v92
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_44 : BitVec 32 := 2#32
  let c0_i32_45 : BitVec 32 := 0#32
  let v94 : BitVec 1 := Scalar.cmpi .eq c2_i32_44 c0_i32_45
  let c1_i32_46 : BitVec 32 := 1#32
  let v95 : BitVec 32 := Scalar.select v94 c1_i32_46 c2_i32_44
  let v96 : BitVec 32 := Scalar.remsi v46 v95
  let c0_i32_48 : BitVec 32 := 0#32
  let v98 : BitVec 1 := Scalar.cmpi .slt v96 c0_i32_48
  let c0_i32_49 : BitVec 32 := 0#32
  let v99 : BitVec 1 := Scalar.cmpi .slt v95 c0_i32_49
  let v100 : BitVec 1 := Scalar.xori v98 v99
  let c0_i32_47 : BitVec 32 := 0#32
  let v97 : BitVec 1 := Scalar.cmpi .ne v96 c0_i32_47
  let v101 : BitVec 1 := Scalar.andi v100 v97
  let v102 : BitVec 32 := Scalar.addi v96 v95
  let v103 : BitVec 32 := Scalar.select v101 v102 v96
  let v104 : BitVec 32 := Scalar.xori v57 v103
  let v105 : BitVec 32 := Scalar.addi v93 v104
  let c1_i32_450 : BitVec 32 := 1#32
  let v591 : BitVec 32 := Scalar.muli v105 c1_i32_450
  let v592 : BitVec 32 := Scalar.addi c0_i32_451 v591
  v592.toNat
def k0_off19 (d0 : Dev nD) : Fin 2 → Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_149 : BitVec 32 := 0#32
  let v293 : BitVec 32 := Scalar.muli v2 c0_i32_149
  let c16_i32_191 : BitVec 32 := 16#32
  let c1_i32_190 : BitVec 32 := 1#32
  let c1_i32_68 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v329 : BitVec 32 := Scalar.subi c1_i32_190 v138
  let v330 : BitVec 32 := Scalar.muli c16_i32_191 v329
  let v331 : BitVec 32 := Scalar.addi v293 v330
  let c8_i32_262 : BitVec 32 := 8#32
  let c1_i32_261 : BitVec 32 := 1#32
  let c1_i32_75 : BitVec 32 := 1#32
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v399 : BitVec 32 := Scalar.subi c1_i32_261 v149
  let v400 : BitVec 32 := Scalar.muli c8_i32_262 v399
  let v401 : BitVec 32 := Scalar.addi v331 v400
  let c4_i32_332 : BitVec 32 := 4#32
  let c1_i32_331 : BitVec 32 := 1#32
  let c1_i32_82 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_76 : BitVec 32 := 2#32
  let c0_i32_77 : BitVec 32 := 0#32
  let v150 : BitVec 1 := Scalar.cmpi .eq c2_i32_76 c0_i32_77
  let c1_i32_78 : BitVec 32 := 1#32
  let v151 : BitVec 32 := Scalar.select v150 c1_i32_78 c2_i32_76
  let v152 : BitVec 32 := Scalar.remsi v19 v151
  let c0_i32_80 : BitVec 32 := 0#32
  let v154 : BitVec 1 := Scalar.cmpi .slt v152 c0_i32_80
  let c0_i32_81 : BitVec 32 := 0#32
  let v155 : BitVec 1 := Scalar.cmpi .slt v151 c0_i32_81
  let v156 : BitVec 1 := Scalar.xori v154 v155
  let c0_i32_79 : BitVec 32 := 0#32
  let v153 : BitVec 1 := Scalar.cmpi .ne v152 c0_i32_79
  let v157 : BitVec 1 := Scalar.andi v156 v153
  let v158 : BitVec 32 := Scalar.addi v152 v151
  let v159 : BitVec 32 := Scalar.select v157 v158 v152
  let v160 : BitVec 32 := Scalar.subi c1_i32_82 v159
  let v469 : BitVec 32 := Scalar.subi c1_i32_331 v160
  let v470 : BitVec 32 := Scalar.muli c4_i32_332 v469
  let v471 : BitVec 32 := Scalar.addi v401 v470
  let c2_i32_402 : BitVec 32 := 2#32
  let c1_i32_401 : BitVec 32 := 1#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v539 : BitVec 32 := Scalar.subi c1_i32_401 v178
  let v540 : BitVec 32 := Scalar.muli c2_i32_402 v539
  let v541 : BitVec 32 := Scalar.addi v471 v540
  let c1_i32_472 : BitVec 32 := 1#32
  let c1_i32_471 : BitVec 32 := 1#32
  let c1_i32_98 : BitVec 32 := 1#32
  let c0_i32_92 : BitVec 32 := 0#32
  let v180 : BitVec 1 := Scalar.cmpi .sgt v19 c0_i32_92
  let v181 : BitVec 32 := Scalar.extui v180
  let c0_i32_93 : BitVec 32 := 0#32
  let v182 : BitVec 1 := Scalar.cmpi .slt v19 c0_i32_93
  let v183 : BitVec 32 := Scalar.extui v182
  let v184 : BitVec 32 := Scalar.subi v181 v183
  let c2_i32_91 : BitVec 32 := 2#32
  let c0_i32_94 : BitVec 32 := 0#32
  let v185 : BitVec 1 := Scalar.cmpi .sgt c2_i32_91 c0_i32_94
  let v186 : BitVec 32 := Scalar.extui v185
  let c0_i32_95 : BitVec 32 := 0#32
  let v187 : BitVec 1 := Scalar.cmpi .slt c2_i32_91 c0_i32_95
  let v188 : BitVec 32 := Scalar.extui v187
  let v189 : BitVec 32 := Scalar.subi v186 v188
  let v190 : BitVec 1 := Scalar.cmpi .ne v184 v189
  let v191 : BitVec 32 := Scalar.remsi v19 c2_i32_91
  let c0_i32_96 : BitVec 32 := 0#32
  let v192 : BitVec 1 := Scalar.cmpi .ne v191 c0_i32_96
  let v193 : BitVec 1 := Scalar.andi v190 v192
  let v179 : BitVec 32 := Scalar.divsi v19 c2_i32_91
  let c1_i32_97 : BitVec 32 := 1#32
  let v194 : BitVec 32 := Scalar.subi v179 c1_i32_97
  let v195 : BitVec 32 := Scalar.select v193 v194 v179
  let v196 : BitVec 32 := Scalar.subi c1_i32_98 v195
  let v609 : BitVec 32 := Scalar.subi c1_i32_471 v196
  let v610 : BitVec 32 := Scalar.muli c1_i32_472 v609
  let v611 : BitVec 32 := Scalar.addi v541 v610
  let c16_i32_473 : BitVec 32 := 16#32
  let v612 : BitVec 32 := Scalar.muli v611 c16_i32_473
  let v613 : BitVec 32 := Scalar.addi c0_i32_474 v612
  let v614 : Index := Scalar.indexCast v613
  let c0_475 : Index := 0#32
  ![v614.toNat, 0]
def k0_off20 (d0 : Dev nD) : Fin 2 → Nat :=
  let c512_i32_498 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_150 : BitVec 32 := 0#32
  let v294 : BitVec 32 := Scalar.muli v2 c0_i32_150
  let c16_i32_216 : BitVec 32 := 16#32
  let c1_i32_215 : BitVec 32 := 1#32
  let c1_i32_75 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v352 : BitVec 32 := Scalar.subi c1_i32_215 v149
  let v353 : BitVec 32 := Scalar.muli c16_i32_216 v352
  let v354 : BitVec 32 := Scalar.addi v294 v353
  let c8_i32_286 : BitVec 32 := 8#32
  let c1_i32_285 : BitVec 32 := 1#32
  let c1_i32_68 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v422 : BitVec 32 := Scalar.subi c1_i32_285 v138
  let v423 : BitVec 32 := Scalar.muli c8_i32_286 v422
  let v424 : BitVec 32 := Scalar.addi v354 v423
  let c4_i32_356 : BitVec 32 := 4#32
  let c1_i32_355 : BitVec 32 := 1#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v492 : BitVec 32 := Scalar.subi c1_i32_355 v178
  let v493 : BitVec 32 := Scalar.muli c4_i32_356 v492
  let v494 : BitVec 32 := Scalar.addi v424 v493
  let c2_i32_426 : BitVec 32 := 2#32
  let c1_i32_425 : BitVec 32 := 1#32
  let c1_i32_98 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_92 : BitVec 32 := 0#32
  let v180 : BitVec 1 := Scalar.cmpi .sgt v19 c0_i32_92
  let v181 : BitVec 32 := Scalar.extui v180
  let c0_i32_93 : BitVec 32 := 0#32
  let v182 : BitVec 1 := Scalar.cmpi .slt v19 c0_i32_93
  let v183 : BitVec 32 := Scalar.extui v182
  let v184 : BitVec 32 := Scalar.subi v181 v183
  let c2_i32_91 : BitVec 32 := 2#32
  let c0_i32_94 : BitVec 32 := 0#32
  let v185 : BitVec 1 := Scalar.cmpi .sgt c2_i32_91 c0_i32_94
  let v186 : BitVec 32 := Scalar.extui v185
  let c0_i32_95 : BitVec 32 := 0#32
  let v187 : BitVec 1 := Scalar.cmpi .slt c2_i32_91 c0_i32_95
  let v188 : BitVec 32 := Scalar.extui v187
  let v189 : BitVec 32 := Scalar.subi v186 v188
  let v190 : BitVec 1 := Scalar.cmpi .ne v184 v189
  let v191 : BitVec 32 := Scalar.remsi v19 c2_i32_91
  let c0_i32_96 : BitVec 32 := 0#32
  let v192 : BitVec 1 := Scalar.cmpi .ne v191 c0_i32_96
  let v193 : BitVec 1 := Scalar.andi v190 v192
  let v179 : BitVec 32 := Scalar.divsi v19 c2_i32_91
  let c1_i32_97 : BitVec 32 := 1#32
  let v194 : BitVec 32 := Scalar.subi v179 c1_i32_97
  let v195 : BitVec 32 := Scalar.select v193 v194 v179
  let v196 : BitVec 32 := Scalar.subi c1_i32_98 v195
  let v562 : BitVec 32 := Scalar.subi c1_i32_425 v196
  let v563 : BitVec 32 := Scalar.muli c2_i32_426 v562
  let v564 : BitVec 32 := Scalar.addi v494 v563
  let c1_i32_496 : BitVec 32 := 1#32
  let c1_i32_495 : BitVec 32 := 1#32
  let c1_i32_82 : BitVec 32 := 1#32
  let c2_i32_76 : BitVec 32 := 2#32
  let c0_i32_77 : BitVec 32 := 0#32
  let v150 : BitVec 1 := Scalar.cmpi .eq c2_i32_76 c0_i32_77
  let c1_i32_78 : BitVec 32 := 1#32
  let v151 : BitVec 32 := Scalar.select v150 c1_i32_78 c2_i32_76
  let v152 : BitVec 32 := Scalar.remsi v19 v151
  let c0_i32_80 : BitVec 32 := 0#32
  let v154 : BitVec 1 := Scalar.cmpi .slt v152 c0_i32_80
  let c0_i32_81 : BitVec 32 := 0#32
  let v155 : BitVec 1 := Scalar.cmpi .slt v151 c0_i32_81
  let v156 : BitVec 1 := Scalar.xori v154 v155
  let c0_i32_79 : BitVec 32 := 0#32
  let v153 : BitVec 1 := Scalar.cmpi .ne v152 c0_i32_79
  let v157 : BitVec 1 := Scalar.andi v156 v153
  let v158 : BitVec 32 := Scalar.addi v152 v151
  let v159 : BitVec 32 := Scalar.select v157 v158 v152
  let v160 : BitVec 32 := Scalar.subi c1_i32_82 v159
  let v632 : BitVec 32 := Scalar.subi c1_i32_495 v160
  let v633 : BitVec 32 := Scalar.muli c1_i32_496 v632
  let v634 : BitVec 32 := Scalar.addi v564 v633
  let c16_i32_497 : BitVec 32 := 16#32
  let v635 : BitVec 32 := Scalar.muli v634 c16_i32_497
  let v636 : BitVec 32 := Scalar.addi c512_i32_498 v635
  let v637 : Index := Scalar.indexCast v636
  let c0_499 : Index := 0#32
  ![v637.toNat, 0]
def k0_off21 (d0 : Dev nD) : Fin 2 → Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_149 : BitVec 32 := 0#32
  let v293 : BitVec 32 := Scalar.muli v2 c0_i32_149
  let c16_i32_191 : BitVec 32 := 16#32
  let c1_i32_190 : BitVec 32 := 1#32
  let c1_i32_68 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v329 : BitVec 32 := Scalar.subi c1_i32_190 v138
  let v330 : BitVec 32 := Scalar.muli c16_i32_191 v329
  let v331 : BitVec 32 := Scalar.addi v293 v330
  let c8_i32_262 : BitVec 32 := 8#32
  let c1_i32_261 : BitVec 32 := 1#32
  let c1_i32_75 : BitVec 32 := 1#32
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v399 : BitVec 32 := Scalar.subi c1_i32_261 v149
  let v400 : BitVec 32 := Scalar.muli c8_i32_262 v399
  let v401 : BitVec 32 := Scalar.addi v331 v400
  let c4_i32_332 : BitVec 32 := 4#32
  let c1_i32_331 : BitVec 32 := 1#32
  let c1_i32_82 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_76 : BitVec 32 := 2#32
  let c0_i32_77 : BitVec 32 := 0#32
  let v150 : BitVec 1 := Scalar.cmpi .eq c2_i32_76 c0_i32_77
  let c1_i32_78 : BitVec 32 := 1#32
  let v151 : BitVec 32 := Scalar.select v150 c1_i32_78 c2_i32_76
  let v152 : BitVec 32 := Scalar.remsi v19 v151
  let c0_i32_80 : BitVec 32 := 0#32
  let v154 : BitVec 1 := Scalar.cmpi .slt v152 c0_i32_80
  let c0_i32_81 : BitVec 32 := 0#32
  let v155 : BitVec 1 := Scalar.cmpi .slt v151 c0_i32_81
  let v156 : BitVec 1 := Scalar.xori v154 v155
  let c0_i32_79 : BitVec 32 := 0#32
  let v153 : BitVec 1 := Scalar.cmpi .ne v152 c0_i32_79
  let v157 : BitVec 1 := Scalar.andi v156 v153
  let v158 : BitVec 32 := Scalar.addi v152 v151
  let v159 : BitVec 32 := Scalar.select v157 v158 v152
  let v160 : BitVec 32 := Scalar.subi c1_i32_82 v159
  let v469 : BitVec 32 := Scalar.subi c1_i32_331 v160
  let v470 : BitVec 32 := Scalar.muli c4_i32_332 v469
  let v471 : BitVec 32 := Scalar.addi v401 v470
  let c2_i32_402 : BitVec 32 := 2#32
  let c1_i32_401 : BitVec 32 := 1#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v539 : BitVec 32 := Scalar.subi c1_i32_401 v178
  let v540 : BitVec 32 := Scalar.muli c2_i32_402 v539
  let v541 : BitVec 32 := Scalar.addi v471 v540
  let c1_i32_472 : BitVec 32 := 1#32
  let c1_i32_471 : BitVec 32 := 1#32
  let c1_i32_98 : BitVec 32 := 1#32
  let c0_i32_92 : BitVec 32 := 0#32
  let v180 : BitVec 1 := Scalar.cmpi .sgt v19 c0_i32_92
  let v181 : BitVec 32 := Scalar.extui v180
  let c0_i32_93 : BitVec 32 := 0#32
  let v182 : BitVec 1 := Scalar.cmpi .slt v19 c0_i32_93
  let v183 : BitVec 32 := Scalar.extui v182
  let v184 : BitVec 32 := Scalar.subi v181 v183
  let c2_i32_91 : BitVec 32 := 2#32
  let c0_i32_94 : BitVec 32 := 0#32
  let v185 : BitVec 1 := Scalar.cmpi .sgt c2_i32_91 c0_i32_94
  let v186 : BitVec 32 := Scalar.extui v185
  let c0_i32_95 : BitVec 32 := 0#32
  let v187 : BitVec 1 := Scalar.cmpi .slt c2_i32_91 c0_i32_95
  let v188 : BitVec 32 := Scalar.extui v187
  let v189 : BitVec 32 := Scalar.subi v186 v188
  let v190 : BitVec 1 := Scalar.cmpi .ne v184 v189
  let v191 : BitVec 32 := Scalar.remsi v19 c2_i32_91
  let c0_i32_96 : BitVec 32 := 0#32
  let v192 : BitVec 1 := Scalar.cmpi .ne v191 c0_i32_96
  let v193 : BitVec 1 := Scalar.andi v190 v192
  let v179 : BitVec 32 := Scalar.divsi v19 c2_i32_91
  let c1_i32_97 : BitVec 32 := 1#32
  let v194 : BitVec 32 := Scalar.subi v179 c1_i32_97
  let v195 : BitVec 32 := Scalar.select v193 v194 v179
  let v196 : BitVec 32 := Scalar.subi c1_i32_98 v195
  let v609 : BitVec 32 := Scalar.subi c1_i32_471 v196
  let v610 : BitVec 32 := Scalar.muli c1_i32_472 v609
  let v611 : BitVec 32 := Scalar.addi v541 v610
  let c16_i32_504 : BitVec 32 := 16#32
  let v647 : BitVec 32 := Scalar.muli v611 c16_i32_504
  let v648 : BitVec 32 := Scalar.addi c0_i32_505 v647
  let c0_i32_512 : BitVec 32 := 0#32
  ![v648.toNat, 0]
def k0_dev16 (d0 : Dev nD) : Nat :=
  let c0_i32_511 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_59 : BitVec 32 := 2#32
  let v122 : BitVec 32 := Scalar.xori v19 c2_i32_59
  let v123 : BitVec 32 := Scalar.muli c8_i32_60 v122
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v124 : BitVec 32 := Scalar.muli c2_i32_61 v46
  let v125 : BitVec 32 := Scalar.addi v123 v124
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_62 : BitVec 32 := 2#32
  let c0_i32_63 : BitVec 32 := 0#32
  let v126 : BitVec 1 := Scalar.cmpi .eq c2_i32_62 c0_i32_63
  let c1_i32_64 : BitVec 32 := 1#32
  let v127 : BitVec 32 := Scalar.select v126 c1_i32_64 c2_i32_62
  let v128 : BitVec 32 := Scalar.remsi v46 v127
  let c0_i32_66 : BitVec 32 := 0#32
  let v130 : BitVec 1 := Scalar.cmpi .slt v128 c0_i32_66
  let c0_i32_67 : BitVec 32 := 0#32
  let v131 : BitVec 1 := Scalar.cmpi .slt v127 c0_i32_67
  let v132 : BitVec 1 := Scalar.xori v130 v131
  let c0_i32_65 : BitVec 32 := 0#32
  let v129 : BitVec 1 := Scalar.cmpi .ne v128 c0_i32_65
  let v133 : BitVec 1 := Scalar.andi v132 v129
  let v134 : BitVec 32 := Scalar.addi v128 v127
  let v135 : BitVec 32 := Scalar.select v133 v134 v128
  let v136 : BitVec 32 := Scalar.xori v57 v135
  let v137 : BitVec 32 := Scalar.addi v125 v136
  let c1_i32_510 : BitVec 32 := 1#32
  let v649 : BitVec 32 := Scalar.muli v137 c1_i32_510
  let v650 : BitVec 32 := Scalar.addi c0_i32_511 v649
  v650.toNat
def k0_off22 (d0 : Dev nD) : Fin 2 → Nat :=
  let c512_i32_517 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_150 : BitVec 32 := 0#32
  let v294 : BitVec 32 := Scalar.muli v2 c0_i32_150
  let c16_i32_216 : BitVec 32 := 16#32
  let c1_i32_215 : BitVec 32 := 1#32
  let c1_i32_75 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v352 : BitVec 32 := Scalar.subi c1_i32_215 v149
  let v353 : BitVec 32 := Scalar.muli c16_i32_216 v352
  let v354 : BitVec 32 := Scalar.addi v294 v353
  let c8_i32_286 : BitVec 32 := 8#32
  let c1_i32_285 : BitVec 32 := 1#32
  let c1_i32_68 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v422 : BitVec 32 := Scalar.subi c1_i32_285 v138
  let v423 : BitVec 32 := Scalar.muli c8_i32_286 v422
  let v424 : BitVec 32 := Scalar.addi v354 v423
  let c4_i32_356 : BitVec 32 := 4#32
  let c1_i32_355 : BitVec 32 := 1#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v492 : BitVec 32 := Scalar.subi c1_i32_355 v178
  let v493 : BitVec 32 := Scalar.muli c4_i32_356 v492
  let v494 : BitVec 32 := Scalar.addi v424 v493
  let c2_i32_426 : BitVec 32 := 2#32
  let c1_i32_425 : BitVec 32 := 1#32
  let c1_i32_98 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_92 : BitVec 32 := 0#32
  let v180 : BitVec 1 := Scalar.cmpi .sgt v19 c0_i32_92
  let v181 : BitVec 32 := Scalar.extui v180
  let c0_i32_93 : BitVec 32 := 0#32
  let v182 : BitVec 1 := Scalar.cmpi .slt v19 c0_i32_93
  let v183 : BitVec 32 := Scalar.extui v182
  let v184 : BitVec 32 := Scalar.subi v181 v183
  let c2_i32_91 : BitVec 32 := 2#32
  let c0_i32_94 : BitVec 32 := 0#32
  let v185 : BitVec 1 := Scalar.cmpi .sgt c2_i32_91 c0_i32_94
  let v186 : BitVec 32 := Scalar.extui v185
  let c0_i32_95 : BitVec 32 := 0#32
  let v187 : BitVec 1 := Scalar.cmpi .slt c2_i32_91 c0_i32_95
  let v188 : BitVec 32 := Scalar.extui v187
  let v189 : BitVec 32 := Scalar.subi v186 v188
  let v190 : BitVec 1 := Scalar.cmpi .ne v184 v189
  let v191 : BitVec 32 := Scalar.remsi v19 c2_i32_91
  let c0_i32_96 : BitVec 32 := 0#32
  let v192 : BitVec 1 := Scalar.cmpi .ne v191 c0_i32_96
  let v193 : BitVec 1 := Scalar.andi v190 v192
  let v179 : BitVec 32 := Scalar.divsi v19 c2_i32_91
  let c1_i32_97 : BitVec 32 := 1#32
  let v194 : BitVec 32 := Scalar.subi v179 c1_i32_97
  let v195 : BitVec 32 := Scalar.select v193 v194 v179
  let v196 : BitVec 32 := Scalar.subi c1_i32_98 v195
  let v562 : BitVec 32 := Scalar.subi c1_i32_425 v196
  let v563 : BitVec 32 := Scalar.muli c2_i32_426 v562
  let v564 : BitVec 32 := Scalar.addi v494 v563
  let c1_i32_496 : BitVec 32 := 1#32
  let c1_i32_495 : BitVec 32 := 1#32
  let c1_i32_82 : BitVec 32 := 1#32
  let c2_i32_76 : BitVec 32 := 2#32
  let c0_i32_77 : BitVec 32 := 0#32
  let v150 : BitVec 1 := Scalar.cmpi .eq c2_i32_76 c0_i32_77
  let c1_i32_78 : BitVec 32 := 1#32
  let v151 : BitVec 32 := Scalar.select v150 c1_i32_78 c2_i32_76
  let v152 : BitVec 32 := Scalar.remsi v19 v151
  let c0_i32_80 : BitVec 32 := 0#32
  let v154 : BitVec 1 := Scalar.cmpi .slt v152 c0_i32_80
  let c0_i32_81 : BitVec 32 := 0#32
  let v155 : BitVec 1 := Scalar.cmpi .slt v151 c0_i32_81
  let v156 : BitVec 1 := Scalar.xori v154 v155
  let c0_i32_79 : BitVec 32 := 0#32
  let v153 : BitVec 1 := Scalar.cmpi .ne v152 c0_i32_79
  let v157 : BitVec 1 := Scalar.andi v156 v153
  let v158 : BitVec 32 := Scalar.addi v152 v151
  let v159 : BitVec 32 := Scalar.select v157 v158 v152
  let v160 : BitVec 32 := Scalar.subi c1_i32_82 v159
  let v632 : BitVec 32 := Scalar.subi c1_i32_495 v160
  let v633 : BitVec 32 := Scalar.muli c1_i32_496 v632
  let v634 : BitVec 32 := Scalar.addi v564 v633
  let c16_i32_516 : BitVec 32 := 16#32
  let v659 : BitVec 32 := Scalar.muli v634 c16_i32_516
  let v660 : BitVec 32 := Scalar.addi c512_i32_517 v659
  let c0_i32_524 : BitVec 32 := 0#32
  ![v660.toNat, 0]
def k0_dev17 (d0 : Dev nD) : Nat :=
  let c0_i32_523 : BitVec 32 := 0#32
  let c8_i32_42 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_41 : BitVec 32 := 1#32
  let v90 : BitVec 32 := Scalar.xori v19 c1_i32_41
  let v91 : BitVec 32 := Scalar.muli c8_i32_42 v90
  let c2_i32_43 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v92 : BitVec 32 := Scalar.muli c2_i32_43 v46
  let v93 : BitVec 32 := Scalar.addi v91 v92
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_44 : BitVec 32 := 2#32
  let c0_i32_45 : BitVec 32 := 0#32
  let v94 : BitVec 1 := Scalar.cmpi .eq c2_i32_44 c0_i32_45
  let c1_i32_46 : BitVec 32 := 1#32
  let v95 : BitVec 32 := Scalar.select v94 c1_i32_46 c2_i32_44
  let v96 : BitVec 32 := Scalar.remsi v46 v95
  let c0_i32_48 : BitVec 32 := 0#32
  let v98 : BitVec 1 := Scalar.cmpi .slt v96 c0_i32_48
  let c0_i32_49 : BitVec 32 := 0#32
  let v99 : BitVec 1 := Scalar.cmpi .slt v95 c0_i32_49
  let v100 : BitVec 1 := Scalar.xori v98 v99
  let c0_i32_47 : BitVec 32 := 0#32
  let v97 : BitVec 1 := Scalar.cmpi .ne v96 c0_i32_47
  let v101 : BitVec 1 := Scalar.andi v100 v97
  let v102 : BitVec 32 := Scalar.addi v96 v95
  let v103 : BitVec 32 := Scalar.select v101 v102 v96
  let v104 : BitVec 32 := Scalar.xori v57 v103
  let v105 : BitVec 32 := Scalar.addi v93 v104
  let c1_i32_522 : BitVec 32 := 1#32
  let v661 : BitVec 32 := Scalar.muli v105 c1_i32_522
  let v662 : BitVec 32 := Scalar.addi c0_i32_523 v661
  v662.toNat
def k0_off23 (d0 : Dev nD) : Fin 2 → Nat :=
  let c0_i32_563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_149 : BitVec 32 := 0#32
  let v293 : BitVec 32 := Scalar.muli v2 c0_i32_149
  let c16_i32_191 : BitVec 32 := 16#32
  let c1_i32_190 : BitVec 32 := 1#32
  let c1_i32_68 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v329 : BitVec 32 := Scalar.subi c1_i32_190 v138
  let v330 : BitVec 32 := Scalar.muli c16_i32_191 v329
  let v331 : BitVec 32 := Scalar.addi v293 v330
  let c8_i32_262 : BitVec 32 := 8#32
  let c1_i32_261 : BitVec 32 := 1#32
  let c1_i32_75 : BitVec 32 := 1#32
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v399 : BitVec 32 := Scalar.subi c1_i32_261 v149
  let v400 : BitVec 32 := Scalar.muli c8_i32_262 v399
  let v401 : BitVec 32 := Scalar.addi v331 v400
  let c4_i32_332 : BitVec 32 := 4#32
  let c1_i32_331 : BitVec 32 := 1#32
  let c1_i32_82 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_76 : BitVec 32 := 2#32
  let c0_i32_77 : BitVec 32 := 0#32
  let v150 : BitVec 1 := Scalar.cmpi .eq c2_i32_76 c0_i32_77
  let c1_i32_78 : BitVec 32 := 1#32
  let v151 : BitVec 32 := Scalar.select v150 c1_i32_78 c2_i32_76
  let v152 : BitVec 32 := Scalar.remsi v19 v151
  let c0_i32_80 : BitVec 32 := 0#32
  let v154 : BitVec 1 := Scalar.cmpi .slt v152 c0_i32_80
  let c0_i32_81 : BitVec 32 := 0#32
  let v155 : BitVec 1 := Scalar.cmpi .slt v151 c0_i32_81
  let v156 : BitVec 1 := Scalar.xori v154 v155
  let c0_i32_79 : BitVec 32 := 0#32
  let v153 : BitVec 1 := Scalar.cmpi .ne v152 c0_i32_79
  let v157 : BitVec 1 := Scalar.andi v156 v153
  let v158 : BitVec 32 := Scalar.addi v152 v151
  let v159 : BitVec 32 := Scalar.select v157 v158 v152
  let v160 : BitVec 32 := Scalar.subi c1_i32_82 v159
  let v469 : BitVec 32 := Scalar.subi c1_i32_331 v160
  let v470 : BitVec 32 := Scalar.muli c4_i32_332 v469
  let v471 : BitVec 32 := Scalar.addi v401 v470
  let c2_i32_402 : BitVec 32 := 2#32
  let c1_i32_401 : BitVec 32 := 1#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v539 : BitVec 32 := Scalar.subi c1_i32_401 v178
  let v540 : BitVec 32 := Scalar.muli c2_i32_402 v539
  let v541 : BitVec 32 := Scalar.addi v471 v540
  let c1_i32_472 : BitVec 32 := 1#32
  let c1_i32_471 : BitVec 32 := 1#32
  let c1_i32_98 : BitVec 32 := 1#32
  let c0_i32_92 : BitVec 32 := 0#32
  let v180 : BitVec 1 := Scalar.cmpi .sgt v19 c0_i32_92
  let v181 : BitVec 32 := Scalar.extui v180
  let c0_i32_93 : BitVec 32 := 0#32
  let v182 : BitVec 1 := Scalar.cmpi .slt v19 c0_i32_93
  let v183 : BitVec 32 := Scalar.extui v182
  let v184 : BitVec 32 := Scalar.subi v181 v183
  let c2_i32_91 : BitVec 32 := 2#32
  let c0_i32_94 : BitVec 32 := 0#32
  let v185 : BitVec 1 := Scalar.cmpi .sgt c2_i32_91 c0_i32_94
  let v186 : BitVec 32 := Scalar.extui v185
  let c0_i32_95 : BitVec 32 := 0#32
  let v187 : BitVec 1 := Scalar.cmpi .slt c2_i32_91 c0_i32_95
  let v188 : BitVec 32 := Scalar.extui v187
  let v189 : BitVec 32 := Scalar.subi v186 v188
  let v190 : BitVec 1 := Scalar.cmpi .ne v184 v189
  let v191 : BitVec 32 := Scalar.remsi v19 c2_i32_91
  let c0_i32_96 : BitVec 32 := 0#32
  let v192 : BitVec 1 := Scalar.cmpi .ne v191 c0_i32_96
  let v193 : BitVec 1 := Scalar.andi v190 v192
  let v179 : BitVec 32 := Scalar.divsi v19 c2_i32_91
  let c1_i32_97 : BitVec 32 := 1#32
  let v194 : BitVec 32 := Scalar.subi v179 c1_i32_97
  let v195 : BitVec 32 := Scalar.select v193 v194 v179
  let v196 : BitVec 32 := Scalar.subi c1_i32_98 v195
  let v609 : BitVec 32 := Scalar.subi c1_i32_471 v196
  let v610 : BitVec 32 := Scalar.muli c1_i32_472 v609
  let v611 : BitVec 32 := Scalar.addi v541 v610
  let c1_i32_542 : BitVec 32 := 1#32
  let c1_i32_541 : BitVec 32 := 1#32
  let v679 : BitVec 32 := Scalar.subi c1_i32_541 v196
  let v680 : BitVec 32 := Scalar.muli c1_i32_542 v679
  let v681 : BitVec 32 := Scalar.subi v611 v680
  let c16_i32_562 : BitVec 32 := 16#32
  let v697 : BitVec 32 := Scalar.muli v681 c16_i32_562
  let v698 : BitVec 32 := Scalar.addi c0_i32_563 v697
  let c0_i32_570 : BitVec 32 := 0#32
  ![v698.toNat, 0]
def k0_dev18 (d0 : Dev nD) : Nat :=
  let c0_i32_569 : BitVec 32 := 0#32
  let c8_i32_51 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v107 : BitVec 32 := Scalar.muli c8_i32_51 v19
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_50 : BitVec 32 := 2#32
  let v106 : BitVec 32 := Scalar.xori v46 c2_i32_50
  let v108 : BitVec 32 := Scalar.muli c2_i32_52 v106
  let v109 : BitVec 32 := Scalar.addi v107 v108
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v106 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let v120 : BitVec 32 := Scalar.xori v57 v119
  let v121 : BitVec 32 := Scalar.addi v109 v120
  let c1_i32_568 : BitVec 32 := 1#32
  let v699 : BitVec 32 := Scalar.muli v121 c1_i32_568
  let v700 : BitVec 32 := Scalar.addi c0_i32_569 v699
  v700.toNat
def k0_off24 (d0 : Dev nD) : Fin 2 → Nat :=
  let c512_i32_575 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_150 : BitVec 32 := 0#32
  let v294 : BitVec 32 := Scalar.muli v2 c0_i32_150
  let c16_i32_216 : BitVec 32 := 16#32
  let c1_i32_215 : BitVec 32 := 1#32
  let c1_i32_75 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v352 : BitVec 32 := Scalar.subi c1_i32_215 v149
  let v353 : BitVec 32 := Scalar.muli c16_i32_216 v352
  let v354 : BitVec 32 := Scalar.addi v294 v353
  let c8_i32_286 : BitVec 32 := 8#32
  let c1_i32_285 : BitVec 32 := 1#32
  let c1_i32_68 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v422 : BitVec 32 := Scalar.subi c1_i32_285 v138
  let v423 : BitVec 32 := Scalar.muli c8_i32_286 v422
  let v424 : BitVec 32 := Scalar.addi v354 v423
  let c4_i32_356 : BitVec 32 := 4#32
  let c1_i32_355 : BitVec 32 := 1#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v492 : BitVec 32 := Scalar.subi c1_i32_355 v178
  let v493 : BitVec 32 := Scalar.muli c4_i32_356 v492
  let v494 : BitVec 32 := Scalar.addi v424 v493
  let c2_i32_426 : BitVec 32 := 2#32
  let c1_i32_425 : BitVec 32 := 1#32
  let c1_i32_98 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_92 : BitVec 32 := 0#32
  let v180 : BitVec 1 := Scalar.cmpi .sgt v19 c0_i32_92
  let v181 : BitVec 32 := Scalar.extui v180
  let c0_i32_93 : BitVec 32 := 0#32
  let v182 : BitVec 1 := Scalar.cmpi .slt v19 c0_i32_93
  let v183 : BitVec 32 := Scalar.extui v182
  let v184 : BitVec 32 := Scalar.subi v181 v183
  let c2_i32_91 : BitVec 32 := 2#32
  let c0_i32_94 : BitVec 32 := 0#32
  let v185 : BitVec 1 := Scalar.cmpi .sgt c2_i32_91 c0_i32_94
  let v186 : BitVec 32 := Scalar.extui v185
  let c0_i32_95 : BitVec 32 := 0#32
  let v187 : BitVec 1 := Scalar.cmpi .slt c2_i32_91 c0_i32_95
  let v188 : BitVec 32 := Scalar.extui v187
  let v189 : BitVec 32 := Scalar.subi v186 v188
  let v190 : BitVec 1 := Scalar.cmpi .ne v184 v189
  let v191 : BitVec 32 := Scalar.remsi v19 c2_i32_91
  let c0_i32_96 : BitVec 32 := 0#32
  let v192 : BitVec 1 := Scalar.cmpi .ne v191 c0_i32_96
  let v193 : BitVec 1 := Scalar.andi v190 v192
  let v179 : BitVec 32 := Scalar.divsi v19 c2_i32_91
  let c1_i32_97 : BitVec 32 := 1#32
  let v194 : BitVec 32 := Scalar.subi v179 c1_i32_97
  let v195 : BitVec 32 := Scalar.select v193 v194 v179
  let v196 : BitVec 32 := Scalar.subi c1_i32_98 v195
  let v562 : BitVec 32 := Scalar.subi c1_i32_425 v196
  let v563 : BitVec 32 := Scalar.muli c2_i32_426 v562
  let v564 : BitVec 32 := Scalar.addi v494 v563
  let c1_i32_496 : BitVec 32 := 1#32
  let c1_i32_495 : BitVec 32 := 1#32
  let c1_i32_82 : BitVec 32 := 1#32
  let c2_i32_76 : BitVec 32 := 2#32
  let c0_i32_77 : BitVec 32 := 0#32
  let v150 : BitVec 1 := Scalar.cmpi .eq c2_i32_76 c0_i32_77
  let c1_i32_78 : BitVec 32 := 1#32
  let v151 : BitVec 32 := Scalar.select v150 c1_i32_78 c2_i32_76
  let v152 : BitVec 32 := Scalar.remsi v19 v151
  let c0_i32_80 : BitVec 32 := 0#32
  let v154 : BitVec 1 := Scalar.cmpi .slt v152 c0_i32_80
  let c0_i32_81 : BitVec 32 := 0#32
  let v155 : BitVec 1 := Scalar.cmpi .slt v151 c0_i32_81
  let v156 : BitVec 1 := Scalar.xori v154 v155
  let c0_i32_79 : BitVec 32 := 0#32
  let v153 : BitVec 1 := Scalar.cmpi .ne v152 c0_i32_79
  let v157 : BitVec 1 := Scalar.andi v156 v153
  let v158 : BitVec 32 := Scalar.addi v152 v151
  let v159 : BitVec 32 := Scalar.select v157 v158 v152
  let v160 : BitVec 32 := Scalar.subi c1_i32_82 v159
  let v632 : BitVec 32 := Scalar.subi c1_i32_495 v160
  let v633 : BitVec 32 := Scalar.muli c1_i32_496 v632
  let v634 : BitVec 32 := Scalar.addi v564 v633
  let c1_i32_559 : BitVec 32 := 1#32
  let c1_i32_558 : BitVec 32 := 1#32
  let v692 : BitVec 32 := Scalar.subi c1_i32_558 v160
  let v693 : BitVec 32 := Scalar.muli c1_i32_559 v692
  let v694 : BitVec 32 := Scalar.subi v634 v693
  let c16_i32_574 : BitVec 32 := 16#32
  let v709 : BitVec 32 := Scalar.muli v694 c16_i32_574
  let v710 : BitVec 32 := Scalar.addi c512_i32_575 v709
  let c0_i32_582 : BitVec 32 := 0#32
  ![v710.toNat, 0]
def k0_dev19 (d0 : Dev nD) : Nat :=
  let c0_i32_581 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_59 : BitVec 32 := 2#32
  let v122 : BitVec 32 := Scalar.xori v19 c2_i32_59
  let v123 : BitVec 32 := Scalar.muli c8_i32_60 v122
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v124 : BitVec 32 := Scalar.muli c2_i32_61 v46
  let v125 : BitVec 32 := Scalar.addi v123 v124
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_62 : BitVec 32 := 2#32
  let c0_i32_63 : BitVec 32 := 0#32
  let v126 : BitVec 1 := Scalar.cmpi .eq c2_i32_62 c0_i32_63
  let c1_i32_64 : BitVec 32 := 1#32
  let v127 : BitVec 32 := Scalar.select v126 c1_i32_64 c2_i32_62
  let v128 : BitVec 32 := Scalar.remsi v46 v127
  let c0_i32_66 : BitVec 32 := 0#32
  let v130 : BitVec 1 := Scalar.cmpi .slt v128 c0_i32_66
  let c0_i32_67 : BitVec 32 := 0#32
  let v131 : BitVec 1 := Scalar.cmpi .slt v127 c0_i32_67
  let v132 : BitVec 1 := Scalar.xori v130 v131
  let c0_i32_65 : BitVec 32 := 0#32
  let v129 : BitVec 1 := Scalar.cmpi .ne v128 c0_i32_65
  let v133 : BitVec 1 := Scalar.andi v132 v129
  let v134 : BitVec 32 := Scalar.addi v128 v127
  let v135 : BitVec 32 := Scalar.select v133 v134 v128
  let v136 : BitVec 32 := Scalar.xori v57 v135
  let v137 : BitVec 32 := Scalar.addi v125 v136
  let c1_i32_580 : BitVec 32 := 1#32
  let v711 : BitVec 32 := Scalar.muli v137 c1_i32_580
  let v712 : BitVec 32 := Scalar.addi c0_i32_581 v711
  v712.toNat
def k0_off25 (d0 : Dev nD) : Fin 2 → Nat :=
  let c0_i32_621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_149 : BitVec 32 := 0#32
  let v293 : BitVec 32 := Scalar.muli v2 c0_i32_149
  let c16_i32_191 : BitVec 32 := 16#32
  let c1_i32_190 : BitVec 32 := 1#32
  let c1_i32_68 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v329 : BitVec 32 := Scalar.subi c1_i32_190 v138
  let v330 : BitVec 32 := Scalar.muli c16_i32_191 v329
  let v331 : BitVec 32 := Scalar.addi v293 v330
  let c8_i32_262 : BitVec 32 := 8#32
  let c1_i32_261 : BitVec 32 := 1#32
  let c1_i32_75 : BitVec 32 := 1#32
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v399 : BitVec 32 := Scalar.subi c1_i32_261 v149
  let v400 : BitVec 32 := Scalar.muli c8_i32_262 v399
  let v401 : BitVec 32 := Scalar.addi v331 v400
  let c4_i32_332 : BitVec 32 := 4#32
  let c1_i32_331 : BitVec 32 := 1#32
  let c1_i32_82 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_76 : BitVec 32 := 2#32
  let c0_i32_77 : BitVec 32 := 0#32
  let v150 : BitVec 1 := Scalar.cmpi .eq c2_i32_76 c0_i32_77
  let c1_i32_78 : BitVec 32 := 1#32
  let v151 : BitVec 32 := Scalar.select v150 c1_i32_78 c2_i32_76
  let v152 : BitVec 32 := Scalar.remsi v19 v151
  let c0_i32_80 : BitVec 32 := 0#32
  let v154 : BitVec 1 := Scalar.cmpi .slt v152 c0_i32_80
  let c0_i32_81 : BitVec 32 := 0#32
  let v155 : BitVec 1 := Scalar.cmpi .slt v151 c0_i32_81
  let v156 : BitVec 1 := Scalar.xori v154 v155
  let c0_i32_79 : BitVec 32 := 0#32
  let v153 : BitVec 1 := Scalar.cmpi .ne v152 c0_i32_79
  let v157 : BitVec 1 := Scalar.andi v156 v153
  let v158 : BitVec 32 := Scalar.addi v152 v151
  let v159 : BitVec 32 := Scalar.select v157 v158 v152
  let v160 : BitVec 32 := Scalar.subi c1_i32_82 v159
  let v469 : BitVec 32 := Scalar.subi c1_i32_331 v160
  let v470 : BitVec 32 := Scalar.muli c4_i32_332 v469
  let v471 : BitVec 32 := Scalar.addi v401 v470
  let c2_i32_402 : BitVec 32 := 2#32
  let c1_i32_401 : BitVec 32 := 1#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v539 : BitVec 32 := Scalar.subi c1_i32_401 v178
  let v540 : BitVec 32 := Scalar.muli c2_i32_402 v539
  let v541 : BitVec 32 := Scalar.addi v471 v540
  let c1_i32_472 : BitVec 32 := 1#32
  let c1_i32_471 : BitVec 32 := 1#32
  let c1_i32_98 : BitVec 32 := 1#32
  let c0_i32_92 : BitVec 32 := 0#32
  let v180 : BitVec 1 := Scalar.cmpi .sgt v19 c0_i32_92
  let v181 : BitVec 32 := Scalar.extui v180
  let c0_i32_93 : BitVec 32 := 0#32
  let v182 : BitVec 1 := Scalar.cmpi .slt v19 c0_i32_93
  let v183 : BitVec 32 := Scalar.extui v182
  let v184 : BitVec 32 := Scalar.subi v181 v183
  let c2_i32_91 : BitVec 32 := 2#32
  let c0_i32_94 : BitVec 32 := 0#32
  let v185 : BitVec 1 := Scalar.cmpi .sgt c2_i32_91 c0_i32_94
  let v186 : BitVec 32 := Scalar.extui v185
  let c0_i32_95 : BitVec 32 := 0#32
  let v187 : BitVec 1 := Scalar.cmpi .slt c2_i32_91 c0_i32_95
  let v188 : BitVec 32 := Scalar.extui v187
  let v189 : BitVec 32 := Scalar.subi v186 v188
  let v190 : BitVec 1 := Scalar.cmpi .ne v184 v189
  let v191 : BitVec 32 := Scalar.remsi v19 c2_i32_91
  let c0_i32_96 : BitVec 32 := 0#32
  let v192 : BitVec 1 := Scalar.cmpi .ne v191 c0_i32_96
  let v193 : BitVec 1 := Scalar.andi v190 v192
  let v179 : BitVec 32 := Scalar.divsi v19 c2_i32_91
  let c1_i32_97 : BitVec 32 := 1#32
  let v194 : BitVec 32 := Scalar.subi v179 c1_i32_97
  let v195 : BitVec 32 := Scalar.select v193 v194 v179
  let v196 : BitVec 32 := Scalar.subi c1_i32_98 v195
  let v609 : BitVec 32 := Scalar.subi c1_i32_471 v196
  let v610 : BitVec 32 := Scalar.muli c1_i32_472 v609
  let v611 : BitVec 32 := Scalar.addi v541 v610
  let c1_i32_542 : BitVec 32 := 1#32
  let c1_i32_541 : BitVec 32 := 1#32
  let v679 : BitVec 32 := Scalar.subi c1_i32_541 v196
  let v680 : BitVec 32 := Scalar.muli c1_i32_542 v679
  let v681 : BitVec 32 := Scalar.subi v611 v680
  let c2_i32_600 : BitVec 32 := 2#32
  let c1_i32_599 : BitVec 32 := 1#32
  let v729 : BitVec 32 := Scalar.subi c1_i32_599 v178
  let v730 : BitVec 32 := Scalar.muli c2_i32_600 v729
  let v731 : BitVec 32 := Scalar.subi v681 v730
  let c16_i32_620 : BitVec 32 := 16#32
  let v747 : BitVec 32 := Scalar.muli v731 c16_i32_620
  let v748 : BitVec 32 := Scalar.addi c0_i32_621 v747
  let c0_i32_628 : BitVec 32 := 0#32
  ![v748.toNat, 0]
def k0_dev20 (d0 : Dev nD) : Nat :=
  let c0_i32_627 : BitVec 32 := 0#32
  let c8_i32_42 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_41 : BitVec 32 := 1#32
  let v90 : BitVec 32 := Scalar.xori v19 c1_i32_41
  let v91 : BitVec 32 := Scalar.muli c8_i32_42 v90
  let c2_i32_43 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v92 : BitVec 32 := Scalar.muli c2_i32_43 v46
  let v93 : BitVec 32 := Scalar.addi v91 v92
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_44 : BitVec 32 := 2#32
  let c0_i32_45 : BitVec 32 := 0#32
  let v94 : BitVec 1 := Scalar.cmpi .eq c2_i32_44 c0_i32_45
  let c1_i32_46 : BitVec 32 := 1#32
  let v95 : BitVec 32 := Scalar.select v94 c1_i32_46 c2_i32_44
  let v96 : BitVec 32 := Scalar.remsi v46 v95
  let c0_i32_48 : BitVec 32 := 0#32
  let v98 : BitVec 1 := Scalar.cmpi .slt v96 c0_i32_48
  let c0_i32_49 : BitVec 32 := 0#32
  let v99 : BitVec 1 := Scalar.cmpi .slt v95 c0_i32_49
  let v100 : BitVec 1 := Scalar.xori v98 v99
  let c0_i32_47 : BitVec 32 := 0#32
  let v97 : BitVec 1 := Scalar.cmpi .ne v96 c0_i32_47
  let v101 : BitVec 1 := Scalar.andi v100 v97
  let v102 : BitVec 32 := Scalar.addi v96 v95
  let v103 : BitVec 32 := Scalar.select v101 v102 v96
  let v104 : BitVec 32 := Scalar.xori v57 v103
  let v105 : BitVec 32 := Scalar.addi v93 v104
  let c1_i32_626 : BitVec 32 := 1#32
  let v749 : BitVec 32 := Scalar.muli v105 c1_i32_626
  let v750 : BitVec 32 := Scalar.addi c0_i32_627 v749
  v750.toNat
def k0_off26 (d0 : Dev nD) : Fin 2 → Nat :=
  let c512_i32_633 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_150 : BitVec 32 := 0#32
  let v294 : BitVec 32 := Scalar.muli v2 c0_i32_150
  let c16_i32_216 : BitVec 32 := 16#32
  let c1_i32_215 : BitVec 32 := 1#32
  let c1_i32_75 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v352 : BitVec 32 := Scalar.subi c1_i32_215 v149
  let v353 : BitVec 32 := Scalar.muli c16_i32_216 v352
  let v354 : BitVec 32 := Scalar.addi v294 v353
  let c8_i32_286 : BitVec 32 := 8#32
  let c1_i32_285 : BitVec 32 := 1#32
  let c1_i32_68 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v422 : BitVec 32 := Scalar.subi c1_i32_285 v138
  let v423 : BitVec 32 := Scalar.muli c8_i32_286 v422
  let v424 : BitVec 32 := Scalar.addi v354 v423
  let c4_i32_356 : BitVec 32 := 4#32
  let c1_i32_355 : BitVec 32 := 1#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v492 : BitVec 32 := Scalar.subi c1_i32_355 v178
  let v493 : BitVec 32 := Scalar.muli c4_i32_356 v492
  let v494 : BitVec 32 := Scalar.addi v424 v493
  let c2_i32_426 : BitVec 32 := 2#32
  let c1_i32_425 : BitVec 32 := 1#32
  let c1_i32_98 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_92 : BitVec 32 := 0#32
  let v180 : BitVec 1 := Scalar.cmpi .sgt v19 c0_i32_92
  let v181 : BitVec 32 := Scalar.extui v180
  let c0_i32_93 : BitVec 32 := 0#32
  let v182 : BitVec 1 := Scalar.cmpi .slt v19 c0_i32_93
  let v183 : BitVec 32 := Scalar.extui v182
  let v184 : BitVec 32 := Scalar.subi v181 v183
  let c2_i32_91 : BitVec 32 := 2#32
  let c0_i32_94 : BitVec 32 := 0#32
  let v185 : BitVec 1 := Scalar.cmpi .sgt c2_i32_91 c0_i32_94
  let v186 : BitVec 32 := Scalar.extui v185
  let c0_i32_95 : BitVec 32 := 0#32
  let v187 : BitVec 1 := Scalar.cmpi .slt c2_i32_91 c0_i32_95
  let v188 : BitVec 32 := Scalar.extui v187
  let v189 : BitVec 32 := Scalar.subi v186 v188
  let v190 : BitVec 1 := Scalar.cmpi .ne v184 v189
  let v191 : BitVec 32 := Scalar.remsi v19 c2_i32_91
  let c0_i32_96 : BitVec 32 := 0#32
  let v192 : BitVec 1 := Scalar.cmpi .ne v191 c0_i32_96
  let v193 : BitVec 1 := Scalar.andi v190 v192
  let v179 : BitVec 32 := Scalar.divsi v19 c2_i32_91
  let c1_i32_97 : BitVec 32 := 1#32
  let v194 : BitVec 32 := Scalar.subi v179 c1_i32_97
  let v195 : BitVec 32 := Scalar.select v193 v194 v179
  let v196 : BitVec 32 := Scalar.subi c1_i32_98 v195
  let v562 : BitVec 32 := Scalar.subi c1_i32_425 v196
  let v563 : BitVec 32 := Scalar.muli c2_i32_426 v562
  let v564 : BitVec 32 := Scalar.addi v494 v563
  let c1_i32_496 : BitVec 32 := 1#32
  let c1_i32_495 : BitVec 32 := 1#32
  let c1_i32_82 : BitVec 32 := 1#32
  let c2_i32_76 : BitVec 32 := 2#32
  let c0_i32_77 : BitVec 32 := 0#32
  let v150 : BitVec 1 := Scalar.cmpi .eq c2_i32_76 c0_i32_77
  let c1_i32_78 : BitVec 32 := 1#32
  let v151 : BitVec 32 := Scalar.select v150 c1_i32_78 c2_i32_76
  let v152 : BitVec 32 := Scalar.remsi v19 v151
  let c0_i32_80 : BitVec 32 := 0#32
  let v154 : BitVec 1 := Scalar.cmpi .slt v152 c0_i32_80
  let c0_i32_81 : BitVec 32 := 0#32
  let v155 : BitVec 1 := Scalar.cmpi .slt v151 c0_i32_81
  let v156 : BitVec 1 := Scalar.xori v154 v155
  let c0_i32_79 : BitVec 32 := 0#32
  let v153 : BitVec 1 := Scalar.cmpi .ne v152 c0_i32_79
  let v157 : BitVec 1 := Scalar.andi v156 v153
  let v158 : BitVec 32 := Scalar.addi v152 v151
  let v159 : BitVec 32 := Scalar.select v157 v158 v152
  let v160 : BitVec 32 := Scalar.subi c1_i32_82 v159
  let v632 : BitVec 32 := Scalar.subi c1_i32_495 v160
  let v633 : BitVec 32 := Scalar.muli c1_i32_496 v632
  let v634 : BitVec 32 := Scalar.addi v564 v633
  let c1_i32_559 : BitVec 32 := 1#32
  let c1_i32_558 : BitVec 32 := 1#32
  let v692 : BitVec 32 := Scalar.subi c1_i32_558 v160
  let v693 : BitVec 32 := Scalar.muli c1_i32_559 v692
  let v694 : BitVec 32 := Scalar.subi v634 v693
  let c2_i32_617 : BitVec 32 := 2#32
  let c1_i32_616 : BitVec 32 := 1#32
  let v742 : BitVec 32 := Scalar.subi c1_i32_616 v196
  let v743 : BitVec 32 := Scalar.muli c2_i32_617 v742
  let v744 : BitVec 32 := Scalar.subi v694 v743
  let c16_i32_632 : BitVec 32 := 16#32
  let v759 : BitVec 32 := Scalar.muli v744 c16_i32_632
  let v760 : BitVec 32 := Scalar.addi c512_i32_633 v759
  let c0_i32_640 : BitVec 32 := 0#32
  ![v760.toNat, 0]
def k0_dev21 (d0 : Dev nD) : Nat :=
  let c0_i32_639 : BitVec 32 := 0#32
  let c8_i32_51 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v107 : BitVec 32 := Scalar.muli c8_i32_51 v19
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_50 : BitVec 32 := 2#32
  let v106 : BitVec 32 := Scalar.xori v46 c2_i32_50
  let v108 : BitVec 32 := Scalar.muli c2_i32_52 v106
  let v109 : BitVec 32 := Scalar.addi v107 v108
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v106 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let v120 : BitVec 32 := Scalar.xori v57 v119
  let v121 : BitVec 32 := Scalar.addi v109 v120
  let c1_i32_638 : BitVec 32 := 1#32
  let v761 : BitVec 32 := Scalar.muli v121 c1_i32_638
  let v762 : BitVec 32 := Scalar.addi c0_i32_639 v761
  v762.toNat
def k0_off27 (d0 : Dev nD) : Fin 2 → Nat :=
  let c0_i32_679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_149 : BitVec 32 := 0#32
  let v293 : BitVec 32 := Scalar.muli v2 c0_i32_149
  let c16_i32_191 : BitVec 32 := 16#32
  let c1_i32_190 : BitVec 32 := 1#32
  let c1_i32_68 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v329 : BitVec 32 := Scalar.subi c1_i32_190 v138
  let v330 : BitVec 32 := Scalar.muli c16_i32_191 v329
  let v331 : BitVec 32 := Scalar.addi v293 v330
  let c8_i32_262 : BitVec 32 := 8#32
  let c1_i32_261 : BitVec 32 := 1#32
  let c1_i32_75 : BitVec 32 := 1#32
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v399 : BitVec 32 := Scalar.subi c1_i32_261 v149
  let v400 : BitVec 32 := Scalar.muli c8_i32_262 v399
  let v401 : BitVec 32 := Scalar.addi v331 v400
  let c4_i32_332 : BitVec 32 := 4#32
  let c1_i32_331 : BitVec 32 := 1#32
  let c1_i32_82 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_76 : BitVec 32 := 2#32
  let c0_i32_77 : BitVec 32 := 0#32
  let v150 : BitVec 1 := Scalar.cmpi .eq c2_i32_76 c0_i32_77
  let c1_i32_78 : BitVec 32 := 1#32
  let v151 : BitVec 32 := Scalar.select v150 c1_i32_78 c2_i32_76
  let v152 : BitVec 32 := Scalar.remsi v19 v151
  let c0_i32_80 : BitVec 32 := 0#32
  let v154 : BitVec 1 := Scalar.cmpi .slt v152 c0_i32_80
  let c0_i32_81 : BitVec 32 := 0#32
  let v155 : BitVec 1 := Scalar.cmpi .slt v151 c0_i32_81
  let v156 : BitVec 1 := Scalar.xori v154 v155
  let c0_i32_79 : BitVec 32 := 0#32
  let v153 : BitVec 1 := Scalar.cmpi .ne v152 c0_i32_79
  let v157 : BitVec 1 := Scalar.andi v156 v153
  let v158 : BitVec 32 := Scalar.addi v152 v151
  let v159 : BitVec 32 := Scalar.select v157 v158 v152
  let v160 : BitVec 32 := Scalar.subi c1_i32_82 v159
  let v469 : BitVec 32 := Scalar.subi c1_i32_331 v160
  let v470 : BitVec 32 := Scalar.muli c4_i32_332 v469
  let v471 : BitVec 32 := Scalar.addi v401 v470
  let c2_i32_402 : BitVec 32 := 2#32
  let c1_i32_401 : BitVec 32 := 1#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v539 : BitVec 32 := Scalar.subi c1_i32_401 v178
  let v540 : BitVec 32 := Scalar.muli c2_i32_402 v539
  let v541 : BitVec 32 := Scalar.addi v471 v540
  let c1_i32_472 : BitVec 32 := 1#32
  let c1_i32_471 : BitVec 32 := 1#32
  let c1_i32_98 : BitVec 32 := 1#32
  let c0_i32_92 : BitVec 32 := 0#32
  let v180 : BitVec 1 := Scalar.cmpi .sgt v19 c0_i32_92
  let v181 : BitVec 32 := Scalar.extui v180
  let c0_i32_93 : BitVec 32 := 0#32
  let v182 : BitVec 1 := Scalar.cmpi .slt v19 c0_i32_93
  let v183 : BitVec 32 := Scalar.extui v182
  let v184 : BitVec 32 := Scalar.subi v181 v183
  let c2_i32_91 : BitVec 32 := 2#32
  let c0_i32_94 : BitVec 32 := 0#32
  let v185 : BitVec 1 := Scalar.cmpi .sgt c2_i32_91 c0_i32_94
  let v186 : BitVec 32 := Scalar.extui v185
  let c0_i32_95 : BitVec 32 := 0#32
  let v187 : BitVec 1 := Scalar.cmpi .slt c2_i32_91 c0_i32_95
  let v188 : BitVec 32 := Scalar.extui v187
  let v189 : BitVec 32 := Scalar.subi v186 v188
  let v190 : BitVec 1 := Scalar.cmpi .ne v184 v189
  let v191 : BitVec 32 := Scalar.remsi v19 c2_i32_91
  let c0_i32_96 : BitVec 32 := 0#32
  let v192 : BitVec 1 := Scalar.cmpi .ne v191 c0_i32_96
  let v193 : BitVec 1 := Scalar.andi v190 v192
  let v179 : BitVec 32 := Scalar.divsi v19 c2_i32_91
  let c1_i32_97 : BitVec 32 := 1#32
  let v194 : BitVec 32 := Scalar.subi v179 c1_i32_97
  let v195 : BitVec 32 := Scalar.select v193 v194 v179
  let v196 : BitVec 32 := Scalar.subi c1_i32_98 v195
  let v609 : BitVec 32 := Scalar.subi c1_i32_471 v196
  let v610 : BitVec 32 := Scalar.muli c1_i32_472 v609
  let v611 : BitVec 32 := Scalar.addi v541 v610
  let c1_i32_542 : BitVec 32 := 1#32
  let c1_i32_541 : BitVec 32 := 1#32
  let v679 : BitVec 32 := Scalar.subi c1_i32_541 v196
  let v680 : BitVec 32 := Scalar.muli c1_i32_542 v679
  let v681 : BitVec 32 := Scalar.subi v611 v680
  let c2_i32_600 : BitVec 32 := 2#32
  let c1_i32_599 : BitVec 32 := 1#32
  let v729 : BitVec 32 := Scalar.subi c1_i32_599 v178
  let v730 : BitVec 32 := Scalar.muli c2_i32_600 v729
  let v731 : BitVec 32 := Scalar.subi v681 v730
  let c4_i32_658 : BitVec 32 := 4#32
  let c1_i32_657 : BitVec 32 := 1#32
  let v779 : BitVec 32 := Scalar.subi c1_i32_657 v160
  let v780 : BitVec 32 := Scalar.muli c4_i32_658 v779
  let v781 : BitVec 32 := Scalar.subi v731 v780
  let c16_i32_678 : BitVec 32 := 16#32
  let v797 : BitVec 32 := Scalar.muli v781 c16_i32_678
  let v798 : BitVec 32 := Scalar.addi c0_i32_679 v797
  let c0_i32_686 : BitVec 32 := 0#32
  ![v798.toNat, 0]
def k0_dev22 (d0 : Dev nD) : Nat :=
  let c0_i32_685 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v75 : BitVec 32 := Scalar.muli c8_i32_33 v19
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_35 : BitVec 32 := 2#32
  let c0_i32_36 : BitVec 32 := 0#32
  let v78 : BitVec 1 := Scalar.cmpi .eq c2_i32_35 c0_i32_36
  let c1_i32_37 : BitVec 32 := 1#32
  let v79 : BitVec 32 := Scalar.select v78 c1_i32_37 c2_i32_35
  let v80 : BitVec 32 := Scalar.remsi v74 v79
  let c0_i32_39 : BitVec 32 := 0#32
  let v82 : BitVec 1 := Scalar.cmpi .slt v80 c0_i32_39
  let c0_i32_40 : BitVec 32 := 0#32
  let v83 : BitVec 1 := Scalar.cmpi .slt v79 c0_i32_40
  let v84 : BitVec 1 := Scalar.xori v82 v83
  let c0_i32_38 : BitVec 32 := 0#32
  let v81 : BitVec 1 := Scalar.cmpi .ne v80 c0_i32_38
  let v85 : BitVec 1 := Scalar.andi v84 v81
  let v86 : BitVec 32 := Scalar.addi v80 v79
  let v87 : BitVec 32 := Scalar.select v85 v86 v80
  let v88 : BitVec 32 := Scalar.xori v57 v87
  let v89 : BitVec 32 := Scalar.addi v77 v88
  let c1_i32_684 : BitVec 32 := 1#32
  let v799 : BitVec 32 := Scalar.muli v89 c1_i32_684
  let v800 : BitVec 32 := Scalar.addi c0_i32_685 v799
  v800.toNat
def k0_off28 (d0 : Dev nD) : Fin 2 → Nat :=
  let c512_i32_691 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_150 : BitVec 32 := 0#32
  let v294 : BitVec 32 := Scalar.muli v2 c0_i32_150
  let c16_i32_216 : BitVec 32 := 16#32
  let c1_i32_215 : BitVec 32 := 1#32
  let c1_i32_75 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v352 : BitVec 32 := Scalar.subi c1_i32_215 v149
  let v353 : BitVec 32 := Scalar.muli c16_i32_216 v352
  let v354 : BitVec 32 := Scalar.addi v294 v353
  let c8_i32_286 : BitVec 32 := 8#32
  let c1_i32_285 : BitVec 32 := 1#32
  let c1_i32_68 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v422 : BitVec 32 := Scalar.subi c1_i32_285 v138
  let v423 : BitVec 32 := Scalar.muli c8_i32_286 v422
  let v424 : BitVec 32 := Scalar.addi v354 v423
  let c4_i32_356 : BitVec 32 := 4#32
  let c1_i32_355 : BitVec 32 := 1#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v492 : BitVec 32 := Scalar.subi c1_i32_355 v178
  let v493 : BitVec 32 := Scalar.muli c4_i32_356 v492
  let v494 : BitVec 32 := Scalar.addi v424 v493
  let c2_i32_426 : BitVec 32 := 2#32
  let c1_i32_425 : BitVec 32 := 1#32
  let c1_i32_98 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_92 : BitVec 32 := 0#32
  let v180 : BitVec 1 := Scalar.cmpi .sgt v19 c0_i32_92
  let v181 : BitVec 32 := Scalar.extui v180
  let c0_i32_93 : BitVec 32 := 0#32
  let v182 : BitVec 1 := Scalar.cmpi .slt v19 c0_i32_93
  let v183 : BitVec 32 := Scalar.extui v182
  let v184 : BitVec 32 := Scalar.subi v181 v183
  let c2_i32_91 : BitVec 32 := 2#32
  let c0_i32_94 : BitVec 32 := 0#32
  let v185 : BitVec 1 := Scalar.cmpi .sgt c2_i32_91 c0_i32_94
  let v186 : BitVec 32 := Scalar.extui v185
  let c0_i32_95 : BitVec 32 := 0#32
  let v187 : BitVec 1 := Scalar.cmpi .slt c2_i32_91 c0_i32_95
  let v188 : BitVec 32 := Scalar.extui v187
  let v189 : BitVec 32 := Scalar.subi v186 v188
  let v190 : BitVec 1 := Scalar.cmpi .ne v184 v189
  let v191 : BitVec 32 := Scalar.remsi v19 c2_i32_91
  let c0_i32_96 : BitVec 32 := 0#32
  let v192 : BitVec 1 := Scalar.cmpi .ne v191 c0_i32_96
  let v193 : BitVec 1 := Scalar.andi v190 v192
  let v179 : BitVec 32 := Scalar.divsi v19 c2_i32_91
  let c1_i32_97 : BitVec 32 := 1#32
  let v194 : BitVec 32 := Scalar.subi v179 c1_i32_97
  let v195 : BitVec 32 := Scalar.select v193 v194 v179
  let v196 : BitVec 32 := Scalar.subi c1_i32_98 v195
  let v562 : BitVec 32 := Scalar.subi c1_i32_425 v196
  let v563 : BitVec 32 := Scalar.muli c2_i32_426 v562
  let v564 : BitVec 32 := Scalar.addi v494 v563
  let c1_i32_496 : BitVec 32 := 1#32
  let c1_i32_495 : BitVec 32 := 1#32
  let c1_i32_82 : BitVec 32 := 1#32
  let c2_i32_76 : BitVec 32 := 2#32
  let c0_i32_77 : BitVec 32 := 0#32
  let v150 : BitVec 1 := Scalar.cmpi .eq c2_i32_76 c0_i32_77
  let c1_i32_78 : BitVec 32 := 1#32
  let v151 : BitVec 32 := Scalar.select v150 c1_i32_78 c2_i32_76
  let v152 : BitVec 32 := Scalar.remsi v19 v151
  let c0_i32_80 : BitVec 32 := 0#32
  let v154 : BitVec 1 := Scalar.cmpi .slt v152 c0_i32_80
  let c0_i32_81 : BitVec 32 := 0#32
  let v155 : BitVec 1 := Scalar.cmpi .slt v151 c0_i32_81
  let v156 : BitVec 1 := Scalar.xori v154 v155
  let c0_i32_79 : BitVec 32 := 0#32
  let v153 : BitVec 1 := Scalar.cmpi .ne v152 c0_i32_79
  let v157 : BitVec 1 := Scalar.andi v156 v153
  let v158 : BitVec 32 := Scalar.addi v152 v151
  let v159 : BitVec 32 := Scalar.select v157 v158 v152
  let v160 : BitVec 32 := Scalar.subi c1_i32_82 v159
  let v632 : BitVec 32 := Scalar.subi c1_i32_495 v160
  let v633 : BitVec 32 := Scalar.muli c1_i32_496 v632
  let v634 : BitVec 32 := Scalar.addi v564 v633
  let c1_i32_559 : BitVec 32 := 1#32
  let c1_i32_558 : BitVec 32 := 1#32
  let v692 : BitVec 32 := Scalar.subi c1_i32_558 v160
  let v693 : BitVec 32 := Scalar.muli c1_i32_559 v692
  let v694 : BitVec 32 := Scalar.subi v634 v693
  let c2_i32_617 : BitVec 32 := 2#32
  let c1_i32_616 : BitVec 32 := 1#32
  let v742 : BitVec 32 := Scalar.subi c1_i32_616 v196
  let v743 : BitVec 32 := Scalar.muli c2_i32_617 v742
  let v744 : BitVec 32 := Scalar.subi v694 v743
  let c4_i32_675 : BitVec 32 := 4#32
  let c1_i32_674 : BitVec 32 := 1#32
  let v792 : BitVec 32 := Scalar.subi c1_i32_674 v178
  let v793 : BitVec 32 := Scalar.muli c4_i32_675 v792
  let v794 : BitVec 32 := Scalar.subi v744 v793
  let c16_i32_690 : BitVec 32 := 16#32
  let v809 : BitVec 32 := Scalar.muli v794 c16_i32_690
  let v810 : BitVec 32 := Scalar.addi c512_i32_691 v809
  let c0_i32_698 : BitVec 32 := 0#32
  ![v810.toNat, 0]
def k0_dev23 (d0 : Dev nD) : Nat :=
  let c0_i32_697 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let c2_i32_26 : BitVec 32 := 2#32
  let c0_i32_27 : BitVec 32 := 0#32
  let v62 : BitVec 1 := Scalar.cmpi .eq c2_i32_26 c0_i32_27
  let c1_i32_28 : BitVec 32 := 1#32
  let v63 : BitVec 32 := Scalar.select v62 c1_i32_28 c2_i32_26
  let v64 : BitVec 32 := Scalar.remsi v46 v63
  let c0_i32_30 : BitVec 32 := 0#32
  let v66 : BitVec 1 := Scalar.cmpi .slt v64 c0_i32_30
  let c0_i32_31 : BitVec 32 := 0#32
  let v67 : BitVec 1 := Scalar.cmpi .slt v63 c0_i32_31
  let v68 : BitVec 1 := Scalar.xori v66 v67
  let c0_i32_29 : BitVec 32 := 0#32
  let v65 : BitVec 1 := Scalar.cmpi .ne v64 c0_i32_29
  let v69 : BitVec 1 := Scalar.andi v68 v65
  let v70 : BitVec 32 := Scalar.addi v64 v63
  let v71 : BitVec 32 := Scalar.select v69 v70 v64
  let v72 : BitVec 32 := Scalar.xori v58 v71
  let v73 : BitVec 32 := Scalar.addi v61 v72
  let c1_i32_696 : BitVec 32 := 1#32
  let v811 : BitVec 32 := Scalar.muli v73 c1_i32_696
  let v812 : BitVec 32 := Scalar.addi c0_i32_697 v811
  v812.toNat
def k0_off29 (d0 : Dev nD) : Fin 2 → Nat :=
  let c0_i32_737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_149 : BitVec 32 := 0#32
  let v293 : BitVec 32 := Scalar.muli v2 c0_i32_149
  let c16_i32_191 : BitVec 32 := 16#32
  let c1_i32_190 : BitVec 32 := 1#32
  let c1_i32_68 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v329 : BitVec 32 := Scalar.subi c1_i32_190 v138
  let v330 : BitVec 32 := Scalar.muli c16_i32_191 v329
  let v331 : BitVec 32 := Scalar.addi v293 v330
  let c8_i32_262 : BitVec 32 := 8#32
  let c1_i32_261 : BitVec 32 := 1#32
  let c1_i32_75 : BitVec 32 := 1#32
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v399 : BitVec 32 := Scalar.subi c1_i32_261 v149
  let v400 : BitVec 32 := Scalar.muli c8_i32_262 v399
  let v401 : BitVec 32 := Scalar.addi v331 v400
  let c4_i32_332 : BitVec 32 := 4#32
  let c1_i32_331 : BitVec 32 := 1#32
  let c1_i32_82 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_76 : BitVec 32 := 2#32
  let c0_i32_77 : BitVec 32 := 0#32
  let v150 : BitVec 1 := Scalar.cmpi .eq c2_i32_76 c0_i32_77
  let c1_i32_78 : BitVec 32 := 1#32
  let v151 : BitVec 32 := Scalar.select v150 c1_i32_78 c2_i32_76
  let v152 : BitVec 32 := Scalar.remsi v19 v151
  let c0_i32_80 : BitVec 32 := 0#32
  let v154 : BitVec 1 := Scalar.cmpi .slt v152 c0_i32_80
  let c0_i32_81 : BitVec 32 := 0#32
  let v155 : BitVec 1 := Scalar.cmpi .slt v151 c0_i32_81
  let v156 : BitVec 1 := Scalar.xori v154 v155
  let c0_i32_79 : BitVec 32 := 0#32
  let v153 : BitVec 1 := Scalar.cmpi .ne v152 c0_i32_79
  let v157 : BitVec 1 := Scalar.andi v156 v153
  let v158 : BitVec 32 := Scalar.addi v152 v151
  let v159 : BitVec 32 := Scalar.select v157 v158 v152
  let v160 : BitVec 32 := Scalar.subi c1_i32_82 v159
  let v469 : BitVec 32 := Scalar.subi c1_i32_331 v160
  let v470 : BitVec 32 := Scalar.muli c4_i32_332 v469
  let v471 : BitVec 32 := Scalar.addi v401 v470
  let c2_i32_402 : BitVec 32 := 2#32
  let c1_i32_401 : BitVec 32 := 1#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v539 : BitVec 32 := Scalar.subi c1_i32_401 v178
  let v540 : BitVec 32 := Scalar.muli c2_i32_402 v539
  let v541 : BitVec 32 := Scalar.addi v471 v540
  let c1_i32_472 : BitVec 32 := 1#32
  let c1_i32_471 : BitVec 32 := 1#32
  let c1_i32_98 : BitVec 32 := 1#32
  let c0_i32_92 : BitVec 32 := 0#32
  let v180 : BitVec 1 := Scalar.cmpi .sgt v19 c0_i32_92
  let v181 : BitVec 32 := Scalar.extui v180
  let c0_i32_93 : BitVec 32 := 0#32
  let v182 : BitVec 1 := Scalar.cmpi .slt v19 c0_i32_93
  let v183 : BitVec 32 := Scalar.extui v182
  let v184 : BitVec 32 := Scalar.subi v181 v183
  let c2_i32_91 : BitVec 32 := 2#32
  let c0_i32_94 : BitVec 32 := 0#32
  let v185 : BitVec 1 := Scalar.cmpi .sgt c2_i32_91 c0_i32_94
  let v186 : BitVec 32 := Scalar.extui v185
  let c0_i32_95 : BitVec 32 := 0#32
  let v187 : BitVec 1 := Scalar.cmpi .slt c2_i32_91 c0_i32_95
  let v188 : BitVec 32 := Scalar.extui v187
  let v189 : BitVec 32 := Scalar.subi v186 v188
  let v190 : BitVec 1 := Scalar.cmpi .ne v184 v189
  let v191 : BitVec 32 := Scalar.remsi v19 c2_i32_91
  let c0_i32_96 : BitVec 32 := 0#32
  let v192 : BitVec 1 := Scalar.cmpi .ne v191 c0_i32_96
  let v193 : BitVec 1 := Scalar.andi v190 v192
  let v179 : BitVec 32 := Scalar.divsi v19 c2_i32_91
  let c1_i32_97 : BitVec 32 := 1#32
  let v194 : BitVec 32 := Scalar.subi v179 c1_i32_97
  let v195 : BitVec 32 := Scalar.select v193 v194 v179
  let v196 : BitVec 32 := Scalar.subi c1_i32_98 v195
  let v609 : BitVec 32 := Scalar.subi c1_i32_471 v196
  let v610 : BitVec 32 := Scalar.muli c1_i32_472 v609
  let v611 : BitVec 32 := Scalar.addi v541 v610
  let c1_i32_542 : BitVec 32 := 1#32
  let c1_i32_541 : BitVec 32 := 1#32
  let v679 : BitVec 32 := Scalar.subi c1_i32_541 v196
  let v680 : BitVec 32 := Scalar.muli c1_i32_542 v679
  let v681 : BitVec 32 := Scalar.subi v611 v680
  let c2_i32_600 : BitVec 32 := 2#32
  let c1_i32_599 : BitVec 32 := 1#32
  let v729 : BitVec 32 := Scalar.subi c1_i32_599 v178
  let v730 : BitVec 32 := Scalar.muli c2_i32_600 v729
  let v731 : BitVec 32 := Scalar.subi v681 v730
  let c4_i32_658 : BitVec 32 := 4#32
  let c1_i32_657 : BitVec 32 := 1#32
  let v779 : BitVec 32 := Scalar.subi c1_i32_657 v160
  let v780 : BitVec 32 := Scalar.muli c4_i32_658 v779
  let v781 : BitVec 32 := Scalar.subi v731 v780
  let c8_i32_716 : BitVec 32 := 8#32
  let c1_i32_715 : BitVec 32 := 1#32
  let v829 : BitVec 32 := Scalar.subi c1_i32_715 v149
  let v830 : BitVec 32 := Scalar.muli c8_i32_716 v829
  let v831 : BitVec 32 := Scalar.subi v781 v830
  let c16_i32_736 : BitVec 32 := 16#32
  let v847 : BitVec 32 := Scalar.muli v831 c16_i32_736
  let v848 : BitVec 32 := Scalar.addi c0_i32_737 v847
  let c0_i32_744 : BitVec 32 := 0#32
  ![v848.toNat, 0]
def k0_dev24 (d0 : Dev nD) : Nat :=
  let c0_i32_743 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let c2_i32_26 : BitVec 32 := 2#32
  let c0_i32_27 : BitVec 32 := 0#32
  let v62 : BitVec 1 := Scalar.cmpi .eq c2_i32_26 c0_i32_27
  let c1_i32_28 : BitVec 32 := 1#32
  let v63 : BitVec 32 := Scalar.select v62 c1_i32_28 c2_i32_26
  let v64 : BitVec 32 := Scalar.remsi v46 v63
  let c0_i32_30 : BitVec 32 := 0#32
  let v66 : BitVec 1 := Scalar.cmpi .slt v64 c0_i32_30
  let c0_i32_31 : BitVec 32 := 0#32
  let v67 : BitVec 1 := Scalar.cmpi .slt v63 c0_i32_31
  let v68 : BitVec 1 := Scalar.xori v66 v67
  let c0_i32_29 : BitVec 32 := 0#32
  let v65 : BitVec 1 := Scalar.cmpi .ne v64 c0_i32_29
  let v69 : BitVec 1 := Scalar.andi v68 v65
  let v70 : BitVec 32 := Scalar.addi v64 v63
  let v71 : BitVec 32 := Scalar.select v69 v70 v64
  let v72 : BitVec 32 := Scalar.xori v58 v71
  let v73 : BitVec 32 := Scalar.addi v61 v72
  let c1_i32_742 : BitVec 32 := 1#32
  let v849 : BitVec 32 := Scalar.muli v73 c1_i32_742
  let v850 : BitVec 32 := Scalar.addi c0_i32_743 v849
  v850.toNat
def k0_off30 (d0 : Dev nD) : Fin 2 → Nat :=
  let c512_i32_749 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_150 : BitVec 32 := 0#32
  let v294 : BitVec 32 := Scalar.muli v2 c0_i32_150
  let c16_i32_216 : BitVec 32 := 16#32
  let c1_i32_215 : BitVec 32 := 1#32
  let c1_i32_75 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_69 : BitVec 32 := 2#32
  let c0_i32_70 : BitVec 32 := 0#32
  let v139 : BitVec 1 := Scalar.cmpi .eq c2_i32_69 c0_i32_70
  let c1_i32_71 : BitVec 32 := 1#32
  let v140 : BitVec 32 := Scalar.select v139 c1_i32_71 c2_i32_69
  let v141 : BitVec 32 := Scalar.remsi v46 v140
  let c0_i32_73 : BitVec 32 := 0#32
  let v143 : BitVec 1 := Scalar.cmpi .slt v141 c0_i32_73
  let c0_i32_74 : BitVec 32 := 0#32
  let v144 : BitVec 1 := Scalar.cmpi .slt v140 c0_i32_74
  let v145 : BitVec 1 := Scalar.xori v143 v144
  let c0_i32_72 : BitVec 32 := 0#32
  let v142 : BitVec 1 := Scalar.cmpi .ne v141 c0_i32_72
  let v146 : BitVec 1 := Scalar.andi v145 v142
  let v147 : BitVec 32 := Scalar.addi v141 v140
  let v148 : BitVec 32 := Scalar.select v146 v147 v141
  let v149 : BitVec 32 := Scalar.subi c1_i32_75 v148
  let v352 : BitVec 32 := Scalar.subi c1_i32_215 v149
  let v353 : BitVec 32 := Scalar.muli c16_i32_216 v352
  let v354 : BitVec 32 := Scalar.addi v294 v353
  let c8_i32_286 : BitVec 32 := 8#32
  let c1_i32_285 : BitVec 32 := 1#32
  let c1_i32_68 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v138 : BitVec 32 := Scalar.subi c1_i32_68 v57
  let v422 : BitVec 32 := Scalar.subi c1_i32_285 v138
  let v423 : BitVec 32 := Scalar.muli c8_i32_286 v422
  let v424 : BitVec 32 := Scalar.addi v354 v423
  let c4_i32_356 : BitVec 32 := 4#32
  let c1_i32_355 : BitVec 32 := 1#32
  let c1_i32_90 : BitVec 32 := 1#32
  let c0_i32_84 : BitVec 32 := 0#32
  let v162 : BitVec 1 := Scalar.cmpi .sgt v46 c0_i32_84
  let v163 : BitVec 32 := Scalar.extui v162
  let c0_i32_85 : BitVec 32 := 0#32
  let v164 : BitVec 1 := Scalar.cmpi .slt v46 c0_i32_85
  let v165 : BitVec 32 := Scalar.extui v164
  let v166 : BitVec 32 := Scalar.subi v163 v165
  let c2_i32_83 : BitVec 32 := 2#32
  let c0_i32_86 : BitVec 32 := 0#32
  let v167 : BitVec 1 := Scalar.cmpi .sgt c2_i32_83 c0_i32_86
  let v168 : BitVec 32 := Scalar.extui v167
  let c0_i32_87 : BitVec 32 := 0#32
  let v169 : BitVec 1 := Scalar.cmpi .slt c2_i32_83 c0_i32_87
  let v170 : BitVec 32 := Scalar.extui v169
  let v171 : BitVec 32 := Scalar.subi v168 v170
  let v172 : BitVec 1 := Scalar.cmpi .ne v166 v171
  let v173 : BitVec 32 := Scalar.remsi v46 c2_i32_83
  let c0_i32_88 : BitVec 32 := 0#32
  let v174 : BitVec 1 := Scalar.cmpi .ne v173 c0_i32_88
  let v175 : BitVec 1 := Scalar.andi v172 v174
  let v161 : BitVec 32 := Scalar.divsi v46 c2_i32_83
  let c1_i32_89 : BitVec 32 := 1#32
  let v176 : BitVec 32 := Scalar.subi v161 c1_i32_89
  let v177 : BitVec 32 := Scalar.select v175 v176 v161
  let v178 : BitVec 32 := Scalar.subi c1_i32_90 v177
  let v492 : BitVec 32 := Scalar.subi c1_i32_355 v178
  let v493 : BitVec 32 := Scalar.muli c4_i32_356 v492
  let v494 : BitVec 32 := Scalar.addi v424 v493
  let c2_i32_426 : BitVec 32 := 2#32
  let c1_i32_425 : BitVec 32 := 1#32
  let c1_i32_98 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_92 : BitVec 32 := 0#32
  let v180 : BitVec 1 := Scalar.cmpi .sgt v19 c0_i32_92
  let v181 : BitVec 32 := Scalar.extui v180
  let c0_i32_93 : BitVec 32 := 0#32
  let v182 : BitVec 1 := Scalar.cmpi .slt v19 c0_i32_93
  let v183 : BitVec 32 := Scalar.extui v182
  let v184 : BitVec 32 := Scalar.subi v181 v183
  let c2_i32_91 : BitVec 32 := 2#32
  let c0_i32_94 : BitVec 32 := 0#32
  let v185 : BitVec 1 := Scalar.cmpi .sgt c2_i32_91 c0_i32_94
  let v186 : BitVec 32 := Scalar.extui v185
  let c0_i32_95 : BitVec 32 := 0#32
  let v187 : BitVec 1 := Scalar.cmpi .slt c2_i32_91 c0_i32_95
  let v188 : BitVec 32 := Scalar.extui v187
  let v189 : BitVec 32 := Scalar.subi v186 v188
  let v190 : BitVec 1 := Scalar.cmpi .ne v184 v189
  let v191 : BitVec 32 := Scalar.remsi v19 c2_i32_91
  let c0_i32_96 : BitVec 32 := 0#32
  let v192 : BitVec 1 := Scalar.cmpi .ne v191 c0_i32_96
  let v193 : BitVec 1 := Scalar.andi v190 v192
  let v179 : BitVec 32 := Scalar.divsi v19 c2_i32_91
  let c1_i32_97 : BitVec 32 := 1#32
  let v194 : BitVec 32 := Scalar.subi v179 c1_i32_97
  let v195 : BitVec 32 := Scalar.select v193 v194 v179
  let v196 : BitVec 32 := Scalar.subi c1_i32_98 v195
  let v562 : BitVec 32 := Scalar.subi c1_i32_425 v196
  let v563 : BitVec 32 := Scalar.muli c2_i32_426 v562
  let v564 : BitVec 32 := Scalar.addi v494 v563
  let c1_i32_496 : BitVec 32 := 1#32
  let c1_i32_495 : BitVec 32 := 1#32
  let c1_i32_82 : BitVec 32 := 1#32
  let c2_i32_76 : BitVec 32 := 2#32
  let c0_i32_77 : BitVec 32 := 0#32
  let v150 : BitVec 1 := Scalar.cmpi .eq c2_i32_76 c0_i32_77
  let c1_i32_78 : BitVec 32 := 1#32
  let v151 : BitVec 32 := Scalar.select v150 c1_i32_78 c2_i32_76
  let v152 : BitVec 32 := Scalar.remsi v19 v151
  let c0_i32_80 : BitVec 32 := 0#32
  let v154 : BitVec 1 := Scalar.cmpi .slt v152 c0_i32_80
  let c0_i32_81 : BitVec 32 := 0#32
  let v155 : BitVec 1 := Scalar.cmpi .slt v151 c0_i32_81
  let v156 : BitVec 1 := Scalar.xori v154 v155
  let c0_i32_79 : BitVec 32 := 0#32
  let v153 : BitVec 1 := Scalar.cmpi .ne v152 c0_i32_79
  let v157 : BitVec 1 := Scalar.andi v156 v153
  let v158 : BitVec 32 := Scalar.addi v152 v151
  let v159 : BitVec 32 := Scalar.select v157 v158 v152
  let v160 : BitVec 32 := Scalar.subi c1_i32_82 v159
  let v632 : BitVec 32 := Scalar.subi c1_i32_495 v160
  let v633 : BitVec 32 := Scalar.muli c1_i32_496 v632
  let v634 : BitVec 32 := Scalar.addi v564 v633
  let c1_i32_559 : BitVec 32 := 1#32
  let c1_i32_558 : BitVec 32 := 1#32
  let v692 : BitVec 32 := Scalar.subi c1_i32_558 v160
  let v693 : BitVec 32 := Scalar.muli c1_i32_559 v692
  let v694 : BitVec 32 := Scalar.subi v634 v693
  let c2_i32_617 : BitVec 32 := 2#32
  let c1_i32_616 : BitVec 32 := 1#32
  let v742 : BitVec 32 := Scalar.subi c1_i32_616 v196
  let v743 : BitVec 32 := Scalar.muli c2_i32_617 v742
  let v744 : BitVec 32 := Scalar.subi v694 v743
  let c4_i32_675 : BitVec 32 := 4#32
  let c1_i32_674 : BitVec 32 := 1#32
  let v792 : BitVec 32 := Scalar.subi c1_i32_674 v178
  let v793 : BitVec 32 := Scalar.muli c4_i32_675 v792
  let v794 : BitVec 32 := Scalar.subi v744 v793
  let c8_i32_733 : BitVec 32 := 8#32
  let c1_i32_732 : BitVec 32 := 1#32
  let v842 : BitVec 32 := Scalar.subi c1_i32_732 v138
  let v843 : BitVec 32 := Scalar.muli c8_i32_733 v842
  let v844 : BitVec 32 := Scalar.subi v794 v843
  let c16_i32_748 : BitVec 32 := 16#32
  let v859 : BitVec 32 := Scalar.muli v844 c16_i32_748
  let v860 : BitVec 32 := Scalar.addi c512_i32_749 v859
  let c0_i32_756 : BitVec 32 := 0#32
  ![v860.toNat, 0]
def k0_dev25 (d0 : Dev nD) : Nat :=
  let c0_i32_755 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v75 : BitVec 32 := Scalar.muli c8_i32_33 v19
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c2_i32_35 : BitVec 32 := 2#32
  let c0_i32_36 : BitVec 32 := 0#32
  let v78 : BitVec 1 := Scalar.cmpi .eq c2_i32_35 c0_i32_36
  let c1_i32_37 : BitVec 32 := 1#32
  let v79 : BitVec 32 := Scalar.select v78 c1_i32_37 c2_i32_35
  let v80 : BitVec 32 := Scalar.remsi v74 v79
  let c0_i32_39 : BitVec 32 := 0#32
  let v82 : BitVec 1 := Scalar.cmpi .slt v80 c0_i32_39
  let c0_i32_40 : BitVec 32 := 0#32
  let v83 : BitVec 1 := Scalar.cmpi .slt v79 c0_i32_40
  let v84 : BitVec 1 := Scalar.xori v82 v83
  let c0_i32_38 : BitVec 32 := 0#32
  let v81 : BitVec 1 := Scalar.cmpi .ne v80 c0_i32_38
  let v85 : BitVec 1 := Scalar.andi v84 v81
  let v86 : BitVec 32 := Scalar.addi v80 v79
  let v87 : BitVec 32 := Scalar.select v85 v86 v80
  let v88 : BitVec 32 := Scalar.xori v57 v87
  let v89 : BitVec 32 := Scalar.addi v77 v88
  let c1_i32_754 : BitVec 32 := 1#32
  let v861 : BitVec 32 := Scalar.muli v89 c1_i32_754
  let v862 : BitVec 32 := Scalar.addi c0_i32_755 v861
  v862.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x512 : Shape := ⟨2, ![1024, 512]⟩
abbrev S512x128 : Shape := ⟨2, ![512, 128]⟩
abbrev S1024x1 : Shape := ⟨2, ![1024, 1]⟩
abbrev S128x512x1024 : Shape := ⟨3, ![128, 512, 1024]⟩
abbrev S512x1024 : Shape := ⟨2, ![512, 1024]⟩
abbrev S1024x128 : Shape := ⟨2, ![1024, 128]⟩
abbrev S_ : Shape := ⟨0, ![]⟩
abbrev S1024 : Shape := ⟨1, ![1024]⟩
abbrev S1024x1024 : Shape := ⟨2, ![1024, 1024]⟩
abbrev S1024x1x1 : Shape := ⟨3, ![1024, 1, 1]⟩
abbrev S1 : Shape := ⟨1, ![1]⟩
abbrev S1x1x1 : Shape := ⟨3, ![1, 1, 1]⟩
abbrev S1024x512x1024 : Shape := ⟨3, ![1024, 512, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x128, .bf16⟩
  | .hbm, ⟨2, _⟩ => ⟨S1024x1, .i32⟩
  | .hbm, ⟨3, _⟩ => ⟨S128x512x1024, .bf16⟩
  | .hbm, ⟨4, _⟩ => ⟨S512x1024, .bf16⟩
  | .hbm, ⟨5, _⟩ => ⟨S1024x512, .f32⟩
  | .hbm, ⟨6, _⟩ => ⟨S512x128, .f32⟩
  | .hbm, ⟨7, _⟩ => ⟨S128x512x1024, .f32⟩
  | .hbm, ⟨8, _⟩ => ⟨S512x1024, .f32⟩
  | .hbm, ⟨9, _⟩ => ⟨S1024x128, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S1024x128, .f32⟩
  | .hbm, ⟨20, _⟩ => ⟨S1024x128, .f32⟩
  | .hbm, ⟨21, _⟩ => ⟨S1024x1024, .f32⟩
  | .hbm, ⟨22, _⟩ => ⟨S_, .i32⟩
  | .hbm, ⟨23, _⟩ => ⟨S1024x1, .i32⟩
  | .hbm, ⟨24, _⟩ => ⟨S1024x1, .i1⟩
  | .hbm, ⟨25, _⟩ => ⟨S_, .i32⟩
  | .hbm, ⟨26, _⟩ => ⟨S1024x1, .i32⟩
  | .hbm, ⟨27, _⟩ => ⟨S1024x1, .i32⟩
  | .hbm, ⟨28, _⟩ => ⟨S1024x1, .i32⟩
  | .hbm, ⟨29, _⟩ => ⟨S1024x1x1, .i32⟩
  | .hbm, ⟨30, _⟩ => ⟨S1, .i32⟩
  | .hbm, ⟨31, _⟩ => ⟨S_, .i32⟩
  | .hbm, ⟨32, _⟩ => ⟨S1024x1x1, .i32⟩
  | .hbm, ⟨33, _⟩ => ⟨S1024x1x1, .i1⟩
  | .hbm, ⟨34, _⟩ => ⟨S1x1x1, .i32⟩
  | .hbm, ⟨35, _⟩ => ⟨S1024x1x1, .i32⟩
  | .hbm, ⟨36, _⟩ => ⟨S1024x1x1, .i1⟩
  | .hbm, ⟨37, _⟩ => ⟨S1024x1x1, .i1⟩
  | .hbm, ⟨38, _⟩ => ⟨S_, .i1⟩
  | .hbm, ⟨39, _⟩ => ⟨S1024x1, .i1⟩
  | .hbm, ⟨40, _⟩ => ⟨S1024x1, .f32⟩
  | .hbm, ⟨41, _⟩ => ⟨S_, .f32⟩
  | .hbm, ⟨42, _⟩ => ⟨S1024x1, .f32⟩
  | .hbm, ⟨43, _⟩ => ⟨S1024x1, .f32⟩
  | .hbm, ⟨44, _⟩ => ⟨S1024, .i32⟩
  | .hbm, ⟨45, _⟩ => ⟨S_, .i32⟩
  | .hbm, ⟨46, _⟩ => ⟨S1024, .i32⟩
  | .hbm, ⟨47, _⟩ => ⟨S1024, .i1⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S1024x1, .i32⟩
  | .hbm, ⟨53, _⟩ => ⟨S1024x512x1024, .f32⟩
  | .hbm, ⟨54, _⟩ => ⟨S1024x1024, .f32⟩
  | .hbm, ⟨55, _⟩ => ⟨S1024x1024, .f32⟩
  | .hbm, ⟨56, _⟩ => ⟨S1024x1024, .f32⟩
  | .hbm, ⟨57, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v15 : Ref sig .tc := ⟨.hbm, 43, rfl⟩
abbrev main_v16 : Ref sig .tc := ⟨.hbm, 44, rfl⟩
abbrev main_c : Ref sig .tc := ⟨.hbm, 45, rfl⟩
abbrev main_v17 : Ref sig .tc := ⟨.hbm, 46, rfl⟩
abbrev main_v18 : Ref sig .tc := ⟨.hbm, 47, rfl⟩
abbrev main_c_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== Proof.Mesh.lean ====
/-
# The 32 devices, the transfers between them, and the rows each transfer carries

The kernel sums the devices' partial arrays by recursive halving and hands the sum round by recursive doubling, in two
independent groups of 512 rows.  Stage `s` of the halving in group `g` pairs the devices along dimension `ord g s` of the
mesh (five dimensions of two), stage `j` of the doubling along `ord g (4 - j)`.

A transfer is numbered `u = 5 g + s` (halving) or `10 + 5 g + j` (doubling).  This module gives the peer, the rows and the
place in the program of each transfer, and reads the kernel's own device and row words as these.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Halving

open Cert.KernelIdeal Cert.KernelIdeal.Gen
open Idealize.ShloMosaic

/-! ## Devices -/

/-- The bit of a device's logical number that a step along mesh dimension `d` exchanges. -/
def mask (d : ℕ) : ℕ := match d with | 0 => 1 | 1 => 3 | 2 => 8 | 3 => 4 | _ => 16

set_option backward.proofsInPublic true in
/-- The device one step away from `c` along mesh dimension `d`. -/
def par (d : ℕ) (c : Dev nD) : Dev nD := ⟨(c.val ^^^ mask d) % 32, Nat.mod_lt _ (by decide)⟩

/-- The coordinate of `c` along mesh dimension `d`, zero or one. -/
def bit (d : ℕ) (c : Dev nD) : ℕ :=
  match d with | 0 => (c.val + c.val / 2) % 2 | 1 => c.val / 2 % 2 | 2 => c.val / 8 % 2 | 3 => c.val / 4 % 2 | _ => c.val / 16 % 2

/-- The mesh dimension that stage `s` of the halving in group `g` runs along. -/
def ord (g s : ℕ) : ℕ := match g, s with
  | 0, s => s
  | _, 0 => 1 | _, 1 => 0 | _, 2 => 3 | _, 3 => 4 | _, _ => 2

/-- The stage of group `g` that runs along mesh dimension `d`. -/
def stg (g d : ℕ) : ℕ := match g, d with
  | 0, d => d
  | _, 0 => 1 | _, 1 => 0 | _, 2 => 4 | _, 3 => 2 | _, _ => 3

theorem par_par (d : ℕ) (c : Dev nD) : par d (par d c) = c := by
  have h : ∀ d : Fin 5, ∀ c : Dev nD, par d (par d c) = c := by decide +kernel
  rcases Nat.lt_or_ge d 5 with hd | hd
  · exact h ⟨d, hd⟩ c
  · have : ∀ c, par d c = par 4 c := fun c => by
      unfold par mask; rcases d with _ | _ | _ | _ | _ | d <;> first | omega | rfl
    rw [this, this]; exact h 4 c

/-! ## Rows -/

/-- Rows of one piece at stage `s`. -/
def len (s : ℕ) : ℕ := 256 / 2 ^ s

/-- The first row of what `c` holds of group `g` before stage `s`. -/
def prow (g : ℕ) : ℕ → Dev nD → ℕ
  | 0, _ => 512 * g
  | s + 1, c => prow g s c + len s * bit (ord g s) c

/-- The first row of what `c` keeps at stage `s`, -/
def krow (g s : ℕ) (c : Dev nD) : ℕ := prow g s c + len s * bit (ord g s) c
/-- and of what it sends. -/
def srow (g s : ℕ) (c : Dev nD) : ℕ := prow g s c + len s * (1 - bit (ord g s) c)
/-- The first row of the landing slot of stage `s` in group `g`. -/
def slot (g s : ℕ) : ℕ := 512 * g + (512 - 2 * len s)

theorem prow_succ (g s : ℕ) (c : Dev nD) : prow g (s + 1) c = krow g s c := rfl

/-- What is kept and what is sent are the two halves of what was held. -/
theorem halves : ∀ (g : Fin 2) (s : Fin 5) (c : Dev nD),
    (krow g s c = prow g s c ∧ srow g s c = prow g s c + len s) ∨ (srow g s c = prow g s c ∧ krow g s c = prow g s c + len s) := by decide +kernel

/-- The rows sent by a device are those its peer keeps, -/
theorem srow_par : ∀ (g : Fin 2) (s : Fin 5) (c : Dev nD), srow g s (par (ord g s) c) = krow g s c := by decide +kernel
/-- and the other way round. -/
theorem krow_par : ∀ (g : Fin 2) (s : Fin 5) (c : Dev nD), krow g s (par (ord g s) c) = srow g s c := by decide +kernel

theorem krow_le : ∀ (g : Fin 2) (s : Fin 5) (c : Dev nD), krow g s c + len s ≤ 1024 := by decide +kernel
theorem srow_le : ∀ (g : Fin 2) (s : Fin 5) (c : Dev nD), srow g s c + len s ≤ 1024 := by decide +kernel
theorem slot_le : ∀ (g : Fin 2) (s : Fin 5), slot g s + len s ≤ 1024 := by decide +kernel

/-- The 16 rows of block `b` of group `g` are kept to the end by this device. -/
def own (g b : ℕ) : Dev nD := ((List.finRange 32).find? fun c => prow g 5 c = 512 * g + 16 * b).getD 0

theorem own_prow : ∀ (g : Fin 2) (c : Dev nD), 512 * g.val ≤ prow g 5 c ∧ prow g 5 c < 512 * g.val + 512 ∧ prow g 5 c % 16 = 0
    ∧ own g ((prow g 5 c - 512 * g) / 16) = c := by decide +kernel

/-! ## The kernel's device words -/

/-- Peer of transfer `u`: its group, its stage, its dimension. -/
def grp (u : ℕ) : ℕ := u % 10 / 5
def stage (u : ℕ) : ℕ := if u < 10 then u % 5 else 4 - u % 5
def dim (u : ℕ) : ℕ := ord (grp u) (stage u)

theorem dev_bar (c : Dev nD) : (⟨k0_dev1 c, k0_dev1_lt c⟩ : Dev nD) = par 0 c ∧ (⟨k0_dev2 c, k0_dev2_lt c⟩ : Dev nD) = par 1 c
    ∧ (⟨k0_dev3 c, k0_dev3_lt c⟩ : Dev nD) = par 2 c ∧ (⟨k0_dev4 c, k0_dev4_lt c⟩ : Dev nD) = par 3 c
    ∧ (⟨k0_dev5 c, k0_dev5_lt c⟩ : Dev nD) = par 4 c := by revert c; decide +kernel

theorem dev_rs (c : Dev nD) : (⟨k0_dev6 c, k0_dev6_lt c⟩ : Dev nD) = par 0 c ∧ (⟨k0_dev7 c, k0_dev7_lt c⟩ : Dev nD) = par 1 c
    ∧ (⟨k0_dev8 c, k0_dev8_lt c⟩ : Dev nD) = par 1 c ∧ (⟨k0_dev9 c, k0_dev9_lt c⟩ : Dev nD) = par 0 c
    ∧ (⟨k0_dev10 c, k0_dev10_lt c⟩ : Dev nD) = par 2 c ∧ (⟨k0_dev11 c, k0_dev11_lt c⟩ : Dev nD) = par 3 c
    ∧ (⟨k0_dev12 c, k0_dev12_lt c⟩ : Dev nD) = par 3 c ∧ (⟨k0_dev13 c, k0_dev13_lt c⟩ : Dev nD) = par 4 c
    ∧ (⟨k0_dev14 c, k0_dev14_lt c⟩ : Dev nD) = par 4 c ∧ (⟨k0_dev15 c, k0_dev15_lt c⟩ : Dev nD) = par 2 c := by revert c; decide +kernel

theorem dev_ag (c : Dev nD) : (⟨k0_dev16 c, k0_dev16_lt c⟩ : Dev nD) = par 4 c ∧ (⟨k0_dev17 c, k0_dev17_lt c⟩ : Dev nD) = par 2 c
    ∧ (⟨k0_dev18 c, k0_dev18_lt c⟩ : Dev nD) = par 3 c ∧ (⟨k0_dev19 c, k0_dev19_lt c⟩ : Dev nD) = par 4 c
    ∧ (⟨k0_dev20 c, k0_dev20_lt c⟩ : Dev nD) = par 2 c ∧ (⟨k0_dev21 c, k0_dev21_lt c⟩ : Dev nD) = par 3 c
    ∧ (⟨k0_dev22 c, k0_dev22_lt c⟩ : Dev nD) = par 1 c ∧ (⟨k0_dev23 c, k0_dev23_lt c⟩ : Dev nD) = par 0 c
    ∧ (⟨k0_dev24 c, k0_dev24_lt c⟩ : Dev nD) = par 0 c ∧ (⟨k0_dev25 c, k0_dev25_lt c⟩ : Dev nD) = par 1 c := by revert c; decide +kernel

/-! ## The kernel's row words -/

theorem off_send (c : Dev nD) : k0_off1 c = ![srow 0 0 c, 0] ∧ k0_off2 c = ![srow 1 0 c, 0] ∧ k0_off5 c = ![srow 0 1 c, 0] ∧ k0_off6 c = ![srow 1 1 c, 0]
    ∧ k0_off9 c = ![srow 0 2 c, 0] ∧ k0_off10 c = ![srow 1 2 c, 0] ∧ k0_off13 c = ![srow 0 3 c, 0] ∧ k0_off14 c = ![srow 1 3 c, 0]
    ∧ k0_off17 c = ![srow 0 4 c, 0] ∧ k0_off18 c = ![srow 1 4 c, 0] := by revert c; decide +kernel

theorem off_keep (c : Dev nD) : k0_off3 c = ![krow 0 0 c, 0] ∧ k0_off4 c = ![krow 1 0 c, 0] ∧ k0_off7 c = ![krow 0 1 c, 0] ∧ k0_off8 c = ![krow 1 1 c, 0]
    ∧ k0_off11 c = ![krow 0 2 c, 0] ∧ k0_off12 c = ![krow 1 2 c, 0] ∧ k0_off15 c = ![krow 0 3 c, 0] ∧ k0_off16 c = ![krow 1 3 c, 0]
    ∧ k0_off19 c = ![krow 0 4 c, 0] ∧ k0_off20 c = ![krow 1 4 c, 0] := by revert c; decide +kernel

theorem off_back (c : Dev nD) : k0_off21 c = ![krow 0 4 c, 0] ∧ k0_off22 c = ![krow 1 4 c, 0] ∧ k0_off23 c = ![krow 0 3 c, 0] ∧ k0_off24 c = ![krow 1 3 c, 0]
    ∧ k0_off25 c = ![krow 0 2 c, 0] ∧ k0_off26 c = ![krow 1 2 c, 0] ∧ k0_off27 c = ![krow 0 1 c, 0] ∧ k0_off28 c = ![krow 1 1 c, 0]
    ∧ k0_off29 c = ![krow 0 0 c, 0] ∧ k0_off30 c = ![krow 1 0 c, 0] := by revert c; decide +kernel

end Cert.KernelIdeal.Halving
end
-- ==== Proof.Rows.lean ====
/-
# Slabs of rows of the two 1024×1024 buffers

The kernel moves, loads and stores slabs of whole rows only.  A slab of `n` rows from row `a` on is the index set `Rows a n`;
this module says which elements a slab's view covers, what a copy of one slab onto another leaves, and what the addition of
one slab to another leaves.
-/
module

public import proofs.«01_k».proof.Proof.Mesh
public import Idealize.ShloMosaic.Lib.Pipeline.ValueKit.Geometry
public import Idealize.ShloMosaic.Lib.Pointwise.Reshape

@[expose] public section

noncomputable section

namespace Cert.KernelIdeal.Halving

open Cert.KernelIdeal Cert.KernelIdeal.Gen
open Idealize.ShloMosaic

/-- The elements of the rows `a … a + n - 1`. -/
def Rows (a n : ℕ) : Finset S1024x1024.Idx := Finset.univ.filter fun i => a ≤ (i 0).val ∧ (i 0).val < a + n

theorem mem_Rows {a n : ℕ} {i : S1024x1024.Idx} : i ∈ Rows a n ↔ a ≤ (i 0).val ∧ (i 0).val < a + n := by
  unfold Rows; rw [Finset.mem_filter]; exact ⟨fun h => h.2, fun h => ⟨Finset.mem_univ _, h⟩⟩

theorem Rows_disjoint {a n b m : ℕ} (h : a + n ≤ b) : Disjoint (Rows a n) (Rows b m) :=
  Finset.disjoint_left.mpr fun i h1 h2 => by rw [mem_Rows] at h1 h2; omega

theorem Rows_add (a n m : ℕ) : Rows a (n + m) = Rows a n ∪ Rows (a + n) m := by
  ext i; rw [Finset.mem_union, mem_Rows, mem_Rows, mem_Rows]; omega

theorem Rows_univ : Rows 0 1024 = Finset.univ := by
  ext i; rw [mem_Rows]; have : (i 0).val < 1024 := (i 0).isLt
  exact ⟨fun _ => Finset.mem_univ _, fun _ => by omega⟩

set_option backward.proofsInPublic true in
/-- The element in the same column, its row moved from the slab at `a` to the slab at `b`. -/
def shift (a b : ℕ) (i : S1024x1024.Idx) : S1024x1024.Idx := fun k => match k with
  | ⟨0, _⟩ => (⟨((i 0).val - a + b) % 1024, Nat.mod_lt _ (by decide)⟩ : Fin 1024)
  | ⟨1, _⟩ => i 1

/-- The rectangle of `n` whole rows from `o` on. -/
abbrev slabShape (n : ℕ) : Shape := ⟨2, ![n, 1024]⟩

section Slab

variable {n a b : ℕ} {o o' : Fin 2 → ℕ}
  (h : ∀ k, o k + (slabShape n).size k ≤ S1024x1024.size k) (h' : ∀ k, o' k + (slabShape n).size k ≤ S1024x1024.size k)

abbrev slab (o : Fin 2 → ℕ) (h : ∀ k, o k + (slabShape n).size k ≤ S1024x1024.size k) : Rect S1024x1024 :=
  Rect.unit (s := S1024x1024) o (slabShape n).size h

theorem slab_set (ho : o = ![a, 0]) : (slab o h).set = Rows a n := by
  subst ho
  ext i
  rw [Rect.mem_set_unit, mem_Rows, Fin.forall_fin_two]
  have : (i 1).val < 1024 := (i 1).isLt
  show ((a ≤ (i 0).val ∧ (i 0).val < a + n) ∧ (0 ≤ (i 1).val ∧ (i 1).val < 0 + 1024)) ↔ _
  omega

theorem slab_emb (ho : o = ![a, 0]) (j : (slabShape n).Idx) : ((slab o h).emb j 0).val = a + (j 0).val ∧ ((slab o h).emb j 1).val = (j 1).val := by
  subst ho
  refine ⟨?_, ?_⟩
  · show a + 1 * (j 0).val = _; omega
  · show 0 + 1 * (j 1).val = _; omega

theorem slab_mem (ho : o = ![a, 0]) {i : S1024x1024.Idx} (hi : i ∈ Rows a n) : ∃ j : (slabShape n).Idx, (slab o h).emb j = i := by
  rw [← slab_set h ho, ← Rect.map_emb_univ, Finset.mem_map] at hi
  obtain ⟨j, _, hj⟩ := hi
  exact ⟨j, hj⟩

theorem slab_emb_shift (ho : o = ![a, 0]) (ho' : o' = ![b, 0]) (j : (slabShape n).Idx) :
    (slab o h).emb j = shift b a ((slab o' h').emb j) := by
  have h1 := slab_emb h ho j
  have h2 := slab_emb h' ho' j
  have h3 : ((slab o h).emb j 0).val < 1024 := ((slab o h).emb j 0).isLt
  funext k
  match k with
  | ⟨0, _⟩ =>
    apply Fin.ext
    show ((slab o h).emb j 0).val = (((slab o' h').emb j 0).val - b + a) % 1024
    omega
  | ⟨1, _⟩ =>
    apply Fin.ext
    show ((slab o h).emb j 1).val = ((slab o' h').emb j 1).val
    omega

end Slab

/-- Moving a row of the slab at `a` to the slab at `b` and back. -/
theorem shift_shift {a b n : ℕ} (ha : a + n ≤ 1024) (hb : b + n ≤ 1024) {i : S1024x1024.Idx} (hi : i ∈ Rows a n) : shift b a (shift a b i) = i := by
  rw [mem_Rows] at hi
  have h0 : (i 0).val < 1024 := (i 0).isLt
  funext k
  match k with
  | ⟨0, _⟩ =>
    refine Fin.ext ?_
    show (((i 0).val - a + b) % 1024 - b + a) % 1024 = (i 0).val
    omega
  | ⟨1, _⟩ => rfl

/-! ## The slabs as views of the two buffers -/

variable {F : FTy → Type} [FloatOps F]

/-- The accumulator, -/
abbrev accM : Memref sig .tc .vmem S1024x1024 .bf16 := Memref.whole cc0_scratch0
/-- and the buffer the halving's copies land in. -/
abbrev scrM : Memref sig .tc .vmem S1024x1024 .bf16 := Memref.whole cc0_scratch1

/-- One device's 1024×1024 array of 16-bit floats. -/
abbrev Arr (F : FTy → Type) : Type := FVec F S1024x1024 .bf16

section Views

variable {n a b : ℕ} {o o' : Fin 2 → ℕ}
  (h : ∀ k, o k + (slabShape n).size k ≤ S1024x1024.size k) (h' : ∀ k, o' k + (slabShape n).size k ≤ S1024x1024.size k)

theorem acc_set (ho : o = ![a, 0]) : (accM.slice (slab o h) (fun _ => rfl)).view.set = Rows a n :=
  (View.set_slice_whole cc0_scratch0 (slab o h)).trans (slab_set h ho)
theorem scr_set (ho : o = ![a, 0]) : (scrM.slice (slab o h) (fun _ => rfl)).view.set = Rows a n :=
  (View.set_slice_whole cc0_scratch1 (slab o h)).trans (slab_set h ho)

theorem acc_setOn (ho : o = ![a, 0]) : accM.view.setOn (slab o h).toLoadRect.set = Rows a n := by
  rw [← acc_set h ho]; exact (View.set_slice _ _).symm
theorem scr_setOn (ho : o = ![a, 0]) : scrM.view.setOn (slab o h).toLoadRect.set = Rows a n := by
  rw [← scr_set h ho]; exact (View.set_slice _ _).symm

omit [FloatOps F] in
/-- A copy of the accumulator's slab at `a` over the landing buffer's slab at `b`: row for row. -/
theorem copy_scr (ho : o = ![a, 0]) (ho' : o' = ![b, 0]) (fd fs : Arr F) (i : S1024x1024.Idx) (hi : i ∈ Rows b n) :
    (scrM.slice (slab o' h') (fun _ => rfl)).view.write (Elt F) fd ((accM.slice (slab o h) (fun _ => rfl)).view.read (Elt F) fs) Finset.univ i
      = fs (shift b a i) := by
  obtain ⟨j, rfl⟩ := slab_mem h' ho' hi
  rw [← slab_emb_shift h h' ho ho']
  exact View.write_emb_of_mem (v := (scrM.slice (slab o' h') (fun _ => rfl)).view) (Val := Elt F) fd _ (Finset.mem_univ j)

omit [FloatOps F] in
/-- A copy of the accumulator's slab over the same slab of another device's accumulator. -/
theorem copy_acc (ho : o = ![a, 0]) (ho' : o' = ![a, 0]) (fd fs : Arr F) (i : S1024x1024.Idx) (hi : i ∈ Rows a n) :
    (accM.slice (slab o' h') (fun _ => rfl)).view.write (Elt F) fd ((accM.slice (slab o h) (fun _ => rfl)).view.read (Elt F) fs) Finset.univ i
      = fs i := by
  obtain ⟨j, rfl⟩ := slab_mem h' ho' hi
  have e : slab o' h' = slab o h := by subst ho; subst ho'; rfl
  refine (View.write_emb_of_mem (v := (accM.slice (slab o' h') (fun _ => rfl)).view) (Val := Elt F) fd _ (Finset.mem_univ j)).trans ?_
  show fs ((slab o h).emb j) = fs ((slab o' h').emb j)
  subst ho; subst ho'; rfl

/-- The kept slab after the landing slab was added to it, element by element. -/
theorem add_at (ho : o = ![a, 0]) (ho' : o' = ![b, 0]) (fa fs : Arr F) (hsc : Shape.ShapeCasts (slabShape n) (slabShape n))
    (i : S1024x1024.Idx) (hi : i ∈ Rows a n) :
    (accM.access (slab o h)).write (Elt F) fa
        (shapeCast (slabShape n) (addf (accM.view.readAt (Elt F) (slab o h).toLoadRect fa : FVec F (slabShape n) .bf16)
          (scrM.view.readAt (Elt F) (slab o' h').toLoadRect fs)) hsc) Finset.univ i
      = FloatOps.addf (fa i) (fs (shift a b i)) := by
  obtain ⟨j, rfl⟩ := slab_mem h ho hi
  rw [← slab_emb_shift h' h ho' ho]
  refine (View.write_emb_of_mem (v := accM.access (slab o h)) (Val := Elt F) fa _ (Finset.mem_univ j)).trans ?_
  refine (cast_eq _ _).trans ?_
  exact congrFun (shapeCast_id _ hsc) j

end Views

end Cert.KernelIdeal.Halving
end
-- ==== Proof.Schedule.lean ====
/-
# The schedule: who waits on which semaphore, who pays it, and what each landing hands over

Every device has one barrier semaphore and 40 DMA semaphores, named here by a kind (halving send, halving receive, doubling
send, doubling receive), a row group and a stage of the halving (the doubling undoes the stages in reverse order, so both
transfers of a stage go between the same two devices).  All of it happens in one round:

* barrier of `e`: five units, unit `d` paid by the device one step along mesh dimension `d`, which hands over its two landing
  slots that `e` will write;
* halving send: nothing comes back (the source rows travel with the landing);
* halving receive at `e`: `e`'s landing slot holding the peer's partial sum of the rows `e` keeps, and the peer's own buffer
  for these rows, which `e` overwrites in the doubling;
* doubling send: the source rows back; doubling receive: the rows the peer kept, holding the finished sum.
-/
module

public import proofs.«01_k».proof.Proof.Rows
public import Mathlib.Algebra.BigOperators.Intervals
public import Mathlib.Algebra.Order.BigOperators.Ring.Finset

@[expose] public section

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds and the kernel's own -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Contents -/

/-- The partial sum device `c` holds of its rows of group `g` before stage `s`: its own addend first, the peer's second. -/
def sumAt (A : Dev nD → Arr F) (g : ℕ) : ℕ → Dev nD → Arr F
  | 0, c => A c
  | s + 1, c => fun i => FloatOps.addf (sumAt A g s c i) (sumAt A g s (par (ord g s) c) i)

/-- The finished sum, the same on every device: each row as the device that keeps it to the end has it. -/
def total (A : Dev nD → Arr F) : Arr F := fun i =>
  sumAt A ((i 0).val / 512) 5 (own ((i 0).val / 512) ((i 0).val % 512 / 16)) i

/-- On the rows a device keeps to the end, the finished sum is what the device has. -/
theorem total_eq (A : Dev nD → Arr F) (g : Fin 2) (c : Dev nD) {i : S1024x1024.Idx} (hi : i ∈ Rows (prow g 5 c) 16) :
    total A i = sumAt A g 5 c i := by
  rw [mem_Rows] at hi
  obtain ⟨h1, h2, h3, h4⟩ := own_prow g c
  unfold total
  have e1 : (i 0).val / 512 = g.val := by omega
  have e2 : (i 0).val % 512 / 16 = (prow g 5 c - 512 * g.val) / 16 := by omega
  rw [e1, e2, h4]

/-! ## The cells -/

/-- A transfer semaphore's name: kind (0 halving send, 1 halving receive, 2 doubling send, 3 doubling receive), group, stage. -/
abbrev X : Type := Fin 4 × Fin 2 × Fin 5

/-- The runtime's barrier semaphore. -/
abbrev barS : Sem sig := (SemArray.scalar (sig.barrier 0 rfl) : Sems sig S_).sem

set_option backward.proofsInPublic true in
/-- The DMA semaphore of a name. -/
def dsem (x : X) : DmaSem sig :=
  ⟨6 + 10 * x.1.val + 5 * x.2.1.val + (if x.1.val < 2 then x.2.2.val else 4 - x.2.2.val), by
    have h1 := x.1.isLt; have h2 := x.2.1.isLt; have h3 := x.2.2.isLt
    show _ < 46
    split <;> omega⟩

set_option backward.proofsInPublic true in
/-- The name of a DMA semaphore of the kernel. -/
def dname (q : DmaSem sig) : X :=
  ⟨⟨(q.val - 6) / 10 % 4, Nat.mod_lt _ (by decide)⟩, ⟨(q.val - 6) % 10 / 5, by omega⟩,
    ⟨if (q.val - 6) / 10 % 4 < 2 then (q.val - 6) % 5 else 4 - (q.val - 6) % 5, by split <;> omega⟩⟩

theorem dname_dsem : ∀ x : X, dname (dsem x) = x := by decide +kernel
theorem six_le_dsem (x : X) : 6 ≤ (dsem x).val := by unfold dsem; show 6 ≤ 6 + _ + _ + _; omega
theorem dsem_injective : Function.Injective dsem := fun a b h => by rw [← dname_dsem a, h, dname_dsem]

/-- A transfer semaphore, as the launch theorem lists the kernel's own ones. -/
abbrev osem (x : X) : SemLoc sig := .dma (dsem x)

abbrev barCell (c : Dev nD) : GSem nD τ sig := ((c : Thread nD τ), .reg barS)
abbrev xCell (c : Dev nD) (x : X) : GSem nD τ sig := ((c : Thread nD τ), osem x)

/-- The credit of a copy of `n` rows. -/
abbrev crd (n : ℕ) : ℕ := cc0_scratch1.dmaCredit (slabShape n) .bf16
theorem crd_pos {n : ℕ} (h : 0 < n) : 0 < crd n := by
  have : 0 < (slabShape n).numel := by
    unfold Shape.numel
    exact Finset.prod_pos fun k _ => by match k with | ⟨0, _⟩ => exact h | ⟨1, _⟩ => exact (by decide : 0 < 1024)
  exact sig.dmaCredit_pos _ _ _ _ _ this
theorem len_pos : ∀ s : Fin 5, 0 < len s := by decide

/-! ## What the landings hand over -/

/-- Rows `[a, a+n)` of device `c`'s accumulator at contents `f`, -/
abbrev accP (c : Dev nD) (a n : ℕ) (f : Arr F) : sProp 𝕄 := ((c : Thread nD τ).loc cc0_scratch0) ↦[Rows a n]{fullShare} f
/-- and of its landing buffer. -/
abbrev scrP (c : Dev nD) (a n : ℕ) (f : Arr F) : sProp 𝕄 := ((c : Thread nD τ).loc cc0_scratch1) ↦[Rows a n]{fullShare} f

/-- Device `c`'s landing slot of group `g` and stage `s`, at any contents. -/
def anySlot (c : Dev nD) (g s : ℕ) : sProp 𝕄 := iprop(∃ f : Arr F, scrP c (slot g s) (len s) f)
/-- Device `c`'s accumulator on rows `[a, a+n)`, at any contents. -/
def anyAcc (c : Dev nD) (a n : ℕ) : sProp 𝕄 := iprop(∃ f : Arr F, accP c a n f)

/-- What landed in `e`'s slot of group `g` and stage `s`: the peer's partial sum of the rows `e` keeps. -/
def landed (A : Dev nD → Arr F) (g s : ℕ) (e : Dev nD) : Arr F :=
  fun i => sumAt A g s (par (ord g s) e) (shift (slot g s) (krow g s e) i)

/-- What the unit `d` of `e`'s barrier hands `e`. -/
def barPay (e : Dev nD) (d : Fin 5) : sProp 𝕄 :=
  iprop(anySlot (F := F) (par d e) 0 (stg 0 d) ∗ anySlot (F := F) (par d e) 1 (stg 1 d))

/-- What a transfer semaphore of `e` hands `e`. -/
def xPay (A : Dev nD → Arr F) (e : Dev nD) (k g s : ℕ) : sProp 𝕄 :=
  match k with
  | 0 => iprop(emp)
  | 1 => iprop(scrP e (slot g s) (len s) (landed A g s e) ∗ anyAcc (F := F) (par (ord g s) e) (krow g s e) (len s))
  | 2 => accP e (krow g s e) (len s) (total A)
  | _ => accP e (srow g s e) (len s) (total A)

instance barPay_storable (e : Dev nD) (d : Fin 5) : BI.Storable (upEmb : UEmb _ 𝕄) (barPay (F := F) e d) := by
  unfold barPay anySlot; infer_instance
instance xPay_storable (A : Dev nD → Arr F) (e : Dev nD) (k g s : ℕ) : BI.Storable (upEmb : UEmb _ 𝕄) (xPay A e k g s) := by
  unfold xPay anyAcc; split <;> infer_instance

/-- The schedule. -/
def rd (A : Dev nD → Arr F) : Rounds.Schedule (GSem nD τ sig) (Fin 5) 𝕄 where
  duties g r := if r = 0 ∧ g.1.2 = .tc then
      (match g.2 with
        | .reg _ => Finset.univ
        | .dma q => if 6 ≤ q.val then {0} else ∅)
    else ∅
  unitless _ := False
  amount g _ _ := match g.2 with
    | .reg _ => 1
    | .dma q => crd (len (dname q).2.2)
  payload g _ d := match g.2 with
    | .reg _ => barPay g.1.1 d
    | .dma q => xPay A g.1.1 (dname q).1 (dname q).2.1 (dname q).2.2
  amount_pos g _ _ _ := by
    split
    · exact Nat.one_pos
    · exact crd_pos (len_pos _)

instance rd_payload_storable (A : Dev nD → Arr F) (g : GSem nD τ sig) (r : ℕ) (d : Fin 5) :
    BI.Storable (upEmb : UEmb _ 𝕄) ((rd A).payload g r d) := by
  dsimp only [rd]; split <;> infer_instance

section Facts

variable (A : Dev nD → Arr F) (c : Dev nD) (x : X)

theorem duties_bar : (rd A).duties (barCell c) 0 = Finset.univ := by dsimp only [rd]; exact if_pos ⟨rfl, rfl⟩
theorem duties_x : (rd A).duties (xCell c x) 0 = {0} := by
  dsimp only [rd]; rw [if_pos ⟨rfl, rfl⟩]; exact if_pos (six_le_dsem x)
theorem duties_later (g : GSem nD τ sig) : ∀ r, 1 ≤ r → (rd A).duties g r = ∅ :=
  fun r hr => by dsimp only [rd]; rw [if_neg fun h => by omega]

theorem amount_bar (d : Fin 5) : (rd A).amount (barCell c) 0 d = 1 := rfl
theorem amount_x (d : Fin 5) : (rd A).amount (xCell c x) 0 d = crd (len x.2.2) := by
  show crd (len (dname (dsem x)).2.2) = _; rw [dname_dsem]
theorem payload_bar (d : Fin 5) : (rd A).payload (barCell c) 0 d = barPay c d := rfl
theorem payload_x (d : Fin 5) : (rd A).payload (xCell c x) 0 d = xPay A c x.1 x.2.1 x.2.2 := by
  show xPay A c (dname (dsem x)).1 (dname (dsem x)).2.1 (dname (dsem x)).2.2 = _; rw [dname_dsem]

theorem expect_bar : (rd A).expect (barCell c) 0 = 5 := by
  unfold Schedule.expect Schedule.amountOf
  rw [duties_bar, Finset.sum_congr rfl fun d _ => amount_bar A c d, Finset.sum_const, Finset.card_univ, Fintype.card_fin, smul_eq_mul]
theorem expect_x : (rd A).expect (xCell c x) 0 = crd (len x.2.2) := by
  unfold Schedule.expect Schedule.amountOf; rw [duties_x, Finset.sum_singleton, amount_x]

theorem rest_bar : bigSep ((rd A).duties (barCell c) 0 \ ∅) (fun d => (rd A).payload (barCell c) 0 d) = bigSep Finset.univ (barPay (F := F) c) := by
  rw [Finset.sdiff_empty, duties_bar]; rfl
theorem rest_x : bigSep ((rd A).duties (xCell c x) 0 \ ∅) (fun d => (rd A).payload (xCell c x) 0 d) = xPay A c x.1 x.2.1 x.2.2 := by
  rw [Finset.sdiff_empty, duties_x, bigSep_singleton, payload_x]

end Facts

/-! ## What each device still has to pay -/

set_option backward.proofsInPublic true in
/-- The receive semaphore that the `k`-th payment goes to, `5 ≤ k`: the halving's ten transfers, then the doubling's. -/
def payX (k : ℕ) : X :=
  ⟨if k < 15 then 1 else 3, ⟨(k - 5) % 2, Nat.mod_lt _ (by decide)⟩,
    ⟨if k < 15 then (k - 5) % 10 / 2 else 4 - (k - 5) % 10 / 2, by split <;> omega⟩⟩

/-- The cell of device `c`'s `k`-th payment, -/
def payCell (c : Dev nD) (k : ℕ) : GSem nD τ sig :=
  if k < 5 then barCell (par k c) else xCell (par (ord (payX k).2.1 (payX k).2.2) c) (payX k)
/-- and the payment. -/
def payAt (c : Dev nD) (k : ℕ) : CellTallies nD τ sig Unit :=
  tallyAt (payCell c k) () (if k < 5 then 1 else crd (len (payX k).2.2))

/-- What device `c` owes when it has made `n` of its 25 payments. -/
def owe (c : Dev nD) (n : ℕ) : CellTallies nD τ sig Unit := ∑ k ∈ Finset.Ico n 25, payAt c k

theorem owe_step (c : Dev nD) {n : ℕ} (h : n < 25) : owe c n = owe c (n + 1) + payAt c n := by
  unfold owe; rw [Finset.sum_eq_sum_Ico_succ_bot h, add_comm]
theorem owe_end (c : Dev nD) : owe c 25 = 0 := by unfold owe; simp

theorem owe_bar (c : Dev nD) (d : Fin 5) : owe c d = owe c (d + 1) + tallyAt (barCell (par d c)) () 1 := by
  rw [owe_step c (by have := d.isLt; omega)]
  unfold payAt payCell; rw [if_pos d.isLt, if_pos d.isLt]

/-- The place of a transfer among the payments. -/
def place (k : ℕ) (g s : ℕ) : ℕ := if k < 2 then 5 + 2 * s + g else 23 - 2 * s + g

theorem payX_place : ∀ (k : Fin 2) (g : Fin 2) (s : Fin 5), 5 ≤ place (2 * k + 1) g s ∧ place (2 * k + 1) g s < 25
    ∧ payX (place (2 * k + 1) g s) = (⟨2 * k + 1, by omega⟩, g, s) := by decide +kernel

theorem owe_x (c : Dev nD) (k : Fin 2) (g : Fin 2) (s : Fin 5) : owe c (place (2 * k + 1) g s) = owe c (place (2 * k + 1) g s + 1)
    + tallyAt (xCell (par (ord g s) c) (⟨2 * k + 1, by omega⟩, g, s)) () (crd (len s)) := by
  obtain ⟨h1, h2, h3⟩ := payX_place k g s
  rw [owe_step c h2]
  unfold payAt payCell; rw [if_neg (by omega), if_neg (by omega), h3]

/-! ## Levels: a device waits only below everything it still owes -/

def L (g : GSem nD τ sig) : Finset Unit := if g.1.2 = .tc then {()} else ∅
/-- Barriers at 1, the receive semaphores in program order from 7, the staging and the send semaphores at 0. -/
def lvS (sm : SemLoc sig) : ℕ := match sm with
  | .reg _ => 1
  | .dma q => if 6 ≤ q.val ∧ (dname q).1.val % 2 = 1 then 2 + place (dname q).1 (dname q).2.1 (dname q).2.2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_payX : ∀ k : Fin 25, 5 ≤ k.val → lvS (.dma (dsem (payX k))) = k + 2 := by decide +kernel
theorem lv_pay (c : Dev nD) {k : ℕ} (hk : k < 25) : lv (payCell c k) () = if k < 5 then 1 else k + 2 := by
  unfold payCell lv
  split
  · rfl
  · exact lv_payX ⟨k, hk⟩ (by show 5 ≤ k; omega)

theorem owe_pos {c : Dev nD} {n : ℕ} {g : GSem nD τ sig} {u : Unit} (h : 0 < owe c n g u) : ∃ k, n ≤ k ∧ k < 25 ∧ g = payCell c k := by
  unfold owe at h
  rw [Finset.sum_apply, Finsupp.finset_sum_apply] at h
  obtain ⟨k, hk, hp⟩ := Finset.exists_ne_zero_of_sum_ne_zero h.ne'
  rw [Finset.mem_Ico] at hk
  refine ⟨k, hk.1, hk.2, ?_⟩
  unfold payAt at hp
  rw [tallyAt_apply] at hp
  by_contra hn
  exact hp (if_neg fun h' => hn h'.1)

attribute [irreducible] owe

/-- A semaphore below every payment from the `n`-th on may be waited for when the first `n` are made. -/
theorem mayWait (c : Dev nD) (sm : SemLoc sig) (n : ℕ) (h : ∀ k, n ≤ k → k < 25 → lvS sm < if k < 5 then 1 else k + 2) :
    (levAts L lv : sProp 𝕄) ⊢ MayWait (c : Thread nD τ) sm () (owe c n) :=
  MayOwe.of_cut (L := L) (lev := lv) (lvS sm) (fun p hp => by rw [Finset.mem_singleton.mp hp, L_tc]; exact Finset.mem_singleton_self _)
    (fun g u hg => by
      obtain ⟨k, _, _, rfl⟩ := owe_pos hg
      unfold payCell; split <;> exact Finset.mem_singleton_self _)
    (fun p hp => by rw [Finset.mem_singleton.mp hp]; exact le_refl _)
    (fun g u hg => by
      obtain ⟨k, h1, h2, rfl⟩ := owe_pos hg
      rw [lv_pay c h2]; exact h k h1 h2)

end Cert.KernelIdeal.Halving
end
-- ==== Proof.Steps.lean ====
/-
# The kernel's communication steps, one rule each

A transfer of the halving, a transfer of the doubling, a wait, and the addition of what landed: each rule says what a device
must hold before the step and what it holds after it, for any group and stage, so that the body applies each ten times.
-/
module

public import proofs.«01_k».proof.Proof.Schedule

@[expose] public section

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## What every device knows -/

/-- A device's cells: the barrier, then the transfer semaphores. -/
abbrev csem : Option X → SemLoc sig := fun k => match k with | none => .reg barS | some x => osem x
abbrev kcell (ck : Dev nD × Option X) : GSem nD τ sig := ((ck.1 : Thread nD τ), csem ck.2)

/-- All cells' invariants under the names `K`, that they are in their round, and the levels. -/
def ctx (A : Dev nD → Arr F) (K : Dev nD × Option X → ℕ) : sProp 𝕄 :=
  iprop((bigSep Finset.univ fun ck : Dev nD × Option X => cellInv ER (rd A) (K ck) (kcell ck))
    ∗ (bigSep Finset.univ fun ck : Dev nD × Option X => reached ER (kcell ck) 0) ∗ levAts L lv)

instance ctx_persistent (A : Dev nD → Arr F) (K : Dev nD × Option X → ℕ) : BI.Persistent (ctx A K) := by unfold ctx; infer_instance

variable (A : Dev nD → Arr F) (K : Dev nD × Option X → ℕ)

theorem ctx_cell (ck : Dev nD × Option X) : ctx A K ⊢ cellInv ER (rd A) (K ck) (kcell ck) := by
  have e : (bigSep Finset.univ fun ck : Dev nD × Option X => (cellInv ER (rd A) (K ck) (kcell ck) : sProp 𝕄)) ⊢ cellInv ER (rd A) (K ck) (kcell ck) :=
    bigSep_elim (Finset.mem_univ ck)
  unfold ctx; iintro ⟨H, -, -⟩; iapply e; iexact H
theorem ctx_reached (ck : Dev nD × Option X) : ctx A K ⊢ reached ER (kcell ck) 0 := by
  have e : (bigSep Finset.univ fun ck : Dev nD × Option X => (reached ER (kcell ck) 0 : sProp 𝕄)) ⊢ reached ER (kcell ck) 0 :=
    bigSep_elim (Finset.mem_univ ck)
  unfold ctx; iintro ⟨-, H, -⟩; iapply e; iexact H
theorem ctx_mayWait (c : Dev nD) (sm : SemLoc sig) (n : ℕ) (h : ∀ k, n ≤ k → k < 25 → lvS sm < if k < 5 then 1 else k + 2) :
    ctx A K ⊢ MayWait (c : Thread nD τ) sm () (owe c n) := by
  unfold ctx
  iintro ⟨-, -, H⟩
  iapply (mayWait (F := F) c sm n h); iexact H

/-- What device `c` owes after `n` payments, whatever it has waited for. -/
def owesE (c : Dev nD) (n : ℕ) : sProp 𝕄 := iprop(∃ W : Waits sig Unit, owes (c : Thread nD τ) (owe c n) W)

/-! ## The halving's transfer -/

/-- Device `c` sends its partial sum of the rows its peer keeps into the peer's slot. -/
theorem step_send (c nd : Dev nD) (g : Fin 2) (s : Fin 5) (n : ℕ) (hd : nd = par (ord g s) c) (hn : n = len s)
    {o o' : Fin 2 → ℕ} {h : ∀ k, o k + (slabShape n).size k ≤ S1024x1024.size k} {h' : ∀ k, o' k + (slabShape n).size k ≤ S1024x1024.size k}
    (ho : o = ![srow g s c, 0]) (ho' : o' = ![slot g s, 0]) {sS sV : DmaSem sig} (hS : sS = dsem (0, g, s)) (hV : sV = dsem (1, g, s))
    {hsc : (scrM.slice (slab o' h') (fun _ => rfl) : Memref sig (Dev.tc nd : Thread nD τ).2.kind .vmem (slabShape n) .bf16).view.ref.isScScratch = false}
    {hsrc : (accM.slice (slab o h) (fun _ => rfl)).view.WordExact} {hdst : (scrM.slice (slab o' h') (fun _ => rfl)).view.WordExact}
    {hsem : DmaTarget.Typed .vmem (.dma sV) (.remote (Dev.tc nd : Thread nD τ) (scrM.slice (slab o' h') (fun _ => rfl)) (.dma sS) hsc)}
    {α : Type} {Q : α → sProp 𝕄} {k : PUnit → Prog (TpuEff nD τ sig (Elt F) Λ₀ .tc) α} :
    iprop(ctx A K ∗ accP c (srow g s c) (len s) (sumAt A g s c) ∗ anySlot (F := F) (par (ord g s) c) g s ∗ owesE (F := F) c (place 1 g s)
        ∗ dutyTok ER (xCell c (0, g, s)) 0 0 ∗ dutyTok ER (xCell (par (ord g s) c) (1, g, s)) 0 0)
      ⊢ iprop(((cred (tallyAt (xCell c (0, g, s)) () (crd (len s))) ∗ owesE (F := F) c (place 1 g s + 1))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM.slice (slab o h) (fun _ => rfl)) (.remote (Dev.tc nd : Thread nD τ) (scrM.slice (slab o' h') (fun _ => rfl)) (.dma sS) hsc)
                (.dma sV) hsrc hdst hsem) k) Q) := by
  subst hd; subst hn; subst hS; subst hV
  unfold anySlot owesE accP scrP
  iintro ⟨#HC, Hacc, ⟨%fd, Hscr⟩, ⟨%W, HO⟩, HtS, HtV⟩
  iintro Hk
  rw [← acc_set h ho, ← scr_set h' ho']
  iapply (Rounds.wp_send_landing_pointsTo 𝒱₀ ER (rd A) (c : Thread nD τ) none (κ₁ := K (c, some (0, g, s))) (κ₂ := K (par (ord g s) c, some (1, g, s)))
    (c' := (par (ord g s) c : Thread nD τ)) (src := accM.slice (slab o h) (fun _ => rfl)) (dst := scrM.slice (slab o' h') (fun _ => rfl))
    (r₁ := 0) (r₂ := 0) (d₁ := 0) (d₂ := 0) (fd := fd) (fs := sumAt A g s c) (hsc := hsc) (hsrc := hsrc) (hdst := hdst) (hsem := hsem)
    (by rw [duties_x A c (0, g, s)]; exact Finset.mem_singleton_self _) (by rw [duties_x A _ (1, g, s)]; exact Finset.mem_singleton_self _)
    () () (crd (len s)) rfl (amount_x A c (0, g, s) 0) (amount_x A _ (1, g, s) 0) (owe c (place 1 g s + 1)) (owe_x c 0 g s) (W := W)
    (by rw [payload_x A c (0, g, s)]; exact BI.Entails.refl _)
    (by
      rw [payload_x A _ (1, g, s), acc_set h ho, scr_set h' ho']
      show _ ⊢ iprop(_ ∗ _)
      rw [pointsTo_congr (g := landed A g s (par (ord g s) c)) (fun i hi => by
        rw [copy_scr h h' ho ho' fd _ i hi]; unfold landed; rw [par_par, krow_par])]
      rw [par_par, krow_par]
      unfold anyAcc
      exact sep_mono_right (exists_intro (sumAt A g s c)))) $$ [Hacc Hscr HO HtS HtV]
  · isplitr; · iapply (ctx_cell A K (c, some (0, g, s))); iexact HC
    isplitr; · iapply (ctx_cell A K (par (ord g s) c, some (1, g, s))); iexact HC
    isplitl [Hacc]; · iexact Hacc
    isplitl [Hscr]; · iexact Hscr
    isplitl [HO]; · iexact HO
    isplitl [HtS]; · iexact HtS
    isplitr; · iapply (ctx_reached A K (c, some (0, g, s))); iexact HC
    isplitl [HtV]; · iexact HtV
    iapply (ctx_reached A K (par (ord g s) c, some (1, g, s))); iexact HC
  iintro ⟨Hc, HO⟩
  iapply Hk
  isplitl [Hc]; · iexact Hc
  iexists W; iexact HO

/-! ## The doubling's transfer -/

/-- Device `c` sends the finished rows it kept at stage `s` to the peer of that stage. -/
theorem step_back (c nd : Dev nD) (g : Fin 2) (s : Fin 5) (n : ℕ) (hd : nd = par (ord g s) c) (hn : n = len s)
    {o : Fin 2 → ℕ} {h h' : ∀ k, o k + (slabShape n).size k ≤ S1024x1024.size k}
    (ho : o = ![krow g s c, 0]) {sS sV : DmaSem sig} (hS : sS = dsem (2, g, s)) (hV : sV = dsem (3, g, s))
    {hsc : (accM.slice (slab o h') (fun _ => rfl) : Memref sig (Dev.tc nd : Thread nD τ).2.kind .vmem (slabShape n) .bf16).view.ref.isScScratch = false}
    {hsrc : (accM.slice (slab o h) (fun _ => rfl)).view.WordExact} {hdst : (accM.slice (slab o h') (fun _ => rfl)).view.WordExact}
    {hsem : DmaTarget.Typed .vmem (.dma sV) (.remote (Dev.tc nd : Thread nD τ) (accM.slice (slab o h') (fun _ => rfl)) (.dma sS) hsc)}
    {α : Type} {Q : α → sProp 𝕄} {k : PUnit → Prog (TpuEff nD τ sig (Elt F) Λ₀ .tc) α} :
    iprop(ctx A K ∗ accP c (krow g s c) (len s) (total A) ∗ anyAcc (F := F) (par (ord g s) c) (krow g s c) (len s) ∗ owesE (F := F) c (place 3 g s)
        ∗ dutyTok ER (xCell c (2, g, s)) 0 0 ∗ dutyTok ER (xCell (par (ord g s) c) (3, g, s)) 0 0)
      ⊢ iprop(((cred (tallyAt (xCell c (2, g, s)) () (crd (len s))) ∗ owesE (F := F) c (place 3 g s + 1))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM.slice (slab o h) (fun _ => rfl)) (.remote (Dev.tc nd : Thread nD τ) (accM.slice (slab o h') (fun _ => rfl)) (.dma sS) hsc)
                (.dma sV) hsrc hdst hsem) k) Q) := by
  subst hd; subst hn; subst hS; subst hV
  unfold anyAcc owesE accP
  iintro ⟨#HC, Hacc, ⟨%fd, Hpeer⟩, ⟨%W, HO⟩, HtS, HtV⟩
  iintro Hk
  rw [← acc_set h ho]
  iapply (Rounds.wp_send_pointsTo 𝒱₀ ER (rd A) (c : Thread nD τ) none (κ₁ := K (c, some (2, g, s))) (κ₂ := K (par (ord g s) c, some (3, g, s)))
    (c' := (par (ord g s) c : Thread nD τ)) (src := accM.slice (slab o h) (fun _ => rfl)) (dst := accM.slice (slab o h') (fun _ => rfl))
    (r₁ := 0) (r₂ := 0) (d₁ := 0) (d₂ := 0) (fd := fd) (fs := total A) (hsc := hsc) (hsrc := hsrc) (hdst := hdst) (hsem := hsem)
    (by rw [duties_x A c (2, g, s)]; exact Finset.mem_singleton_self _) (by rw [duties_x A _ (3, g, s)]; exact Finset.mem_singleton_self _)
    () () (crd (len s)) rfl (amount_x A c (2, g, s) 0) (amount_x A _ (3, g, s) 0) (owe c (place 3 g s + 1)) (owe_x c 1 g s) (W := W)
    (by rw [payload_x A c (2, g, s), acc_set h ho]; exact BI.Entails.refl _)
    (by
      rw [payload_x A _ (3, g, s), acc_set h' ho]
      show _ ⊢ accP _ _ _ _
      rw [srow_par]
      rw [pointsTo_congr (g := total A) (fun i hi => copy_acc h h' ho ho fd _ i hi)])) $$ [Hacc Hpeer HO HtS HtV]
  · isplitr; · iapply (ctx_cell A K (c, some (2, g, s))); iexact HC
    isplitr; · iapply (ctx_cell A K (par (ord g s) c, some (3, g, s))); iexact HC
    isplitl [Hacc]; · iexact Hacc
    isplitl [Hpeer]; · iexact Hpeer
    isplitl [HO]; · iexact HO
    isplitl [HtS]; · iexact HtS
    isplitr; · iapply (ctx_reached A K (c, some (2, g, s))); iexact HC
    isplitl [HtV]; · iexact HtV
    iapply (ctx_reached A K (par (ord g s) c, some (3, g, s))); iexact HC
  iintro ⟨Hc, HO⟩
  iapply Hk
  isplitl [Hc]; · iexact Hc
  iexists W; iexact HO

/-! ## A wait -/

/-- Device `c` waits for the whole of one of its transfer semaphores, below everything it still owes, takes what the landing
    hands over, and has the semaphore back at zero. -/
theorem step_wait (c : Dev nD) (x : X) (n : ℕ) {q : DmaSem sig} (hq : q = dsem x) {s₁ s₂ : Shape} {e₁ e₂ : EltTy}
    {src : Memref sig .tc .vmem s₁ e₁} {dst : Memref sig .tc .vmem s₂ e₂} {hsrc : src.view.WordExact} {hdst : dst.view.WordExact}
    (hcr : dst.view.dmaCredit = crd (len x.2.2)) (hlev : ∀ k, n ≤ k → k < 25 → lvS (osem x) < if k < 5 then 1 else k + 2)
    {α : Type} {Q : α → sProp 𝕄} {k : PUnit → Prog (TpuEff nD τ sig (Elt F) Λ₀ .tc) α} :
    iprop(ctx A K ∗ cred (tallyAt (xCell c x) () (crd (len x.2.2))) ∗ owesE (F := F) c n ∗ atPos ER (xCell c x) 0 ∅ 0)
      ⊢ iprop(((owesE (F := F) c n ∗ semVal (xCell c x) 0 ∗ xPay A c x.1 x.2.1 x.2.2)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q src dst hsrc hdst) k) Q) := by
  subst hq
  unfold owesE
  iintro ⟨#HC, Hc, ⟨%W, HO⟩, Hat⟩
  iintro Hk
  have hk : 0 + dst.view.dmaCredit = (rd A).expect (xCell c x) 0 := by rw [Nat.zero_add, expect_x, hcr]
  rw [← hcr]
  iapply (Rounds.wp_wait_rest_token 𝒱₀ ER (rd A) (c : Thread nD τ) none (κ := K (c, some x))
      (wpE_waitDma2_eq 𝒱₀ (c : Thread nD τ) none Set.univ) (Set.mem_univ _) () (O := owe c n) (W := W) (R := 0) (m := 0) (T := ∅)
      hk) $$ [Hc HO Hat]
  · isplitr; · iapply (ctx_cell A K (c, some x)); iexact HC
    isplitl [Hc]; · iexact Hc
    isplitl [HO]; · iexact HO
    isplitr; · iapply (ctx_mayWait A K c (osem x) n hlev); iexact HC
    iexact Hat
  iintro ⟨HO, Hat, -, Hpay⟩
  ihave Hp := (Entails.of_eq (rest_x A c x)) $$ Hpay
  imod (Rounds.cell_close ER (rd A) (Set.mem_univ (K (c, some x))) (fun h => h) (R := 0 + 1) (duties_later A (xCell c x))) $$ [Hat] with Hz
  · isplitr; · iapply (ctx_cell A K (c, some x)); iexact HC
    iexact Hat
  iapply Hk
  isplitl [HO]; · iexists _; iexact HO
  isplitl [Hz]; · iexact Hz
  iexact Hp

/-! ## The addition -/

/-- Device `c` adds what landed to what it kept: it holds the next stage's partial sum. -/
theorem step_add (c : Dev nD) (g : Fin 2) (s : Fin 5) (n : ℕ) (hn : n = len s)
    {o o' : Fin 2 → ℕ} {h : ∀ k, o k + (slabShape n).size k ≤ S1024x1024.size k} {h' : ∀ k, o' k + (slabShape n).size k ≤ S1024x1024.size k}
    (ho : o = ![krow g s c, 0]) (ho' : o' = ![slot g s, 0]) {hsc : Shape.ShapeCasts (slabShape n) (slabShape n)}
    {w : FVec F (slabShape n) .bf16 → FVec F (slabShape n) .bf16 → FVec F (slabShape n) .bf16}
    (hw : ∀ v v', w v v' = shapeCast (slabShape n) (addf v v') hsc)
    {hl hl'' : accM.view.LoadsAt (slab o h).toLoadRect} {hl' : scrM.view.LoadsAt (slab o' h').toLoadRect}
    {hst} {hm}
    {α : Type} {Q : α → sProp 𝕄} {k : PUnit → Prog (TpuEff nD τ sig (Elt F) Λ₀ .tc) α} :
    iprop(accP c (krow g s c) (len s) (sumAt A g s c) ∗ scrP c (slot g s) (len s) (landed A g s c))
      ⊢ iprop(((accP c (krow g s c) (len s) (sumAt A g (s + 1) c) ∗ scrP c (slot g s) (len s) (landed A g s c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load accM (slab o h).toLoadRect hl) fun (v : Vec F (slabShape n) .bf16) => .op (.load scrM (slab o' h').toLoadRect hl') fun (v' : Vec F (slabShape n) .bf16) =>
                .op (.load accM (slab o h).toLoadRect hl'') fun _ => .op (.store accM (slab o h) (w v v') Finset.univ hst hm) k) Q) := by
  subst hn
  iintro ⟨Ha, Hs⟩
  iintro Hk
  iapply (wp_load 𝒱₀ (c : Thread nD τ) none Set.univ (m := accM) (acc_setOn h ho).subset) $$ Ha; iintro Ha
  iapply (wp_load 𝒱₀ (c : Thread nD τ) none Set.univ (m := scrM) (scr_setOn h' ho').subset) $$ Hs; iintro Hs
  iapply (wp_load 𝒱₀ (c : Thread nD τ) none Set.univ (m := accM) (acc_setOn h ho).subset) $$ Ha; iintro Ha
  iapply (wp_store 𝒱₀ (c : Thread nD τ) none Set.univ (m := accM) (r := slab o h) (Mk := Finset.univ) (acc_set h ho).subset) $$ Ha; iintro Ha
  iapply Hk
  isplitl [Ha]
  · show _ ⊢ accP c (krow g s c) (len s) _
    rw [pointsTo_congr (g := sumAt A g (s + 1) c) (fun i hi => ?_)]
    rotate_left
    · rw [hw]
      refine (add_at h h' ho ho' _ _ hsc i hi).trans ?_
      unfold landed
      rw [shift_shift (krow_le g s c) (slot_le g s) hi]
      rfl
  · iexact Hs

end Cert.KernelIdeal.Halving
end
-- ==== Proof.Stages.lean ====
/-
# One stage of the halving, one stage of the doubling

A stage of the halving: both groups' transfers are issued, then group by group the device waits for its own transfer and for
the peer's and adds what landed to what it kept.  A stage of the doubling: both groups' transfers are issued, then waited for.
-/
module

public import proofs.«01_k».proof.Proof.Steps

@[expose] public section

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Arr F) (K : Dev nD × Option X → ℕ)

/-! ## Rows held, split into what is kept and what is sent -/

theorem acc_split (c : Dev nD) (g : Fin 2) (s : Fin 5) (f : Arr F) :
    (accP c (prow g s c) (2 * len s) f : sProp 𝕄) = iprop(accP c (krow g s c) (len s) f ∗ accP c (srow g s c) (len s) f) := by
  have e : Rows (prow g s c) (2 * len s) = Rows (krow g s c) (len s) ∪ Rows (srow g s c) (len s)
      ∧ Disjoint (Rows (krow g s c) (len s)) (Rows (srow g s c) (len s)) := by
    rcases halves g s c with ⟨h1, h2⟩ | ⟨h1, h2⟩
    · rw [h1, h2, Nat.two_mul, Rows_add]; exact ⟨rfl, Rows_disjoint (le_refl _)⟩
    · rw [h1, h2, Nat.two_mul, Rows_add]; exact ⟨Finset.union_comm _ _, (Rows_disjoint (le_refl _)).symm⟩
  unfold accP
  rw [e.1]
  have u := pointsTo_union (Val := Elt F) (Ix := Unit) (Name := ℕ) (U := UU) (Lvl := ℕ) (ℓ := (c : Thread nD τ).loc cc0_scratch0) (q := fullShare) (f := f) e.2
  exact Entails.antisymm u.1 u.2

/-- What device `c` holds of group `g` before stage `i` of the halving: its partial sum of its rows, -/
def accAt (c : Dev nD) (g i : ℕ) : sProp 𝕄 := accP c (prow g i c) (2 * len i) (sumAt A g i c)
/-- and after stage `i` of the doubling: the finished sum of those rows. -/
def totAt (c : Dev nD) (g i : ℕ) : sProp 𝕄 := accP c (prow g i c) (2 * len i) (total A)
/-- The rows the stage-`i` peer of `c` sent it, in the peer's accumulator, at any contents. -/
def lent (c : Dev nD) (g i : ℕ) : sProp 𝕄 := anyAcc (F := F) (par (ord g i) c) (krow g i c) (len i)

theorem len_succ : ∀ s : Fin 5, 2 * len (s + 1) = len s := by decide
theorem acc_next (c : Dev nD) (g : ℕ) (s : Fin 5) : (accP c (krow g s c) (len s) (sumAt A g (s + 1) c) : sProp 𝕄) = accAt A c g (s + 1) := by
  unfold accAt; rw [len_succ]; rfl
theorem tot_next (c : Dev nD) (g : ℕ) (s : Fin 5) : (accP c (krow g s c) (len s) (total A) : sProp 𝕄) = totAt A c g (s + 1) := by
  unfold totAt; rw [len_succ]; rfl
/-- After the last stage of the halving the partial sum is the finished one. -/
theorem acc_done (c : Dev nD) (g : Fin 2) : (accAt A c g 5 : sProp 𝕄) = totAt A c g 5 := by
  unfold accAt totAt accP
  exact pointsTo_congr fun i hi => (total_eq A g c hi).symm

/-! ## What a transfer needs, and what it leaves -/

/-- For device `c`'s transfer of kind `k` (its send semaphore; the receive one is the next kind): the right to pay its own send
    semaphore and the peer's receive semaphore, its positions on its own two, and the credit for its own receive semaphore. -/
def ticket (c : Dev nD) (k k' : Fin 4) (g : Fin 2) (s : Fin 5) : sProp 𝕄 :=
  iprop(dutyTok ER (xCell c (k, g, s)) 0 0 ∗ dutyTok ER (xCell (par (ord g s) c) (k', g, s)) 0 0
    ∗ atPos ER (xCell c (k, g, s)) 0 ∅ 0 ∗ atPos ER (xCell c (k', g, s)) 0 ∅ 0 ∗ cred (tallyAt (xCell c (k', g, s)) () (crd (len s))))

/-- Both semaphores of a transfer at zero. -/
def closed (c : Dev nD) (k k' : Fin 4) (g : Fin 2) (s : Fin 5) : sProp 𝕄 :=
  iprop(semVal (xCell c (k, g, s)) 0 ∗ semVal (xCell c (k', g, s)) 0)

theorem lev_down : ∀ (g : Fin 2) (s : Fin 5) (k : Fin 25), 5 + 2 * s.val + 2 ≤ k.val →
    lvS (osem (0, g, s)) < (if k.val < 5 then 1 else k.val + 2) ∧ lvS (osem (1, g, s)) < (if k.val < 5 then 1 else k.val + 2) := by decide +kernel
theorem lev_up : ∀ (g : Fin 2) (s : Fin 5) (k : Fin 25), 23 - 2 * s.val + 2 ≤ k.val →
    lvS (osem (2, g, s)) < (if k.val < 5 then 1 else k.val + 2) ∧ lvS (osem (3, g, s)) < (if k.val < 5 then 1 else k.val + 2) := by decide +kernel

/-! ## The second half of a stage of the halving, one group -/

/-- Waiting for both transfers of a group and adding. -/
theorem group_down (c : Dev nD) (g : Fin 2) (s : Fin 5) (n : ℕ) (hn : n = len s)
    {o o' : Fin 2 → ℕ} {h : ∀ k, o k + (slabShape n).size k ≤ S1024x1024.size k} {h' : ∀ k, o' k + (slabShape n).size k ≤ S1024x1024.size k}
    {p : Fin 2 → ℕ} {hp : ∀ k, p k + (slabShape n).size k ≤ S1024x1024.size k}
    (ho : o = ![krow g s c, 0]) (ho' : o' = ![slot g s, 0]) {sS sV : DmaSem sig} (hS : sS = dsem (0, g, s)) (hV : sV = dsem (1, g, s))
    {hsc : Shape.ShapeCasts (slabShape n) (slabShape n)}
    {w : FVec F (slabShape n) .bf16 → FVec F (slabShape n) .bf16 → FVec F (slabShape n) .bf16}
    (hw : ∀ v v', w v v' = shapeCast (slabShape n) (addf v v') hsc)
    {w₁ w₂ w₃ w₄}
    {hl hl'' : accM.view.LoadsAt (slab o h).toLoadRect} {hl' : scrM.view.LoadsAt (slab o' h').toLoadRect}
    {hst} {hm}
    {α : Type} {Q : α → sProp 𝕄} {k : PUnit → Prog (TpuEff nD τ sig (Elt F) Λ₀ .tc) α} :
    iprop(ctx A K ∗ accP c (krow g s c) (len s) (sumAt A g s c) ∗ owesE (F := F) c (5 + 2 * s + 2)
        ∗ cred (tallyAt (xCell c (0, g, s)) () (crd (len s))) ∗ cred (tallyAt (xCell c (1, g, s)) () (crd (len s)))
        ∗ atPos ER (xCell c (0, g, s)) 0 ∅ 0 ∗ atPos ER (xCell c (1, g, s)) 0 ∅ 0)
      ⊢ iprop(((accP c (krow g s c) (len s) (sumAt A g (s + 1) c) ∗ owesE (F := F) c (5 + 2 * s + 2) ∗ closed (F := F) c 0 1 g s
              ∗ anySlot (F := F) c g s ∗ anyAcc (F := F) (par (ord g s) c) (krow g s c) (len s))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sS (scrM.slice (slab o' h') (fun _ => rfl)) (accM.slice (slab p hp) (fun _ => rfl)) w₁ w₂) fun _ =>
                .op (.waitDma2 sV (accM.slice (slab p hp) (fun _ => rfl)) (scrM.slice (slab o' h') (fun _ => rfl)) w₃ w₄) fun _ =>
                .op (.load accM (slab o h).toLoadRect hl) fun (v : Vec F (slabShape n) .bf16) =>
                .op (.load scrM (slab o' h').toLoadRect hl') fun (v' : Vec F (slabShape n) .bf16) =>
                .op (.load accM (slab o h).toLoadRect hl'') fun _ => .op (.store accM (slab o h) (w v v') Finset.univ hst hm) k) Q) := by
  subst hn
  iintro ⟨#HC, Ha, HO, HcS, HcV, HaS, HaV⟩
  iintro Hk
  iapply (step_wait A K c (0, g, s) (5 + 2 * s + 2) hS rfl (fun k h1 h2 => (lev_down g s ⟨k, h2⟩ h1).1)) $$ [HcS HO HaS]
  · isplitr; · iexact HC
    isplitl [HcS]; · iexact HcS
    isplitl [HO] <;> iassumption
  iintro ⟨HO, HzS, -⟩
  iapply (step_wait A K c (1, g, s) (5 + 2 * s + 2) hV rfl (fun k h1 h2 => (lev_down g s ⟨k, h2⟩ h1).2)) $$ [HcV HO HaV]
  · isplitr; · iexact HC
    isplitl [HcV]; · iexact HcV
    isplitl [HO] <;> iassumption
  iintro ⟨HO, HzV, Hp⟩
  ihave Hp' := (Entails.of_eq (show xPay A c ((1, g, s) : X).1 ((1, g, s) : X).2.1 ((1, g, s) : X).2.2 = iprop(scrP c (slot g s) (len s) (landed A g s c) ∗ anyAcc (F := F) (par (ord g s) c) (krow g s c) (len s)) from rfl)) $$ Hp
  icases Hp' with ⟨Hs, Hq⟩
  iapply (step_add A c g s (len s) rfl ho ho' hw) $$ [Ha Hs]
  · isplitl [Ha] <;> iassumption
  iintro ⟨Ha, Hs⟩
  iapply Hk
  isplitl [Ha]; · iexact Ha
  isplitl [HO]; · iexact HO
  isplitl [HzS HzV]
  · unfold closed; isplitl [HzS] <;> iassumption
  isplitl [Hs]
  · unfold anySlot; iexists _; iexact Hs
  iexact Hq

/-! ## A stage -/

theorem stage_down (c : Dev nD) (s : Fin 5) (i j p q n : ℕ) (hi : s.val = i) (hj : i + 1 = j) (hp : 5 + 2 * i = p) (hq : 5 + 2 * j = q) (hn : n = len i)
    {nd₀ nd₁ : Dev nD} (hd₀ : nd₀ = par (ord 0 i) c) (hd₁ : nd₁ = par (ord 1 i) c)
    {o₀ o₁ k₀ k₁ : Fin 2 → ℕ} {b₀ b₁ : Fin 2 → ℕ}
    {ho₀ : ∀ k, o₀ k + (slabShape n).size k ≤ S1024x1024.size k} {ho₁ : ∀ k, o₁ k + (slabShape n).size k ≤ S1024x1024.size k}
    {hk₀ : ∀ k, k₀ k + (slabShape n).size k ≤ S1024x1024.size k} {hk₁ : ∀ k, k₁ k + (slabShape n).size k ≤ S1024x1024.size k}
    {hb₀ : ∀ k, b₀ k + (slabShape n).size k ≤ S1024x1024.size k} {hb₁ : ∀ k, b₁ k + (slabShape n).size k ≤ S1024x1024.size k}
    (eo₀ : o₀ = ![srow 0 i c, 0]) (eo₁ : o₁ = ![srow 1 i c, 0]) (ek₀ : k₀ = ![krow 0 i c, 0]) (ek₁ : k₁ = ![krow 1 i c, 0])
    (eb₀ : b₀ = ![slot 0 i, 0]) (eb₁ : b₁ = ![slot 1 i, 0])
    {S₀ V₀ S₁ V₁ : DmaSem sig} (hS₀ : S₀ = dsem (0, 0, s)) (hV₀ : V₀ = dsem (1, 0, s)) (hS₁ : S₁ = dsem (0, 1, s)) (hV₁ : V₁ = dsem (1, 1, s))
    {hsc : Shape.ShapeCasts (slabShape n) (slabShape n)}
    {f₀ f₁ : FVec F (slabShape n) .bf16 → FVec F (slabShape n) .bf16 → FVec F (slabShape n) .bf16}
    (hf₀ : ∀ v v', f₀ v v' = shapeCast (slabShape n) (addf v v') hsc) (hf₁ : ∀ v v', f₁ v v' = shapeCast (slabShape n) (addf v v') hsc)
    {hscr₀ hsrc₀ hdst₀ hsem₀ hscr₁ hsrc₁ hdst₁ hsem₁}
    {a₁ a₂ a₃ a₄ a₅ a₆ a₇ a₈}
    {l₁ l₃ : accM.view.LoadsAt (slab k₀ hk₀).toLoadRect} {l₂ : scrM.view.LoadsAt (slab b₀ hb₀).toLoadRect}
    {l₄ l₆ : accM.view.LoadsAt (slab k₁ hk₁).toLoadRect} {l₅ : scrM.view.LoadsAt (slab b₁ hb₁).toLoadRect} {t₁ t₂ m₁ m₂}
    {α : Type} {Q : α → sProp 𝕄} {k : PUnit → Prog (TpuEff nD τ sig (Elt F) Λ₀ .tc) α} :
    iprop(ctx A K ∗ owesE (F := F) c p ∗ accAt A c 0 i ∗ accAt A c 1 i
        ∗ anySlot (F := F) (par (ord 0 i) c) 0 i ∗ anySlot (F := F) (par (ord 1 i) c) 1 i
        ∗ ticket (F := F) c 0 1 0 s ∗ ticket (F := F) c 0 1 1 s)
      ⊢ iprop(((owesE (F := F) c q ∗ accAt A c 0 j ∗ accAt A c 1 j
              ∗ (anySlot (F := F) c 0 i ∗ anySlot (F := F) c 1 i)
              ∗ (lent (F := F) c 0 i ∗ lent (F := F) c 1 i)
              ∗ (closed (F := F) c 0 1 0 s ∗ closed (F := F) c 0 1 1 s))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM.slice (slab o₀ ho₀) (fun _ => rfl)) (.remote (Dev.tc nd₀) (scrM.slice (slab b₀ hb₀) (fun _ => rfl)) (.dma S₀) hscr₀) (.dma V₀) hsrc₀ hdst₀ hsem₀) fun _ =>
                .op (.enqueueDma (accM.slice (slab o₁ ho₁) (fun _ => rfl)) (.remote (Dev.tc nd₁) (scrM.slice (slab b₁ hb₁) (fun _ => rfl)) (.dma S₁) hscr₁) (.dma V₁) hsrc₁ hdst₁ hsem₁) fun _ =>
                .op (.waitDma2 S₀ (scrM.slice (slab b₀ hb₀) (fun _ => rfl)) (accM.slice (slab o₀ ho₀) (fun _ => rfl)) a₁ a₂) fun _ =>
                .op (.waitDma2 V₀ (accM.slice (slab o₀ ho₀) (fun _ => rfl)) (scrM.slice (slab b₀ hb₀) (fun _ => rfl)) a₃ a₄) fun _ =>
                .op (.load accM (slab k₀ hk₀).toLoadRect l₁) fun (v : Vec F (slabShape n) .bf16) =>
                .op (.load scrM (slab b₀ hb₀).toLoadRect l₂) fun (v' : Vec F (slabShape n) .bf16) =>
                .op (.load accM (slab k₀ hk₀).toLoadRect l₃) fun _ => .op (.store accM (slab k₀ hk₀) (f₀ v v') Finset.univ t₁ m₁) fun _ =>
                .op (.waitDma2 S₁ (scrM.slice (slab b₁ hb₁) (fun _ => rfl)) (accM.slice (slab o₁ ho₁) (fun _ => rfl)) a₅ a₆) fun _ =>
                .op (.waitDma2 V₁ (accM.slice (slab o₁ ho₁) (fun _ => rfl)) (scrM.slice (slab b₁ hb₁) (fun _ => rfl)) a₇ a₈) fun _ =>
                .op (.load accM (slab k₁ hk₁).toLoadRect l₄) fun (v : Vec F (slabShape n) .bf16) =>
                .op (.load scrM (slab b₁ hb₁).toLoadRect l₅) fun (v' : Vec F (slabShape n) .bf16) =>
                .op (.load accM (slab k₁ hk₁).toLoadRect l₆) fun _ => .op (.store accM (slab k₁ hk₁) (f₁ v v') Finset.univ t₂ m₂) k) Q) := by
  subst hi; subst hj; subst hp; subst hq
  have e₀ : (accP c (prow 0 s c) (2 * len s) (sumAt A 0 s c) : sProp 𝕄) = iprop(accP c (krow 0 s c) (len s) (sumAt A 0 s c) ∗ accP c (srow 0 s c) (len s) (sumAt A 0 s c)) := acc_split c 0 s _
  have e₁ : (accP c (prow 1 s c) (2 * len s) (sumAt A 1 s c) : sProp 𝕄) = iprop(accP c (krow 1 s c) (len s) (sumAt A 1 s c) ∗ accP c (srow 1 s c) (len s) (sumAt A 1 s c)) := acc_split c 1 s _
  iintro ⟨#HC, HO, Ha0, Ha1, Hq0, Hq1, T0, T1⟩
  iintro Hk
  ihave Ha0 := (Entails.of_eq (show (accAt A c 0 s : sProp 𝕄) = accP c (prow 0 s c) (2 * len s) (sumAt A 0 s c) from rfl)) $$ Ha0
  ihave Ha0 := (Entails.of_eq e₀) $$ Ha0
  ihave Ha1 := (Entails.of_eq (show (accAt A c 1 s : sProp 𝕄) = accP c (prow 1 s c) (2 * len s) (sumAt A 1 s c) from rfl)) $$ Ha1
  ihave Ha1 := (Entails.of_eq e₁) $$ Ha1
  icases Ha0 with ⟨Hk0, Hs0⟩
  icases Ha1 with ⟨Hk1, Hs1⟩
  unfold ticket
  icases T0 with ⟨Hd0, Hd0', Hp0, Hp0', Hc0'⟩
  icases T1 with ⟨Hd1, Hd1', Hp1, Hp1', Hc1'⟩
  iapply (step_send A K c nd₀ 0 s n hd₀ hn eo₀ eb₀ hS₀ hV₀) $$ [HO Hs0 Hq0 Hd0 Hd0']
  · isplitr; · iexact HC
    isplitl [Hs0]; · iexact Hs0
    isplitl [Hq0]; · iexact Hq0
    isplitl [HO]; · iexact HO
    isplitl [Hd0] <;> iassumption
  iintro ⟨Hc0, HO⟩
  iapply (step_send A K c nd₁ 1 s n hd₁ hn eo₁ eb₁ hS₁ hV₁) $$ [HO Hs1 Hq1 Hd1 Hd1']
  · isplitr; · iexact HC
    isplitl [Hs1]; · iexact Hs1
    isplitl [Hq1]; · iexact Hq1
    isplitl [HO]; · iexact HO
    isplitl [Hd1] <;> iassumption
  iintro ⟨Hc1, HO⟩
  iapply (group_down A K c 0 s n hn ek₀ eb₀ hS₀ hV₀ hf₀) $$ [HO Hk0 Hc0 Hc0' Hp0 Hp0']
  · isplitr; · iexact HC
    isplitl [Hk0]; · iexact Hk0
    isplitl [HO]; · iexact HO
    isplitl [Hc0]; · iexact Hc0
    isplitl [Hc0']; · iexact Hc0'
    isplitl [Hp0] <;> iassumption
  iintro ⟨Hk0, HO, Hz0, Hsl0, Hq0⟩
  iapply (group_down A K c 1 s n hn ek₁ eb₁ hS₁ hV₁ hf₁) $$ [HO Hk1 Hc1 Hc1' Hp1 Hp1']
  · isplitr; · iexact HC
    isplitl [Hk1]; · iexact Hk1
    isplitl [HO]; · iexact HO
    isplitl [Hc1]; · iexact Hc1
    isplitl [Hc1']; · iexact Hc1'
    isplitl [Hp1] <;> iassumption
  iintro ⟨Hk1, HO, Hz1, Hsl1, Hq1⟩
  iapply Hk
  isplitl [HO]; · iexact HO
  isplitl [Hk0]
  · iapply (Entails.of_eq (acc_next A c 0 s)); iexact Hk0
  isplitl [Hk1]
  · iapply (Entails.of_eq (acc_next A c 1 s)); iexact Hk1
  isplitl [Hsl0 Hsl1]; · isplitl [Hsl0]; · iexact Hsl0
                         iexact Hsl1
  unfold lent
  isplitl [Hq0 Hq1]; · isplitl [Hq0]; · iexact Hq0
                       iexact Hq1
  isplitl [Hz0] <;> iassumption

theorem stage_up (c : Dev nD) (s : Fin 5) (i j p q n : ℕ) (hi : s.val = i) (hj : i + 1 = j) (hp : 23 - 2 * i = p) (hq : 25 - 2 * i = q) (hn : n = len i)
    {nd₀ nd₁ : Dev nD} (hd₀ : nd₀ = par (ord 0 i) c) (hd₁ : nd₁ = par (ord 1 i) c)
    {k₀ k₁ : Fin 2 → ℕ}
    {hk₀ : ∀ k, k₀ k + (slabShape n).size k ≤ S1024x1024.size k} {hk₁ : ∀ k, k₁ k + (slabShape n).size k ≤ S1024x1024.size k}
    (ek₀ : k₀ = ![krow 0 i c, 0]) (ek₁ : k₁ = ![krow 1 i c, 0])
    {S₀ V₀ S₁ V₁ : DmaSem sig} (hS₀ : S₀ = dsem (2, 0, s)) (hV₀ : V₀ = dsem (3, 0, s)) (hS₁ : S₁ = dsem (2, 1, s)) (hV₁ : V₁ = dsem (3, 1, s))
    {hscr₀ hsrc₀ hdst₀ hsem₀ hscr₁ hsrc₁ hdst₁ hsem₁}
    {a₁ a₂ a₃ a₄ a₅ a₆ a₇ a₈}
    {α : Type} {Q : α → sProp 𝕄} {k : PUnit → Prog (TpuEff nD τ sig (Elt F) Λ₀ .tc) α} :
    iprop(ctx A K ∗ owesE (F := F) c p ∗ totAt A c 0 j ∗ totAt A c 1 j
        ∗ (lent (F := F) c 0 i ∗ lent (F := F) c 1 i)
        ∗ ticket (F := F) c 2 3 0 s ∗ ticket (F := F) c 2 3 1 s)
      ⊢ iprop(((owesE (F := F) c q ∗ totAt A c 0 i ∗ totAt A c 1 i
              ∗ (closed (F := F) c 2 3 0 s ∗ closed (F := F) c 2 3 1 s))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM.slice (slab k₀ hk₀) (fun _ => rfl)) (.remote (Dev.tc nd₀) (accM.slice (slab k₀ hk₀) (fun _ => rfl)) (.dma S₀) hscr₀) (.dma V₀) hsrc₀ hdst₀ hsem₀) fun _ =>
                .op (.enqueueDma (accM.slice (slab k₁ hk₁) (fun _ => rfl)) (.remote (Dev.tc nd₁) (accM.slice (slab k₁ hk₁) (fun _ => rfl)) (.dma S₁) hscr₁) (.dma V₁) hsrc₁ hdst₁ hsem₁) fun _ =>
                .op (.waitDma2 S₀ (accM.slice (slab k₀ hk₀) (fun _ => rfl)) (accM.slice (slab k₀ hk₀) (fun _ => rfl)) a₁ a₂) fun _ =>
                .op (.waitDma2 V₀ (accM.slice (slab k₀ hk₀) (fun _ => rfl)) (accM.slice (slab k₀ hk₀) (fun _ => rfl)) a₃ a₄) fun _ =>
                .op (.waitDma2 S₁ (accM.slice (slab k₁ hk₁) (fun _ => rfl)) (accM.slice (slab k₁ hk₁) (fun _ => rfl)) a₅ a₆) fun _ =>
                .op (.waitDma2 V₁ (accM.slice (slab k₁ hk₁) (fun _ => rfl)) (accM.slice (slab k₁ hk₁) (fun _ => rfl)) a₇ a₈) k) Q) := by
  subst hi; subst hj; subst hp; subst hq
  have e₀ : (accP c (prow 0 s c) (2 * len s) (total A) : sProp 𝕄) = iprop(accP c (krow 0 s c) (len s) (total A) ∗ accP c (srow 0 s c) (len s) (total A)) := acc_split c 0 s _
  have e₁ : (accP c (prow 1 s c) (2 * len s) (total A) : sProp 𝕄) = iprop(accP c (krow 1 s c) (len s) (total A) ∗ accP c (srow 1 s c) (len s) (total A)) := acc_split c 1 s _
  have f₀ : xPay A c 3 0 s = accP c (srow 0 s c) (len s) (total A) := rfl
  have f₁ : xPay A c 3 1 s = accP c (srow 1 s c) (len s) (total A) := rfl
  have p₀ : place 3 0 s = 23 - 2 * s := rfl
  have p₁ : place 3 1 s = 23 - 2 * s + 1 := rfl
  have p₂ : 23 - 2 * s.val + 1 + 1 = 25 - 2 * s := by omega
  have g₀ : xPay A c 2 0 s = accP c (krow 0 s c) (len s) (total A) := rfl
  have g₁ : xPay A c 2 1 s = accP c (krow 1 s c) (len s) (total A) := rfl
  iintro ⟨#HC, HO, Hk0, Hk1, ⟨Hq0, Hq1⟩, T0, T1⟩
  iintro Hk
  unfold lent
  ihave Hk0 := (Entails.of_eq (tot_next A c 0 s).symm) $$ Hk0
  ihave Hk1 := (Entails.of_eq (tot_next A c 1 s).symm) $$ Hk1
  unfold ticket
  icases T0 with ⟨Hd0, Hd0', Hp0, Hp0', Hc0'⟩
  icases T1 with ⟨Hd1, Hd1', Hp1, Hp1', Hc1'⟩
  iapply (step_back A K c nd₀ 0 s n hd₀ hn ek₀ hS₀ hV₀) $$ [HO Hk0 Hq0 Hd0 Hd0']
  · isplitr; · iexact HC
    isplitl [Hk0]; · iexact Hk0
    isplitl [Hq0]; · iexact Hq0
    isplitl [HO]; · iexact HO
    isplitl [Hd0] <;> iassumption
  iintro ⟨Hc0, HO⟩
  iapply (step_back A K c nd₁ 1 s n hd₁ hn ek₁ hS₁ hV₁) $$ [HO Hk1 Hq1 Hd1 Hd1']
  · isplitr; · iexact HC
    isplitl [Hk1]; · iexact Hk1
    isplitl [Hq1]; · iexact Hq1
    isplitl [HO]; · iexact HO
    isplitl [Hd1] <;> iassumption
  iintro ⟨Hc1, HO⟩
  ihave HO := (Entails.of_eq (show (owesE (F := F) c (place 3 ((1 : Fin 2) : ℕ) s + 1) : sProp 𝕄) = owesE (F := F) c (23 - 2 * s + 1 + 1) from rfl)) $$ HO
  subst hn
  iapply (step_wait A K c (2, 0, s) (23 - 2 * s + 1 + 1) hS₀ rfl (fun k h1 h2 => (lev_up 0 s ⟨k, h2⟩ h1).1)) $$ [Hc0 HO Hp0]
  · isplitr; · iexact HC
    isplitl [Hc0]; · iexact Hc0
    isplitl [HO] <;> iassumption
  iintro ⟨HO, Hz0, Hk0⟩
  iapply (step_wait A K c (3, 0, s) (23 - 2 * s + 1 + 1) hV₀ rfl (fun k h1 h2 => (lev_up 0 s ⟨k, h2⟩ h1).2)) $$ [Hc0' HO Hp0']
  · isplitr; · iexact HC
    isplitl [Hc0']; · iexact Hc0'
    isplitl [HO] <;> iassumption
  iintro ⟨HO, Hz0', Hs0⟩
  iapply (step_wait A K c (2, 1, s) (23 - 2 * s + 1 + 1) hS₁ rfl (fun k h1 h2 => (lev_up 1 s ⟨k, h2⟩ h1).1)) $$ [Hc1 HO Hp1]
  · isplitr; · iexact HC
    isplitl [Hc1]; · iexact Hc1
    isplitl [HO] <;> iassumption
  iintro ⟨HO, Hz1, Hk1⟩
  iapply (step_wait A K c (3, 1, s) (23 - 2 * s + 1 + 1) hV₁ rfl (fun k h1 h2 => (lev_up 1 s ⟨k, h2⟩ h1).2)) $$ [Hc1' HO Hp1']
  · isplitr; · iexact HC
    isplitl [Hc1']; · iexact Hc1'
    isplitl [HO] <;> iassumption
  iintro ⟨HO, Hz1', Hs1⟩
  iapply Hk
  isplitl [HO]
  · rw [p₂]; iexact HO
  isplitl [Hk0 Hs0]
  · iapply (Entails.of_eq (show accP c (prow 0 s c) (2 * len s) (total A) = (totAt A c 0 s : sProp 𝕄) from rfl))
    iapply (Entails.of_eq e₀.symm)
    isplitl [Hk0]
    · iapply (Entails.of_eq g₀); iexact Hk0
    · iapply (Entails.of_eq f₀); iexact Hs0
  isplitl [Hk1 Hs1]
  · iapply (Entails.of_eq (show accP c (prow 1 s c) (2 * len s) (total A) = (totAt A c 1 s : sProp 𝕄) from rfl))
    iapply (Entails.of_eq e₁.symm)
    isplitl [Hk1]
    · iapply (Entails.of_eq g₁); iexact Hk1
    · iapply (Entails.of_eq f₁); iexact Hs1
  unfold closed
  isplitl [Hz0 Hz0']
  · isplitl [Hz0] <;> iassumption
  · isplitl [Hz1] <;> iassumption

end Cert.KernelIdeal.Halving
end
-- ==== Proof.Data.lean ====
/-
# What the devices hold before, between and after

The staged inputs of a device, its contribution to the sum, its result; the resources the kernel starts from and ends with.
-/
module

public import proofs.«01_k».proof.Proof.Stages
public import proofs.«01_k».proof.Proof.Gen.KernelIdeal.Frame

@[expose] public section

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch state. -/
def s₀ : MemSt nD τ sig (Elt F) := ⟨m, fun _ => 0, ρ⟩

/-! ## Contents -/

/-- The staged blocks of device `c`: tokens, router, routing, the device's four experts, the shared expert. -/
def xB (c : Dev nD) : (cc0_stg0_0 : Ref sig .tc).ty.Contents (Elt F) := iblk m c 0 t0_0
def rB (c : Dev nD) : (cc0_stg1_0 : Ref sig .tc).ty.Contents (Elt F) := iblk m c 1 t0_0
def iB (c : Dev nD) : (cc0_stg2_0 : Ref sig .tc).ty.Contents (Elt F) := iblk m c 2 t0_0
def eB (c : Dev nD) : (cc0_stg3_0 : Ref sig .tc).ty.Contents (Elt F) := iblk m c 3 t0_0
def wB (c : Dev nD) : (cc0_stg4_0 : Ref sig .tc).ty.Contents (Elt F) := iblk m c 4 t0_0

/-- The slab of the staged experts from expert `o 0` on, as the kernel loads it. -/
def slabE (f : (cc0_stg3_0 : Ref sig .tc).ty.Contents (Elt F)) (o : Fin 3 → ℕ) (h : ∀ k, o k + S1x512x1024.size k ≤ S4x512x1024.size k) : Vec F S1x512x1024 .bf16 :=
  (Memref.whole cc0_stg3_0 : Memref sig .tc .vmem S4x512x1024 .bf16).view.readAt (Elt F) (Rect.unit (s := S4x512x1024) o S1x512x1024.size h).toLoadRect f

/-- The device's number as the kernel computes it. -/
abbrev devW (c : Dev nD) : BitVec 32 := Scalar.remsi (Scalar.divsi (Dev.word c) 1#32) 32#32

/-- What device `c` adds to the sum, of its staged inputs. -/
def contribOf (c : Dev nD) (x : Vec F S1024x512 .bf16) (r : Vec F S512x128 .bf16) (i : Vec F S1024x1 .i32)
    (e₀ e₁ e₂ e₃ : Vec F S1x512x1024 .bf16) : Arr F :=
  k0_pay7 (devW c) (k0_pay1 x) (k0_pay3 i) (k0_pay4 (k0_pay2 x r) i)
    (k0_pay5 (devW c) (k0_pay1 x) (k0_pay2 x r) i e₀ e₁) (k0_pay6 (devW c)) e₂ e₃

/-- What device `c` adds to the sum. -/
def contrib (c : Dev nD) : Arr F :=
  contribOf c (xB m c) (rB m c) (iB m c)
    (slabE (eB m c) ![0, 0, 0] inb_S4x512x1024_S1x512x1024_0_0_0) (slabE (eB m c) ![1, 0, 0] inb_S4x512x1024_S1x512x1024_1_0_0)
    (slabE (eB m c) ![2, 0, 0] inb_S4x512x1024_S1x512x1024_2_0_0) (slabE (eB m c) ![3, 0, 0] inb_S4x512x1024_S1x512x1024_3_0_0)

/-- Device `c`'s result. -/
def outAt (c : Dev nD) : (cc0_stg5_0 : Ref sig .tc).ty.Contents (Elt F) := k0_pay19 (k0_pay1 (xB m c)) (wB m c) (total (contrib m))

/-! ## Resources -/

/-- The device whose semaphore of name `x` device `c` pays: its own for a send, the peer's for a receive. -/
def dest (x : X) (c : Dev nD) : Dev nD := if x.1.val % 2 = 1 then par (ord x.2.1 x.2.2) c else c

/-- What stays with device `c` alone: its positions, and the tokens of the payments it makes. -/
def linear (c : Dev nD) : sProp 𝕄 :=
  iprop(atPos ER (barCell c) 0 ∅ 0 ∗ (bigSep Finset.univ fun x : X => atPos ER (xCell c x) 0 ∅ 0)
    ∗ (bigSep Finset.univ fun d : Fin 5 => dutyTok ER (barCell (par d c)) 0 d)
    ∗ bigSep Finset.univ fun x : X => dutyTok ER (xCell (dest x c) x) 0 0)

/-- The credit a receive semaphore's waiter is given at the launch. -/
def credOf (c : Dev nD) (x : X) : sProp 𝕄 :=
  if x.1.val % 2 = 1 then cred (tallyAt (xCell c x) () (crd (len x.2.2))) else iprop(emp)

/-- The launch credits of device `c`. -/
def credits (c : Dev nD) : sProp 𝕄 :=
  iprop(cred (tallyAt (barCell c) () 5) ∗ bigSep Finset.univ fun x : X => credOf (F := F) c x)

/-- What device `c` starts with. -/
def start (c : Dev nD) : sProp 𝕄 :=
  iprop((∃ K, ctx (contrib m) K ∗ linear (F := F) c) ∗ credits (F := F) c)

/-- A scratch buffer of device `c`, whole at any contents. -/
def anyAll (c : Dev nD) (b : Ref sig .tc) : sProp 𝕄 := iprop(∃ f : Buf (Elt F) ((c : Thread nD τ).loc b), ((c : Thread nD τ).loc b) ↦{fullShare} f)

def Φ₀ (c : Dev nD) : sProp 𝕄 := iprop(start m c ∗ anyAll (F := F) c cc0_scratch0 ∗ anyAll (F := F) c cc0_scratch1)
/-- After the kernel: the scratch buffers, and every semaphore at zero. -/
def Φ₁ (c : Dev nD) : sProp 𝕄 :=
  iprop((anyAll (F := F) c cc0_scratch0 ∗ anyAll (F := F) c cc0_scratch1) ∗ semVal (barCell c) 0 ∗ bigSep Finset.univ fun x : X => semVal (xCell c x) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xB m c
    | ⟨1, _⟩ => rB m c
    | ⟨2, _⟩ => iB m c
    | ⟨3, _⟩ => eB m c
    | ⟨4, _⟩ => wB m c
    | ⟨5, _⟩ => outAt m c
  Φ t := match t with
    | ⟨0, _⟩ => Φ₀ m c
    | ⟨_ + 1, _⟩ => Φ₁ c
  q _ := fullShare
  owed t := match t with
    | ⟨0, _⟩ => owe c 0
    | ⟨_ + 1, _⟩ => 0

/-! ## Lists of names -/

omit [FloatOps F] in
theorem bigSep_dims (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem bigSep_kinds (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_pair (Φ : Fin 2 → sProp 𝕄) : bigSep Finset.univ Φ = iprop(Φ 0 ∗ Φ 1) :=
  bigSep_univ_eq_bigSepL [0, 1] (by decide) (by decide) Φ
omit [FloatOps F] in
theorem bigSep_twos (Φ : Fin 2 × Fin 5 → sProp 𝕄) : bigSep Finset.univ Φ
    = iprop((Φ (0, 0) ∗ Φ (0, 1) ∗ Φ (0, 2) ∗ Φ (0, 3) ∗ Φ (0, 4)) ∗ Φ (1, 0) ∗ Φ (1, 1) ∗ Φ (1, 2) ∗ Φ (1, 3) ∗ Φ (1, 4)) := by
  rw [bigSep_univ_prod, bigSep_pair, bigSep_dims, bigSep_dims]

/-- A device's positions, tokens and credits, sorted by transfer: the halving's tickets and the doubling's. -/
theorem tickets (c : Dev nD) :
    iprop((bigSep Finset.univ fun x : X => (atPos ER (xCell c x) 0 ∅ 0 : sProp 𝕄))
        ∗ (bigSep Finset.univ fun x : X => dutyTok ER (xCell (dest x c) x) 0 0) ∗ bigSep Finset.univ fun x : X => credOf (F := F) c x)
      ⊢ iprop((bigSep Finset.univ fun y : Fin 2 × Fin 5 => ticket (F := F) c 0 1 y.1 y.2)
          ∗ bigSep Finset.univ fun y : Fin 2 × Fin 5 => ticket (F := F) c 2 3 y.1 y.2) := by
  rw [bigSep_univ_prod (fun x : X => (atPos ER (xCell c x) 0 ∅ 0 : sProp 𝕄)), bigSep_univ_prod (fun x : X => (dutyTok ER (xCell (dest x c) x) 0 0 : sProp 𝕄)),
    bigSep_univ_prod (fun x : X => credOf (F := F) c x), bigSep_kinds, bigSep_kinds, bigSep_kinds]
  unfold ticket
  simp only [bigSep_sep']
  iintro ⟨⟨A0, A1, A2, A3⟩, ⟨T0, T1, T2, T3⟩, ⟨-, C1, -, C3⟩⟩
  isplitl [A0 A1 T0 T1 C1]
  · isplitl [T0]; · iexact T0
    isplitl [T1]; · iexact T1
    isplitl [A0]; · iexact A0
    isplitl [A1]; · iexact A1
    iexact C1
  · isplitl [T2]; · iexact T2
    isplitl [T3]; · iexact T3
    isplitl [A2]; · iexact A2
    isplitl [A3]; · iexact A3
    iexact C3

/-- Both semaphores of every transfer at zero: every transfer semaphore at zero. -/
theorem closed_all (c : Dev nD) :
    iprop((bigSep Finset.univ fun y : Fin 2 × Fin 5 => closed (F := F) c 0 1 y.1 y.2) ∗ bigSep Finset.univ fun y : Fin 2 × Fin 5 => closed (F := F) c 2 3 y.1 y.2)
      ⊢ (bigSep Finset.univ fun x : X => semVal (xCell c x) 0 : sProp 𝕄) := by
  rw [bigSep_univ_prod (fun x : X => (semVal (xCell c x) 0 : sProp 𝕄)), bigSep_kinds]
  unfold closed
  simp only [bigSep_sep']
  iintro ⟨⟨A0, A1⟩, A2, A3⟩
  isplitl [A0]; · iexact A0
  isplitl [A1]; · iexact A1
  isplitl [A2]; · iexact A2
  iexact A3

end Cert.KernelIdeal.Halving
end
-- ==== Proof.Front.lean ====
/-
# The handshake before the first transfer, and the buffers in pieces

Every device signals its five peers on their barrier semaphores, handing each the two landing slots that peer's transfers fill;
after waiting for its own five units it holds the ten slots it will send into.
-/
module

public import proofs.«01_k».proof.Proof.Data

@[expose] public section

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Buffers in pieces -/

/-- Rows `[a, a+n)` of device `c`'s landing buffer, at any contents. -/
def anyScr (c : Dev nD) (a n : ℕ) : sProp 𝕄 := iprop(∃ f : Arr F, scrP c a n f)

omit [FloatOps F] in
theorem scr_cut (c : Dev nD) {a n b k m : ℕ} (hb : b = a + n) (hk : k = n + m) :
    (anyScr (F := F) c a k : sProp 𝕄) ⊢ iprop(anyScr (F := F) c a n ∗ anyScr (F := F) c b m) := by
  subst hb; subst hk
  unfold anyScr scrP
  rw [Rows_add]
  iintro ⟨%f, H⟩
  have u := pointsTo_union (Val := Elt F) (Ix := Unit) (Name := ℕ) (U := UU) (Lvl := ℕ) (ℓ := (c : Thread nD τ).loc cc0_scratch1) (q := fullShare) (f := f)
    (Rows_disjoint (m := m) (le_refl (a + n)))
  ihave H' := u.1 $$ H
  icases H' with ⟨H1, H2⟩
  isplitl [H1]
  · iexists f; iexact H1
  · iexists f; iexact H2

omit [FloatOps F] in
theorem scr_paste (c : Dev nD) {a n b k m : ℕ} (hb : b = a + n) (hk : k = n + m) :
    iprop(anyScr (F := F) c a n ∗ anyScr (F := F) c b m) ⊢ (anyScr (F := F) c a k : sProp 𝕄) := by
  subst hb; subst hk
  unfold anyScr scrP
  rw [Rows_add]
  iintro ⟨⟨%f, H1⟩, ⟨%f', H2⟩⟩
  have u := pointsTo_join (Val := Elt F) (Ix := Unit) (Name := ℕ) (U := UU) (Lvl := ℕ) (ℓ := (c : Thread nD τ).loc cc0_scratch1) (q := fullShare) (f := f) (g := f')
    (Rows_disjoint (m := m) (le_refl (a + n)))
  iexists _
  iapply u
  isplitl [H1] <;> iassumption

omit [FloatOps F] in
theorem anyAll_scr (c : Dev nD) : (anyAll (F := F) c cc0_scratch1 : sProp 𝕄) = anyScr (F := F) c 0 1024 := by
  unfold anyAll anyScr scrP; rw [Rows_univ]; rfl

omit [FloatOps F] in
theorem anySlot_eq (c : Dev nD) (g s : ℕ) : (anySlot (F := F) c g s : sProp 𝕄) = anyScr (F := F) c (slot g s) (len s) := rfl

/-- One group's half of the landing buffer: its five slots and the rows no transfer uses. -/
def slots (c : Dev nD) (g : ℕ) : sProp 𝕄 :=
  iprop(anySlot (F := F) c g 0 ∗ anySlot (F := F) c g 1 ∗ anySlot (F := F) c g 2 ∗ anySlot (F := F) c g 3 ∗ anySlot (F := F) c g 4)

omit [FloatOps F] in
theorem half_cut (c : Dev nD) (g : ℕ) : (anyScr (F := F) c (512 * g) 512 : sProp 𝕄) ⊢ iprop(slots (F := F) c g ∗ anyScr (F := F) c (512 * g + 496) 16) := by
  unfold slots
  simp only [anySlot_eq]
  iintro H
  ihave H := (Entails.of_eq (show (anyScr (F := F) c (512 * g) 512 : sProp 𝕄) = anyScr (F := F) c (slot g 0) 512 from rfl)) $$ H
  ihave H := (scr_cut (F := F) c (a := slot g 0) (k := 512) (n := len 0) (m := 256) (b := slot g 1) rfl rfl) $$ H
  icases H with ⟨H0, H⟩
  ihave H := (scr_cut (F := F) c (a := slot g 1) (k := 256) (n := len 1) (m := 128) (b := slot g 2) rfl rfl) $$ H
  icases H with ⟨H1, H⟩
  ihave H := (scr_cut (F := F) c (a := slot g 2) (k := 128) (n := len 2) (m := 64) (b := slot g 3) rfl rfl) $$ H
  icases H with ⟨H2, H⟩
  ihave H := (scr_cut (F := F) c (a := slot g 3) (k := 64) (n := len 3) (m := 32) (b := slot g 4) rfl rfl) $$ H
  icases H with ⟨H3, H⟩
  ihave H := (scr_cut (F := F) c (a := slot g 4) (k := 32) (n := len 4) (m := 16) (b := 512 * g + 496) rfl rfl) $$ H
  icases H with ⟨H4, H⟩
  isplitr [H]
  · isplitl [H0]; · iexact H0
    isplitl [H1]; · iexact H1
    isplitl [H2]; · iexact H2
    isplitl [H3]; · iexact H3
    iexact H4
  iexact H

omit [FloatOps F] in
theorem half_paste (c : Dev nD) (g : ℕ) : iprop(slots (F := F) c g ∗ anyScr (F := F) c (512 * g + 496) 16) ⊢ (anyScr (F := F) c (512 * g) 512 : sProp 𝕄) := by
  unfold slots
  simp only [anySlot_eq]
  iintro ⟨⟨H0, H1, H2, H3, H4⟩, H⟩
  iapply (scr_paste (F := F) c (a := slot g 0) (n := len 0) (m := 256) (b := slot g 1) rfl rfl)
  isplitl [H0]; · iexact H0
  iapply (scr_paste (F := F) c (a := slot g 1) (n := len 1) (m := 128) (b := slot g 2) rfl rfl)
  isplitl [H1]; · iexact H1
  iapply (scr_paste (F := F) c (a := slot g 2) (n := len 2) (m := 64) (b := slot g 3) rfl rfl)
  isplitl [H2]; · iexact H2
  iapply (scr_paste (F := F) c (a := slot g 3) (n := len 3) (m := 32) (b := slot g 4) rfl rfl)
  isplitl [H3]; · iexact H3
  iapply (scr_paste (F := F) c (a := slot g 4) (n := len 4) (m := 16) (b := 512 * g + 496) rfl rfl)
  isplitl [H4]; · iexact H4
  iexact H

/-- The landing buffer: both groups' slots and what is left over. -/
theorem scr_pieces (c : Dev nD) :
    (anyAll (F := F) c cc0_scratch1 : sProp 𝕄) ⊢ iprop(slots (F := F) c 0 ∗ slots (F := F) c 1 ∗ anyScr (F := F) c 496 16 ∗ anyScr (F := F) c 1008 16) := by
  rw [anyAll_scr]
  iintro H
  ihave H := (scr_cut (F := F) c (a := 0) (n := 512) (m := 512) (b := 512) rfl rfl) $$ H
  icases H with ⟨H0, H1⟩
  ihave H0 := (half_cut (F := F) c 0) $$ H0
  ihave H1 := (half_cut (F := F) c 1) $$ H1
  icases H0 with ⟨H0, L0⟩
  icases H1 with ⟨H1, L1⟩
  isplitl [H0]; · iexact H0
  isplitl [H1]; · iexact H1
  isplitl [L0]; · iexact L0
  iexact L1
theorem scr_whole (c : Dev nD) :
    iprop(slots (F := F) c 0 ∗ slots (F := F) c 1 ∗ anyScr (F := F) c 496 16 ∗ anyScr (F := F) c 1008 16) ⊢ (anyAll (F := F) c cc0_scratch1 : sProp 𝕄) := by
  rw [anyAll_scr]
  iintro ⟨H0, H1, L0, L1⟩
  iapply (scr_paste (F := F) c (a := 0) (n := 512) (m := 512) (b := 512) rfl rfl)
  isplitl [H0 L0]
  · iapply (half_paste (F := F) c 0); isplitl [H0]; · iexact H0
    iexact L0
  · iapply (half_paste (F := F) c 1); isplitl [H1]; · iexact H1
    iexact L1

omit [FloatOps F] in
/-- The accumulator is both groups' halves. -/
theorem acc_halves (c : Dev nD) (f : Arr F) :
    (((c : Thread nD τ).loc cc0_scratch0) ↦{fullShare} f : sProp 𝕄) = iprop(accP c (prow 0 0 c) (2 * len 0) f ∗ accP c (prow 1 0 c) (2 * len 0) f) := by
  have u := pointsTo_union (Val := Elt F) (Ix := Unit) (Name := ℕ) (U := UU) (Lvl := ℕ) (ℓ := (c : Thread nD τ).loc cc0_scratch0) (q := fullShare) (f := f)
    (Rows_disjoint (a := 0) (n := 512) (b := 0 + 512) (m := 512) (le_refl _))
  rw [← Rows_add, Rows_univ] at u
  exact Entails.antisymm u.1 u.2

/-! ## The handshake -/

/-- The five slots device `c` sends into at group `g`'s stages. -/
def slotsOf (c : Dev nD) (g : ℕ) : sProp 𝕄 :=
  iprop(anySlot (F := F) (par (ord g 0) c) g 0 ∗ anySlot (F := F) (par (ord g 1) c) g 1 ∗ anySlot (F := F) (par (ord g 2) c) g 2
    ∗ anySlot (F := F) (par (ord g 3) c) g 3 ∗ anySlot (F := F) (par (ord g 4) c) g 4)

variable (A : Dev nD → Arr F) (K : Dev nD × Option X → ℕ)

/-- A signal to the peer along dimension `d`: it hands the peer the two slots of `c` that the peer's transfers along `d` fill. -/
theorem step_signal (c nd : Dev nD) (d : Fin 5) (hd : nd = par d c) {q : Sem sig} (hq : q = barS) {k' : ℕ} (hk : 1 = k')
    {α : Type} {Q : α → sProp 𝕄} {k : PUnit → Prog (TpuEff nD τ sig (Elt F) Λ₀ .tc) α} :
    iprop(ctx A K ∗ owesE (F := F) c d ∗ dutyTok ER (barCell (par d c)) 0 d ∗ anySlot (F := F) c 0 (stg 0 d) ∗ anySlot (F := F) c 1 (stg 1 d))
      ⊢ iprop((owesE (F := F) c (d + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (nd : Thread nD τ) q k') k) Q) := by
  subst hd; subst hq; subst hk
  unfold owesE
  iintro ⟨#HC, ⟨%W, HO⟩, Ht, H0, H1⟩
  iintro Hk
  iapply (Rounds.wp_signal 𝒱₀ ER (rd A) (c : Thread nD τ) none (dst := (par d c : Thread nD τ)) (κ := K (par d c, none))
      (d := d) (by rw [duties_bar]; exact Finset.mem_univ _) (amount_bar A (par d c) d) () (owe c (d + 1)) (owe_bar c d)) $$ [HO Ht H0 H1]
  · isplitr; · iapply (ctx_cell A K (par d c, none)); iexact HC
    isplitl [HO]; · iexact HO
    isplitl [Ht]; · iexact Ht
    isplitl [H0 H1]
    · rw [payload_bar]; unfold barPay; rw [par_par]
      isplitl [H0] <;> iassumption
    iapply (ctx_reached A K (par d c, none)); iexact HC
  iintro HO
  iapply Hk
  iexists W; iexact HO

theorem lev_bar : ∀ k : Fin 25, 5 ≤ k.val → lvS (.reg barS) < (if k.val < 5 then 1 else k.val + 2) := by decide +kernel

/-- The wait for the five units of `c`'s own barrier: the peers' slots. -/
theorem step_barrier (c : Dev nD) {q : Sem sig} (hq : q = barS) {k' : ℕ} (hk : 5 = k')
    {α : Type} {Q : α → sProp 𝕄} {k : PUnit → Prog (TpuEff nD τ sig (Elt F) Λ₀ .tc) α} :
    iprop(ctx A K ∗ owesE (F := F) c 5 ∗ cred (tallyAt (barCell c) () 5) ∗ atPos ER (barCell c) 0 ∅ 0)
      ⊢ iprop(((owesE (F := F) c 5 ∗ semVal (barCell c) 0
              ∗ slotsOf (F := F) c 0 ∗ slotsOf (F := F) c 1)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait q k') k) Q) := by
  subst hq; subst hk
  unfold owesE
  iintro ⟨#HC, ⟨%W, HO⟩, Hc, Hat⟩
  iintro Hk
  iapply (Rounds.wp_wait_rest_token 𝒱₀ ER (rd A) (c : Thread nD τ) none (κ := K (c, none))
      (wpE_semWait_eq 𝒱₀ (c : Thread nD τ) none Set.univ) (Set.mem_univ _) () (O := owe c 5) (W := W) (R := 0) (m := 0) (T := ∅)
      (by rw [expect_bar])) $$ [Hc HO Hat]
  · isplitr; · iapply (ctx_cell A K (c, none)); iexact HC
    isplitl [Hc]; · iexact Hc
    isplitl [HO]; · iexact HO
    isplitr; · iapply (ctx_mayWait A K c (.reg barS) 5 (fun k h1 h2 => lev_bar ⟨k, h2⟩ h1)); iexact HC
    iexact Hat
  iintro ⟨HO, Hat, -, Hpay⟩
  ihave Hp := (Entails.of_eq ((rest_bar A c).trans (bigSep_dims _))) $$ Hpay
  imod (Rounds.cell_close ER (rd A) (Set.mem_univ (K (c, none))) (fun h => h) (R := 0 + 1) (duties_later A (barCell c))) $$ [Hat] with Hz
  · isplitr; · iapply (ctx_cell A K (c, none)); iexact HC
    iexact Hat
  unfold barPay
  icases Hp with ⟨⟨P0, Q1⟩, ⟨P1, Q0⟩, ⟨P2, Q4⟩, ⟨P3, Q2⟩, ⟨P4, Q3⟩⟩
  iapply Hk
  isplitl [HO]; · iexists _; iexact HO
  isplitl [Hz]; · iexact Hz
  unfold slotsOf
  isplitl [P0 P1 P2 P3 P4]
  · isplitl [P0]; · iexact P0
    isplitl [P1]; · iexact P1
    isplitl [P2]; · iexact P2
    isplitl [P3]; · iexact P3
    iexact P4
  · isplitl [Q0]; · iexact Q0
    isplitl [Q1]; · iexact Q1
    isplitl [Q2]; · iexact Q2
    isplitl [Q3]; · iexact Q3
    iexact Q4

end Cert.KernelIdeal.Halving
end
-- ==== Proof.Body.lean ====
/-
# The kernel's body on one device

The body is run symbolically, one rule per effect in program order: the handshake, the contribution, the halving, the doubling
and the result.
-/
module

public import proofs.«01_k».proof.Proof.Front

@[expose] public section

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` at contents `X`. -/
abbrev stage_ (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Option X → ℕ) (c : Dev nD) : sProp 𝕄 :=
  iprop(((ctx (contrib m) K ∗ linear (F := F) c) ∗ credits (F := F) c ∗ anyAll (F := F) c cc0_scratch0 ∗ anyAll (F := F) c cc0_scratch1)
    ∗ (dats m ρ 0 c).owesAt () t0_0.castSucc
    ∗ (∃ d, stage_ c cc0_stg0_0 ((dats m ρ 0 c).before (0 : Fin 6) t0_0 d))
    ∗ (∃ d, stage_ c cc0_stg1_0 ((dats m ρ 0 c).before (1 : Fin 6) t0_0 d))
    ∗ (∃ d, stage_ c cc0_stg2_0 ((dats m ρ 0 c).before (2 : Fin 6) t0_0 d))
    ∗ (∃ d, stage_ c cc0_stg3_0 ((dats m ρ 0 c).before (3 : Fin 6) t0_0 d))
    ∗ (∃ d, stage_ c cc0_stg4_0 ((dats m ρ 0 c).before (4 : Fin 6) t0_0 d))
    ∗ (∃ d, stage_ c cc0_stg5_0 ((dats m ρ 0 c).before (5 : Fin 6) t0_0 d)))

def bodyPost (c : Dev nD) : sProp 𝕄 :=
  iprop(Φ₁ c ∗ (dats m ρ 0 c).owesAt () t0_0.succ ∗ stage_ c cc0_stg0_0 (xB m c) ∗ stage_ c cc0_stg1_0 (rB m c) ∗ stage_ c cc0_stg2_0 (iB m c)
    ∗ stage_ c cc0_stg3_0 (eB m c) ∗ stage_ c cc0_stg4_0 (wB m c) ∗ stage_ c cc0_stg5_0 (outAt m c))

theorem zero2 : (![0, 0] : Fin 2 → ℕ) = fun _ => 0 := funext fun a => by fin_cases a <;> rfl

omit [FloatOps F] in
theorem read_x (f : (cc0_stg0_0 : Ref sig .tc).ty.Contents (Elt F)) : (Memref.whole cc0_stg0_0 : Memref sig .tc .vmem S1024x512 .bf16).view.readAt (Elt F)
    (Rect.unit (s := S1024x512) ![0, 0] S1024x512.size inb_S1024x512_S1024x512_0_0).toLoadRect f = f := Memref.readAt_unit_zero (Elt F) cc0_stg0_0 zero2 _ f
omit [FloatOps F] in
theorem read_r (f : (cc0_stg1_0 : Ref sig .tc).ty.Contents (Elt F)) : (Memref.whole cc0_stg1_0 : Memref sig .tc .vmem S512x128 .bf16).view.readAt (Elt F)
    (Rect.unit (s := S512x128) ![0, 0] S512x128.size inb_S512x128_S512x128_0_0).toLoadRect f = f := Memref.readAt_unit_zero (Elt F) cc0_stg1_0 zero2 _ f
omit [FloatOps F] in
theorem read_i (f : (cc0_stg2_0 : Ref sig .tc).ty.Contents (Elt F)) : (Memref.whole cc0_stg2_0 : Memref sig .tc .vmem S1024x1 .i32).view.readAt (Elt F)
    (Rect.unit (s := S1024x1) ![0, 0] S1024x1.size inb_S1024x1_S1024x1_0_0).toLoadRect f = f := Memref.readAt_unit_zero (Elt F) cc0_stg2_0 zero2 _ f
omit [FloatOps F] in
theorem read_w (f : (cc0_stg4_0 : Ref sig .tc).ty.Contents (Elt F)) : (Memref.whole cc0_stg4_0 : Memref sig .tc .vmem S512x1024 .bf16).view.readAt (Elt F)
    (Rect.unit (s := S512x1024) ![0, 0] S512x1024.size inb_S512x1024_S512x1024_0_0).toLoadRect f = f := Memref.readAt_unit_zero (Elt F) cc0_stg4_0 zero2 _ f
abbrev r00 : Rect S1024x1024 := Rect.unit (s := S1024x1024) ![0, 0] S1024x1024.size inb_S1024x1024_S1024x1024_0_0
omit [FloatOps F] in
theorem read_acc (f : Arr F) : (accM : Memref sig .tc .vmem S1024x1024 .bf16).view.readAt (Elt F) r00.toLoadRect f = f := Memref.readAt_unit_zero (Elt F) cc0_scratch0 zero2 _ f
omit [FloatOps F] in
theorem write_acc (f w : Arr F) : (accM.access r00 : View sig .tc _ _ _).write (Elt F) f w Finset.univ = w :=
  Memref.write_access_unit_zero_univ (Elt F) cc0_scratch0 zero2 _ f w
omit [FloatOps F] in
theorem write_out (f w : (cc0_stg5_0 : Ref sig .tc).ty.Contents (Elt F)) :
    ((Memref.whole cc0_stg5_0 : Memref sig .tc .vmem S1024x1024 .f32).access r00 : View sig .tc _ _ _).write (Elt F) f w Finset.univ = w :=
  Memref.write_access_unit_zero_univ (Elt F) cc0_stg5_0 zero2 _ f w

omit [FloatOps F] in
theorem to_halves (c : Dev nD) (f : Arr F) : ((((c : Thread nD τ).loc cc0_scratch0) ↦{fullShare} f : sProp 𝕄) : sProp 𝕄) ⊢ iprop(accP c (prow 0 0 c) (2 * len 0) f ∗ accP c (prow 1 0 c) (2 * len 0) f) :=
  Entails.of_eq (acc_halves (F := F) c f)

/-- One group's five tickets. -/
abbrev five (f : Fin 5 → sProp 𝕄) : sProp 𝕄 := iprop(f 0 ∗ f 1 ∗ f 2 ∗ f 3 ∗ f 4)

theorem tickets' (c : Dev nD) :
    iprop((bigSep Finset.univ fun x : X => (atPos ER (xCell c x) 0 ∅ 0 : sProp 𝕄))
        ∗ (bigSep Finset.univ fun x : X => dutyTok ER (xCell (dest x c) x) 0 0) ∗ bigSep Finset.univ fun x : X => credOf (F := F) c x)
      ⊢ iprop((five (fun s => ticket (F := F) c 0 1 0 s) ∗ five (fun s => ticket (F := F) c 0 1 1 s))
          ∗ five (fun s => ticket (F := F) c 2 3 0 s) ∗ five (fun s => ticket (F := F) c 2 3 1 s)) := by
  have h := tickets (F := F) c
  rw [bigSep_twos, bigSep_twos] at h
  exact h
theorem closed_all' (c : Dev nD) :
    iprop((five (fun s => closed (F := F) c 0 1 0 s) ∗ five (fun s => closed (F := F) c 0 1 1 s))
          ∗ five (fun s => closed (F := F) c 2 3 0 s) ∗ five (fun s => closed (F := F) c 2 3 1 s))
      ⊢ (bigSep Finset.univ fun x : X => semVal (xCell c x) 0 : sProp 𝕄) := by
  have h := closed_all (F := F) c
  rw [bigSep_twos, bigSep_twos] at h
  exact h

set_option maxHeartbeats 4000000 in
set_option maxRecDepth 65536 in
/-- The body, from what the device starts with to its result and every semaphore at zero. -/
theorem sound_body (K : Dev nD × Option X → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel
  simp only [semSignalWord, semWaitWord, Prog.lift, Prog.bind_op, Prog.bind_ret, Prog.pure_eq_ret, wp_deviceId]
  unfold bodyPre linear credits
  iintro ⟨⟨⟨⟨#HC, HaB, HaX, HdB, HdX⟩, ⟨HcB, HcX⟩, Hacc, Hscr⟩,
    Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩, Hk⟩
  have h0 : g0 = xB m c := by rw [hg0]; unfold Dat.before; rw [if_pos (fetch0_0 t0_0)]; rfl
  have h1 : g1 = rB m c := by rw [hg1]; unfold Dat.before; rw [if_pos (fetch0_1 t0_0)]; rfl
  have h2 : g2 = iB m c := by rw [hg2]; unfold Dat.before; rw [if_pos (fetch0_2 t0_0)]; rfl
  have h3 : g3 = eB m c := by rw [hg3]; unfold Dat.before; rw [if_pos (fetch0_3 t0_0)]; rfl
  have h4 : g4 = wB m c := by rw [hg4]; unfold Dat.before; rw [if_pos (fetch0_4 t0_0)]; rfl
  subst h0; subst h1; subst h2; subst h3; subst h4
  ihave HT := (tickets' (F := F) c) $$ [HaX HdX HcX]
  · isplitl [HaX]; · iexact HaX
    isplitl [HdX]; · iexact HdX
    iexact HcX
  icases HT with ⟨⟨⟨T00, T01, T02, T03, T04⟩, ⟨T10, T11, T12, T13, T14⟩⟩, ⟨⟨U00, U01, U02, U03, U04⟩, ⟨U10, U11, U12, U13, U14⟩⟩⟩
  ihave HdB := (Entails.of_eq (bigSep_dims (F := F) _)) $$ HdB
  icases HdB with ⟨D0, D1, D2, D3, D4⟩
  ihave Hs := (scr_pieces (F := F) c) $$ Hscr
  unfold slots
  icases Hs with ⟨⟨M00, M01, M02, M03, M04⟩, ⟨M10, M11, M12, M13, M14⟩, R0, R1⟩
  unfold Dat.owesAt Pipeline.owesWithin
  icases Ho with ⟨%W, %hW, HO⟩
  ihave HO := (show (owes (c : Thread nD τ) ((dats m ρ 0 c).owed t0_0.castSucc) W : sProp 𝕄) ⊢ owesE (F := F) c 0 from exists_intro W) $$ HO
  -- the handshake
  iapply (step_signal (contrib m) K c _ 0 (dev_bar c).1 rfl rfl) $$ [HO D0 M00 M11]
  · isplitr; · iexact HC
    isplitl [HO]; · iexact HO
    isplitl [D0]; · iexact D0
    isplitl [M00]; · iexact M00
    iexact M11
  iintro HO
  iapply (step_signal (contrib m) K c _ 1 (dev_bar c).2.1 rfl rfl) $$ [HO D1 M01 M10]
  · isplitr; · iexact HC
    isplitl [HO]; · iexact HO
    isplitl [D1]; · iexact D1
    isplitl [M01]; · iexact M01
    iexact M10
  iintro HO
  iapply (step_signal (contrib m) K c _ 2 (dev_bar c).2.2.1 rfl rfl) $$ [HO D2 M02 M14]
  · isplitr; · iexact HC
    isplitl [HO]; · iexact HO
    isplitl [D2]; · iexact D2
    isplitl [M02]; · iexact M02
    iexact M14
  iintro HO
  iapply (step_signal (contrib m) K c _ 3 (dev_bar c).2.2.2.1 rfl rfl) $$ [HO D3 M03 M12]
  · isplitr; · iexact HC
    isplitl [HO]; · iexact HO
    isplitl [D3]; · iexact D3
    isplitl [M03]; · iexact M03
    iexact M12
  iintro HO
  iapply (step_signal (contrib m) K c _ 4 (dev_bar c).2.2.2.2 rfl rfl) $$ [HO D4 M04 M13]
  · isplitr; · iexact HC
    isplitl [HO]; · iexact HO
    isplitl [D4]; · iexact D4
    isplitl [M04]; · iexact M04
    iexact M13
  iintro HO
  iapply (step_barrier (contrib m) K c rfl rfl) $$ [HO HcB HaB]
  · isplitr; · iexact HC
    isplitl [HO]; · iexact HO
    isplitl [HcB] <;> iassumption
  unfold slotsOf
  iintro ⟨HO, HzB, ⟨P0, P1, P2, P3, P4⟩, ⟨Q0, Q1, Q2, Q3, Q4⟩⟩
  -- the staged inputs, and the contribution into the accumulator
  iapply (wp_load 𝒱₀ (c : Thread nD τ) none Set.univ (m := (Memref.whole cc0_stg0_0 : Memref sig .tc .vmem S1024x512 .bf16)) (Finset.subset_univ _)) $$ H0; iintro H0
  iapply (wp_load 𝒱₀ (c : Thread nD τ) none Set.univ (m := (Memref.whole cc0_stg1_0 : Memref sig .tc .vmem S512x128 .bf16)) (Finset.subset_univ _)) $$ H1; iintro H1
  iapply (wp_load 𝒱₀ (c : Thread nD τ) none Set.univ (m := (Memref.whole cc0_stg2_0 : Memref sig .tc .vmem S1024x1 .i32)) (Finset.subset_univ _)) $$ H2; iintro H2
  iapply (wp_load 𝒱₀ (c : Thread nD τ) none Set.univ (m := (Memref.whole cc0_stg3_0 : Memref sig .tc .vmem S4x512x1024 .bf16)) (Finset.subset_univ _)) $$ H3; iintro H3
  iapply (wp_load 𝒱₀ (c : Thread nD τ) none Set.univ (m := (Memref.whole cc0_stg3_0 : Memref sig .tc .vmem S4x512x1024 .bf16)) (Finset.subset_univ _)) $$ H3; iintro H3
  iapply (wp_load 𝒱₀ (c : Thread nD τ) none Set.univ (m := (Memref.whole cc0_stg3_0 : Memref sig .tc .vmem S4x512x1024 .bf16)) (Finset.subset_univ _)) $$ H3; iintro H3
  iapply (wp_load 𝒱₀ (c : Thread nD τ) none Set.univ (m := (Memref.whole cc0_stg3_0 : Memref sig .tc .vmem S4x512x1024 .bf16)) (Finset.subset_univ _)) $$ H3; iintro H3
  unfold anyAll
  icases Hacc with ⟨%fa, Hacc⟩
  iapply (wp_load 𝒱₀ (c : Thread nD τ) none Set.univ (m := accM) (Finset.subset_univ _)) $$ Hacc; iintro Hacc
  iapply (wp_store 𝒱₀ (c : Thread nD τ) none Set.univ (m := accM) (r := r00) (Mk := Finset.univ) (Finset.subset_univ _)) $$ Hacc; iintro Hacc
  rw [write_acc]
  rw [read_x, read_r, read_i]
  ihave Ha := (to_halves c (contrib m c)) $$ [Hacc]
  · iexact Hacc
  icases Ha with ⟨A0, A1⟩
  ihave A0 := (Entails.of_eq (show (accP c (prow 0 0 c) (2 * len 0) (contrib m c) : sProp 𝕄) = accAt (contrib m) c 0 0 from rfl)) $$ A0
  ihave A1 := (Entails.of_eq (show (accP c (prow 1 0 c) (2 * len 0) (contrib m c) : sProp 𝕄) = accAt (contrib m) c 1 0 from rfl)) $$ A1
  -- the halving's stage 0
  iapply (stage_down (contrib m) K c 0 0 1 5 7 256 rfl rfl rfl rfl rfl
      (dev_rs c).1 (dev_rs c).2.1 (off_send c).1 (off_send c).2.1
      (off_keep c).1 (off_keep c).2.1 rfl rfl rfl rfl rfl rfl (fun _ _ => rfl) (fun _ _ => rfl)) $$ [HO A0 A1 P0 Q0 T00 T10]
  · isplitr; · iexact HC
    isplitl [HO]; · iexact HO
    isplitl [A0]; · iexact A0
    isplitl [A1]; · iexact A1
    isplitl [P0]; · iexact P0
    isplitl [Q0]; · iexact Q0
    isplitl [T00]; · iexact T00
    iexact T10
  iintro ⟨HO, A0, A1, ⟨S00, S10⟩, L0, ⟨Z00, Z10⟩⟩
  -- the halving's stage 1
  iapply (stage_down (contrib m) K c 1 1 2 7 9 128 rfl rfl rfl rfl rfl
      (dev_rs c).2.2.1 (dev_rs c).2.2.2.1 (off_send c).2.2.1 (off_send c).2.2.2.1
      (off_keep c).2.2.1 (off_keep c).2.2.2.1 rfl rfl rfl rfl rfl rfl (fun _ _ => rfl) (fun _ _ => rfl)) $$ [HO A0 A1 P1 Q1 T01 T11]
  · isplitr; · iexact HC
    isplitl [HO]; · iexact HO
    isplitl [A0]; · iexact A0
    isplitl [A1]; · iexact A1
    isplitl [P1]; · iexact P1
    isplitl [Q1]; · iexact Q1
    isplitl [T01]; · iexact T01
    iexact T11
  iintro ⟨HO, A0, A1, ⟨S01, S11⟩, L1, ⟨Z01, Z11⟩⟩
  -- the halving's stage 2
  iapply (stage_down (contrib m) K c 2 2 3 9 11 64 rfl rfl rfl rfl rfl
      (dev_rs c).2.2.2.2.1 (dev_rs c).2.2.2.2.2.1 (off_send c).2.2.2.2.1 (off_send c).2.2.2.2.2.1
      (off_keep c).2.2.2.2.1 (off_keep c).2.2.2.2.2.1 rfl rfl rfl rfl rfl rfl (fun _ _ => rfl) (fun _ _ => rfl)) $$ [HO A0 A1 P2 Q2 T02 T12]
  · isplitr; · iexact HC
    isplitl [HO]; · iexact HO
    isplitl [A0]; · iexact A0
    isplitl [A1]; · iexact A1
    isplitl [P2]; · iexact P2
    isplitl [Q2]; · iexact Q2
    isplitl [T02]; · iexact T02
    iexact T12
  iintro ⟨HO, A0, A1, ⟨S02, S12⟩, L2, ⟨Z02, Z12⟩⟩
  -- the halving's stage 3
  iapply (stage_down (contrib m) K c 3 3 4 11 13 32 rfl rfl rfl rfl rfl
      (dev_rs c).2.2.2.2.2.2.1 (dev_rs c).2.2.2.2.2.2.2.1 (off_send c).2.2.2.2.2.2.1 (off_send c).2.2.2.2.2.2.2.1
      (off_keep c).2.2.2.2.2.2.1 (off_keep c).2.2.2.2.2.2.2.1 rfl rfl rfl rfl rfl rfl (fun _ _ => rfl) (fun _ _ => rfl)) $$ [HO A0 A1 P3 Q3 T03 T13]
  · isplitr; · iexact HC
    isplitl [HO]; · iexact HO
    isplitl [A0]; · iexact A0
    isplitl [A1]; · iexact A1
    isplitl [P3]; · iexact P3
    isplitl [Q3]; · iexact Q3
    isplitl [T03]; · iexact T03
    iexact T13
  iintro ⟨HO, A0, A1, ⟨S03, S13⟩, L3, ⟨Z03, Z13⟩⟩
  -- the halving's stage 4
  iapply (stage_down (contrib m) K c 4 4 5 13 15 16 rfl rfl rfl rfl rfl
      (dev_rs c).2.2.2.2.2.2.2.2.1 (dev_rs c).2.2.2.2.2.2.2.2.2 (off_send c).2.2.2.2.2.2.2.2.1 (off_send c).2.2.2.2.2.2.2.2.2
      (off_keep c).2.2.2.2.2.2.2.2.1 (off_keep c).2.2.2.2.2.2.2.2.2 rfl rfl rfl rfl rfl rfl (fun _ _ => rfl) (fun _ _ => rfl)) $$ [HO A0 A1 P4 Q4 T04 T14]
  · isplitr; · iexact HC
    isplitl [HO]; · iexact HO
    isplitl [A0]; · iexact A0
    isplitl [A1]; · iexact A1
    isplitl [P4]; · iexact P4
    isplitl [Q4]; · iexact Q4
    isplitl [T04]; · iexact T04
    iexact T14
  iintro ⟨HO, A0, A1, ⟨S04, S14⟩, L4, ⟨Z04, Z14⟩⟩
  ihave A0 := (Entails.of_eq (show (accAt (contrib m) c 0 5 : sProp 𝕄) = totAt (contrib m) c 0 5 from acc_done (contrib m) c 0)) $$ A0
  ihave A1 := (Entails.of_eq (show (accAt (contrib m) c 1 5 : sProp 𝕄) = totAt (contrib m) c 1 5 from acc_done (contrib m) c 1)) $$ A1
  -- the doubling's stage 4
  iapply (stage_up (contrib m) K c 4 4 5 15 17 16 rfl rfl rfl rfl rfl
      (dev_ag c).1 (dev_ag c).2.1 (off_back c).1 (off_back c).2.1
      rfl rfl rfl rfl) $$ [HO A0 A1 L4 U04 U14]
  · isplitr; · iexact HC
    isplitl [HO]; · iexact HO
    isplitl [A0]; · iexact A0
    isplitl [A1]; · iexact A1
    isplitl [L4]; · iexact L4
    isplitl [U04]; · iexact U04
    iexact U14
  iintro ⟨HO, A0, A1, ⟨Y04, Y14⟩⟩
  -- the doubling's stage 3
  iapply (stage_up (contrib m) K c 3 3 4 17 19 32 rfl rfl rfl rfl rfl
      (dev_ag c).2.2.1 (dev_ag c).2.2.2.1 (off_back c).2.2.1 (off_back c).2.2.2.1
      rfl rfl rfl rfl) $$ [HO A0 A1 L3 U03 U13]
  · isplitr; · iexact HC
    isplitl [HO]; · iexact HO
    isplitl [A0]; · iexact A0
    isplitl [A1]; · iexact A1
    isplitl [L3]; · iexact L3
    isplitl [U03]; · iexact U03
    iexact U13
  iintro ⟨HO, A0, A1, ⟨Y03, Y13⟩⟩
  -- the doubling's stage 2
  iapply (stage_up (contrib m) K c 2 2 3 19 21 64 rfl rfl rfl rfl rfl
      (dev_ag c).2.2.2.2.1 (dev_ag c).2.2.2.2.2.1 (off_back c).2.2.2.2.1 (off_back c).2.2.2.2.2.1
      rfl rfl rfl rfl) $$ [HO A0 A1 L2 U02 U12]
  · isplitr; · iexact HC
    isplitl [HO]; · iexact HO
    isplitl [A0]; · iexact A0
    isplitl [A1]; · iexact A1
    isplitl [L2]; · iexact L2
    isplitl [U02]; · iexact U02
    iexact U12
  iintro ⟨HO, A0, A1, ⟨Y02, Y12⟩⟩
  -- the doubling's stage 1
  iapply (stage_up (contrib m) K c 1 1 2 21 23 128 rfl rfl rfl rfl rfl
      (dev_ag c).2.2.2.2.2.2.1 (dev_ag c).2.2.2.2.2.2.2.1 (off_back c).2.2.2.2.2.2.1 (off_back c).2.2.2.2.2.2.2.1
      rfl rfl rfl rfl) $$ [HO A0 A1 L1 U01 U11]
  · isplitr; · iexact HC
    isplitl [HO]; · iexact HO
    isplitl [A0]; · iexact A0
    isplitl [A1]; · iexact A1
    isplitl [L1]; · iexact L1
    isplitl [U01]; · iexact U01
    iexact U11
  iintro ⟨HO, A0, A1, ⟨Y01, Y11⟩⟩
  -- the doubling's stage 0
  iapply (stage_up (contrib m) K c 0 0 1 23 25 256 rfl rfl rfl rfl rfl
      (dev_ag c).2.2.2.2.2.2.2.2.1 (dev_ag c).2.2.2.2.2.2.2.2.2 (off_back c).2.2.2.2.2.2.2.2.1 (off_back c).2.2.2.2.2.2.2.2.2
      rfl rfl rfl rfl) $$ [HO A0 A1 L0 U00 U10]
  · isplitr; · iexact HC
    isplitl [HO]; · iexact HO
    isplitl [A0]; · iexact A0
    isplitl [A1]; · iexact A1
    isplitl [L0]; · iexact L0
    isplitl [U00]; · iexact U00
    iexact U10
  iintro ⟨HO, A0, A1, ⟨Y00, Y10⟩⟩
  -- the result
  ihave A0 := (Entails.of_eq (show (totAt (contrib m) c 0 0 : sProp 𝕄) = accP c (prow 0 0 c) (2 * len 0) (total (contrib m)) from rfl)) $$ A0
  ihave A1 := (Entails.of_eq (show (totAt (contrib m) c 1 0 : sProp 𝕄) = accP c (prow 1 0 c) (2 * len 0) (total (contrib m)) from rfl)) $$ A1
  ihave Hacc := (Entails.of_eq (acc_halves (F := F) c (total (contrib m))).symm) $$ [A0 A1]
  · isplitl [A0]; · iexact A0
    iexact A1
  iapply (wp_load 𝒱₀ (c : Thread nD τ) none Set.univ (m := (Memref.whole cc0_stg4_0 : Memref sig .tc .vmem S512x1024 .bf16)) (Finset.subset_univ _)) $$ H4; iintro H4
  iapply (wp_load 𝒱₀ (c : Thread nD τ) none Set.univ (m := accM) (Finset.subset_univ _)) $$ Hacc; iintro Hacc
  iapply (wp_load 𝒱₀ (c : Thread nD τ) none Set.univ (m := (Memref.whole cc0_stg5_0 : Memref sig .tc .vmem S1024x1024 .f32)) (Finset.subset_univ _)) $$ H5; iintro H5
  iapply (wp_store 𝒱₀ (c : Thread nD τ) none Set.univ (m := (Memref.whole cc0_stg5_0 : Memref sig .tc .vmem S1024x1024 .f32)) (r := r00) (Mk := Finset.univ) (Finset.subset_univ _)) $$ H5; iintro H5
  rw [write_out]
  rw [read_w, read_acc]
  rw [wp_ret]; imodintro
  unfold owesE
  icases HO with ⟨%W', HO⟩
  iapply Hk
  unfold bodyPost Φ₁ Dat.owesAt Pipeline.owesWithin
  rw [show (dats m ρ 0 c).owed t0_0.succ = owe c 25 from (owe_end c).symm]
  isplitr [HO H0 H1 H2 H3 H4 H5]
  · isplitl [Hacc S00 S01 S02 S03 S04 S10 S11 S12 S13 S14 R0 R1]
    · isplitl [Hacc]; · unfold anyAll; iexists _; iexact Hacc
      iapply (scr_whole (F := F) c)
      unfold slots
      isplitl [S00 S01 S02 S03 S04]
      · isplitl [S00]; · iexact S00
        isplitl [S01]; · iexact S01
        isplitl [S02]; · iexact S02
        isplitl [S03]; · iexact S03
        iexact S04
      isplitl [S10 S11 S12 S13 S14]
      · isplitl [S10]; · iexact S10
        isplitl [S11]; · iexact S11
        isplitl [S12]; · iexact S12
        isplitl [S13]; · iexact S13
        iexact S14
      isplitl [R0] <;> iassumption
    isplitl [HzB]; · iexact HzB
    iapply (closed_all' (F := F) c)
    isplitl [Z00 Z01 Z02 Z03 Z04 Z10 Z11 Z12 Z13 Z14]
    · isplitl [Z00 Z01 Z02 Z03 Z04]
      · isplitl [Z00]; · iexact Z00
        isplitl [Z01]; · iexact Z01
        isplitl [Z02]; · iexact Z02
        isplitl [Z03]; · iexact Z03
        iexact Z04
      · isplitl [Z10]; · iexact Z10
        isplitl [Z11]; · iexact Z11
        isplitl [Z12]; · iexact Z12
        isplitl [Z13]; · iexact Z13
        iexact Z14
    · isplitl [Y00 Y01 Y02 Y03 Y04]
      · isplitl [Y00]; · iexact Y00
        isplitl [Y01]; · iexact Y01
        isplitl [Y02]; · iexact Y02
        isplitl [Y03]; · iexact Y03
        iexact Y04
      · isplitl [Y10]; · iexact Y10
        isplitl [Y11]; · iexact Y11
        isplitl [Y12]; · iexact Y12
        isplitl [Y13]; · iexact Y13
        iexact Y14
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

end Cert.KernelIdeal.Halving
end
-- ==== Proof.Ghost.lean ====
/-
The launch's bookkeeping: every cell's start, the payment tokens dealt to who pays them, and the credits of the waits.
-/
module

public import proofs.«01_k».proof.Proof.Data
public import Idealize.SL.ProofMode.BigOp

@[expose] public section

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Arr F)

/-! ## Cells and tokens -/

theorem csem_injective : Function.Injective csem := by
  rintro (_ | x) (_ | y) h
  · rfl
  · exact absurd h (fun h => by cases h)
  · exact absurd h (fun h => by cases h)
  · exact congrArg some (dsem_injective (SemLoc.dma.inj h))

theorem kcell_injective : Function.Injective kcell := fun a b h =>
  Prod.ext (congrArg (fun g : GSem nD τ sig => g.1.1) h) (csem_injective (congrArg Prod.snd h))

/-- The kernel's cells, on all devices. -/
def cellSet : Finset (GSem nD τ sig) := Finset.univ.map ⟨kcell, kcell_injective⟩

/-- The payments expected at a device: five units at its barrier, one payment at each transfer semaphore. -/
abbrev tokOf (cj : Dev nD × (Fin 5 ⊕ X)) : GSem nD τ sig × ℕ × Fin 5 := match cj.2 with
  | .inl d => (barCell cj.1, 0, d)
  | .inr x => (xCell cj.1 x, 0, 0)

theorem tokOf_injective : Function.Injective tokOf := by
  rintro ⟨c, j⟩ ⟨c', j'⟩ h
  have h1 : c = c' := by
    have := congrArg (fun x : GSem nD τ sig × ℕ × Fin 5 => x.1.1.1) h
    rcases j with d | x <;> rcases j' with d' | x' <;> exact this
  subst h1
  have h2 := congrArg (fun x : GSem nD τ sig × ℕ × Fin 5 => x.1.2) h
  have h3 := congrArg (fun x : GSem nD τ sig × ℕ × Fin 5 => x.2.2) h
  rcases j with d | x <;> rcases j' with d' | x'
  · exact congrArg (fun d => (c, Sum.inl d)) h3
  · exact absurd h2 (fun h => by cases h)
  · exact absurd h2 (fun h => by cases h)
  · exact congrArg (fun x => (c, Sum.inr x)) (dsem_injective (SemLoc.dma.inj h2))

/-- The tokens of all payments, on all devices. -/
def tokSet : Finset (GSem nD τ sig × ℕ × Fin 5) := Finset.univ.map ⟨tokOf, tokOf_injective⟩

/-- The launch's element: the staging's and the kernel's own. -/
def u₀ : UU := (initOf (Pipeline.cells cfgs cellOf_inj) (Pipeline.launchToks cfgs cellOf_inj), initOf cellSet tokSet)

/-- The tokens of the payments expected at device `c`. -/
def toks (c : Dev nD) : sProp 𝕄 :=
  iprop((bigSep Finset.univ fun d : Fin 5 => dutyTok ER (barCell c) 0 d) ∗ bigSep Finset.univ fun x : X => dutyTok ER (xCell c x) 0 0)

/-- What the launch's element gives device `c`. -/
def G (c : Dev nD) : sProp 𝕄 :=
  iprop((bigSep Finset.univ fun k : Option X => roundState ER (rd A) (kcell (c, k)) 0)
    ∗ (bigSep Finset.univ fun k : Option X => iprop(atPos ER (kcell (c, k)) 0 ∅ 0 ∗ reached ER (kcell (c, k)) 0)) ∗ toks (F := F) c)

/-- All cells' invariants under the names `K`, and that they are in their round. -/
def records (K : Dev nD × Option X → ℕ) : sProp 𝕄 :=
  iprop((bigSep Finset.univ fun ck : Dev nD × Option X => cellInv ER (rd A) (K ck) (kcell ck))
    ∗ bigSep Finset.univ fun ck : Dev nD × Option X => reached ER (kcell ck) 0)

instance records_persistent (K : Dev nD × Option X → ℕ) : BI.Persistent (records A K) := by unfold records; infer_instance

/-- What the allocation of the invariants makes of it. -/
def G' (c : Dev nD) : sProp 𝕄 := iprop(∃ K, records A K ∗ linear (F := F) c)

theorem fund_cells : BI.own (ER (initOf cellSet tokSet)) ⊢ (|==> bigSep Finset.univ (G A) : sProp 𝕄) := by
  have hX (Φ : GSem nD τ sig → sProp 𝕄) : bigSep cellSet Φ = bigSep Finset.univ fun c : Dev nD => bigSep Finset.univ fun k : Option X => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    exact bigSep_congr fun c _ => by unfold toks; rw [bigSep_univ_sum]; rfl
  iintro HX
  imod (Rounds.fund ER (rd A) cellSet tokSet) $$ HX with ⟨Hst, Hr, Hat, Htok⟩
  imodintro
  ihave Hst' := (Entails.of_eq (hX fun g => roundState ER (rd A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

omit [FloatOps F] in
/-- Of names that are optional: the missing one and the others. -/
theorem bigSep_option (Φ : Option X → sProp 𝕄) : bigSep Finset.univ Φ = iprop(Φ none ∗ bigSep Finset.univ fun x : X => Φ (some x)) := by
  rw [bigSep_univ_at _ none, show (Finset.univ : Finset (Option X)).erase none = Finset.univ.map Function.Embedding.some from by
    ext k; cases k <;> simp, bigSep_map]
  rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's semaphores of a device at zero: the barrier the launch's own, the others the kernel's. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option X => semVal (kcell (c, k)) 0 : sProp 𝕄) := by
  rw [unscopedSems0_eq, bigSep_option]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun k => iprop(∃ κ : ℕ, cellInv ER (rd A) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Option X => semVal (kcell (c, k)) 0) ∗ bigSep Finset.univ fun k : Option X => roundState ER (rd A) (kcell (c, k)) 0)
      ⊢ (|={Set.univ}=> bigSep Finset.univ fun k => iprop(∃ κ : ℕ, cellInv ER (rd A) κ (kcell (c, k))) : sProp 𝕄) from by
        rw [← bigSep_sep']
        exact (bigSep_mono fun k _ => (Rounds.body_intro ER (rd A) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to who pays -/

omit [FloatOps F] in
/-- A family over the devices, dealt through an involution of them. -/
theorem bigSep_deal {f : Dev nD → Dev nD} (hf : Function.Involutive f) (Φ : Dev nD → sProp 𝕄) :
    bigSep Finset.univ Φ = bigSep Finset.univ fun c => Φ (f c) := bigSep_univ_equiv hf.toPerm Φ

theorem dest_dest (x : X) : Function.Involutive (dest x) := fun c => by
  unfold dest; split
  · exact par_par _ _
  · rfl

/-- The tokens of the payments device `c` makes. -/
def payToks (c : Dev nD) : sProp 𝕄 :=
  iprop((bigSep Finset.univ fun d : Fin 5 => dutyTok ER (barCell (par d c)) 0 d) ∗ bigSep Finset.univ fun x : X => dutyTok ER (xCell (dest x c) x) 0 0)

omit [FloatOps F] in
theorem toks_around : (bigSep Finset.univ fun c : Dev nD => (toks c : sProp 𝕄)) = bigSep Finset.univ fun c : Dev nD => payToks c := by
  have e1 : (bigSep Finset.univ fun c : Dev nD => bigSep Finset.univ fun d : Fin 5 => (dutyTok ER (barCell c) 0 d : sProp 𝕄))
      = bigSep Finset.univ fun c : Dev nD => bigSep Finset.univ fun d : Fin 5 => dutyTok ER (barCell (par d c)) 0 d := by
    rw [BI.bigSep_univ_comm, BI.bigSep_univ_comm (fun (c : Dev nD) (d : Fin 5) => (dutyTok ER (barCell (par d c)) 0 d : sProp 𝕄))]
    exact bigSep_congr fun d _ => bigSep_deal (f := par d) (fun c => par_par d c) _
  have e2 : (bigSep Finset.univ fun c : Dev nD => bigSep Finset.univ fun x : X => (dutyTok ER (xCell c x) 0 0 : sProp 𝕄))
      = bigSep Finset.univ fun c : Dev nD => bigSep Finset.univ fun x : X => dutyTok ER (xCell (dest x c) x) 0 0 := by
    rw [BI.bigSep_univ_comm, BI.bigSep_univ_comm (fun (c : Dev nD) (x : X) => (dutyTok ER (xCell (dest x c) x) 0 0 : sProp 𝕄))]
    exact bigSep_congr fun x _ => bigSep_deal (dest_dest x) _
  unfold toks payToks
  rw [bigSep_sep', bigSep_sep', e1, e2]

theorem ghost_intro (K : Dev nD × Option X → ℕ) (c : Dev nD) : iprop(records A K ∗ linear (F := F) c) ⊢ G' A c := by
  unfold G'
  exact exists_intro (Φ := fun K => iprop(records A K ∗ linear (F := F) c)) K

theorem regroup :
    (bigSep Finset.univ fun c : Dev nD => iprop((bigSep Finset.univ fun k => iprop(∃ κ : ℕ, cellInv ER (rd A) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' A) := by
  rw [bigSep_sep', bigSep_sep', ← bigSep_univ_prod (fun ck : Dev nD × Option X => iprop(∃ κ : ℕ, cellInv ER (rd A) κ (kcell ck))),
    bigSep_congr (s := Finset.univ) (fun (c : Dev nD) _ => bigSep_sep' Finset.univ (fun k : Option X => (atPos ER (kcell (c, k)) 0 ∅ 0 : sProp 𝕄)) (fun k => reached ER (kcell (c, k)) 0)),
    bigSep_sep', ← bigSep_univ_prod (fun ck : Dev nD × Option X => (reached ER (kcell ck) 0 : sProp 𝕄))]
  iintro ⟨HI, ⟨Hat, #HR⟩, Htok⟩
  ihave HK := (BI.bigSep_exists_pi Finset.univ (fun (ck : Dev nD × Option X) (κ : ℕ) => (cellInv ER (rd A) κ (kcell ck) : sProp 𝕄))) $$ HI
  icases HK with ⟨%K, #HI⟩
  ihave Htk := (Entails.of_eq (toks_around (F := F))) $$ Htok
  iapply (BI.bigSep_with_persistent (R := records A K) fun c _ => ghost_intro A K c)
  isplitr
  · unfold records; isplitl; · iexact HI
    iexact HR
  · iapply ((Entails.of_eq (bigSep_sep' Finset.univ (fun c : Dev nD => bigSep Finset.univ fun k : Option X => (atPos ER (kcell (c, k)) 0 ∅ 0 : sProp 𝕄)) payToks).symm).trans
      (bigSep_mono fun c _ => show _ ⊢ linear (F := F) c from by
        unfold linear payToks; rw [bigSep_option]
        iintro ⟨⟨H1, H2⟩, H3, H4⟩
        isplitl [H1]; · iexact H1
        isplitl [H2]; · iexact H2
        isplitl [H3] <;> iassumption))
    isplitl [Hat]; · iexact Hat
    iexact Htk

/-- All devices' semaphores at once: invariants allocated, tokens dealt. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## The launch credit -/

/-- The device that `c`'s `k`-th payment goes to, -/
def payDev (k : ℕ) (c : Dev nD) : Dev nD := if k < 5 then par k c else par (ord (payX k).2.1 (payX k).2.2) c
/-- its semaphore, -/
def paySem (k : ℕ) : SemLoc sig := if k < 5 then .reg barS else osem (payX k)
/-- and its amount. -/
def payAmt (k : ℕ) : ℕ := if k < 5 then 1 else crd (len (payX k).2.2)

theorem payDev_payDev (k : ℕ) (c : Dev nD) : payDev k (payDev k c) = c := by
  unfold payDev; split <;> exact par_par _ _

theorem payAt_eq (c : Dev nD) (k : ℕ) : payAt c k = tallyAt ((payDev k c : Thread nD τ), paySem k) () (payAmt k) := by
  unfold payAt payCell payDev paySem payAmt; split <;> rfl

/-- Of the `k`-th payments of all devices, one goes to each device. -/
theorem sum_payAt (k : ℕ) (c : Dev nD) (sm : SemLoc sig) :
    (∑ d : Dev nD, payAt d k ((c : Thread nD τ), sm) ()) = if paySem k = sm then payAmt k else 0 := by
  rw [Finset.sum_eq_single (payDev k c)]
  · rw [payAt_eq, tallyAt_apply, payDev_payDev]
    by_cases h : paySem k = sm
    · rw [if_pos h, if_pos ⟨by rw [h], rfl⟩]
    · rw [if_neg h, if_neg fun h' => h (congrArg Prod.snd h'.1).symm]
  · intro d _ hd
    rw [payAt_eq, tallyAt_apply, if_neg]
    rintro ⟨h, -⟩
    have : c = payDev k d := congrArg (fun g : GSem nD τ sig => g.1.1) h
    exact hd (by rw [this, payDev_payDev])
  · intro h; exact absurd (Finset.mem_univ _) h

theorem credit_at (c : Dev nD) (sm : SemLoc sig) :
    launchCredit (Pipeline.owing fun c => owe c 0) 0 ((c : Thread nD τ), sm) () = ∑ k ∈ Finset.Ico 0 25, if paySem k = sm then payAmt k else 0 := by
  rw [Pipeline.launchCredit_owing]
  unfold owe
  rw [Finset.sum_congr rfl fun d _ => show (∑ k ∈ Finset.Ico 0 25, payAt d k) ((c : Thread nD τ), sm) () = ∑ k ∈ Finset.Ico 0 25, payAt d k ((c : Thread nD τ), sm) () from by
    rw [Finset.sum_apply, Finsupp.finset_sum_apply], Finset.sum_comm]
  exact Finset.sum_congr rfl fun k _ => sum_payAt k c sm

theorem launch_bar (c : Dev nD) :
    tallyOn (barCell c) (launchCredit (Pipeline.owing fun c => owe c 0) 0 (barCell c)) = (tallyAt (barCell c) () 5 : CellTallies nD τ sig Unit) := by
  unfold tallyAt; refine congrArg _ (Finsupp.ext fun u => ?_); cases u
  rw [credit_at, Finsupp.single_eq_same, ← Finset.sum_Ico_consecutive _ (show 0 ≤ 5 by decide) (show 5 ≤ 25 by decide),
    Finset.sum_congr rfl (g := fun _ => 1) fun k hk => by
      have := (Finset.mem_Ico.mp hk).2
      unfold paySem payAmt; rw [if_pos this, if_pos rfl, if_pos this],
    Finset.sum_eq_zero (s := Finset.Ico 5 25) fun k hk => by
      have := (Finset.mem_Ico.mp hk).1
      unfold paySem; rw [if_neg (show ¬ k < 5 by omega)]; exact if_neg fun h => by cases h]
  rfl

theorem payX_unique : ∀ (x : X) (k : Fin 25), x.1.val % 2 = 1 → 5 ≤ k.val → payX k = x → k.val = place x.1 x.2.1 x.2.2 := by decide +kernel
theorem place_payX : ∀ x : X, x.1.val % 2 = 1 → 5 ≤ place x.1 x.2.1 x.2.2 ∧ place x.1 x.2.1 x.2.2 < 25 ∧ payX (place x.1 x.2.1 x.2.2) = x := by decide +kernel

theorem launch_recv (c : Dev nD) (x : X) (hx : x.1.val % 2 = 1) :
    tallyOn (xCell c x) (launchCredit (Pipeline.owing fun c => owe c 0) 0 (xCell c x)) = (tallyAt (xCell c x) () (crd (len x.2.2)) : CellTallies nD τ sig Unit) := by
  unfold tallyAt; refine congrArg _ (Finsupp.ext fun u => ?_); cases u
  obtain ⟨h1, h2, h3⟩ := place_payX x hx
  rw [credit_at, Finsupp.single_eq_same, Finset.sum_eq_single (place x.1 x.2.1 x.2.2)]
  · unfold paySem payAmt; rw [if_neg (Nat.not_lt.mpr h1), if_neg (Nat.not_lt.mpr h1), h3, if_pos rfl]
  · intro k hk hne
    unfold paySem; split
    · exact if_neg fun h => by cases h
    · next h => exact if_neg fun h' => hne (payX_unique x ⟨k, (Finset.mem_Ico.mp hk).2⟩ hx (Nat.not_lt.mp h) (dsem_injective (SemLoc.dma.inj h')))
  · intro h; exact absurd (Finset.mem_Ico.mpr ⟨Nat.zero_le _, h2⟩) h

omit [FloatOps F] in
theorem creds (c : Dev nD) : (Pipeline.launchCred (fun c => owe c 0) c : sProp 𝕄) ⊢ credits (F := F) c := by
  unfold Pipeline.launchCred credits
  rw [bigSep_univ_at _ (SemLoc.reg barS), launch_bar]
  refine sep_mono_right ?_
  refine (bigSep_subset (t := Finset.univ.map ⟨osem, fun a b h => dsem_injective (SemLoc.dma.inj h)⟩) fun sm h => ?_).trans ?_
  · obtain ⟨x, -, rfl⟩ := Finset.mem_map.mp h
    exact Finset.mem_erase.mpr ⟨fun h => (by cases h), Finset.mem_univ _⟩
  · rw [bigSep_map]
    refine bigSep_mono fun x _ => ?_
    unfold credOf; split
    · next h => exact Entails.of_eq (congrArg cred (launch_recv c x h))
    · show (cred _ : sProp 𝕄) ⊢ iprop(emp)
      iintro -; iempintro

end Cert.KernelIdeal.Halving
end
-- ==== Proof.Run.lean ====
/-
The run of the kernel on the mesh, over any float values: it ends, every semaphore at zero, every result as computed.
-/
module

public import proofs.«01_k».proof.Proof.Body
public import proofs.«01_k».proof.Proof.Ghost
public import Idealize.ShloMosaic.Lib.Pipeline.CollectiveSegs

@[expose] public section

noncomputable section

namespace Cert.KernelIdeal.Halving

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the pipeline wants it -/

set_option maxRecDepth 4000 in
def bodyPre' (c : Dev nD) : sProp 𝕄 :=
  iprop(Φ₀ m c ∗ (dats m ρ 0 c).owesAt () t0_0.castSucc
    ∗ (∃ d, stage_ c cc0_stg0_0 ((dats m ρ 0 c).before (0 : Fin 6) t0_0 d))
    ∗ (∃ d, stage_ c cc0_stg1_0 ((dats m ρ 0 c).before (1 : Fin 6) t0_0 d))
    ∗ (∃ d, stage_ c cc0_stg2_0 ((dats m ρ 0 c).before (2 : Fin 6) t0_0 d))
    ∗ (∃ d, stage_ c cc0_stg3_0 ((dats m ρ 0 c).before (3 : Fin 6) t0_0 d))
    ∗ (∃ d, stage_ c cc0_stg4_0 ((dats m ρ 0 c).before (4 : Fin 6) t0_0 d))
    ∗ (∃ d, stage_ c cc0_stg5_0 ((dats m ρ 0 c).before (5 : Fin 6) t0_0 d)))

set_option maxRecDepth 16000 in
/-- The body on device `c`, from what the staging hands it. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 cc0_scratch4 cc0_scratch5)
      (fun _ => bodyPost m ρ c)
  unfold bodyPre' Φ₀ start
  iintro ⟨⟨⟨⟨%K, Hg⟩, Hcr⟩, Hacc, Hscr⟩, Ho, Hin⟩
  iapply (sound_body m ρ K c fun _ => bodyPost m ρ c)
  unfold bodyPre
  isplitr []
  · isplitl [Hg Hcr Hacc Hscr]
    · isplitl [Hg]; · iexact Hg
      isplitl [Hcr]; · iexact Hcr
      isplitl [Hacc] <;> iassumption
    isplitl [Ho]; · iexact Ho
    iexact Hin
  · iintro H; iexact H

/-! ## The launch's conditions -/

theorem ownSemFacts : Pipeline.OwnSemFacts cfg0.spec osem :=
  ⟨by decide, fun a b h => dsem_injective (SemLoc.dma.inj h), by decide⟩

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun c => owe c 0) c ∗ prngReg c (ρ c) ∗ G' (contrib m) c)
      ⊢ |={Set.univ}=> iprop(start m c ∗ emp) := by
  unfold start G' records ctx
  iintro ⟨-, Hlev, Hcr, -, ⟨%K, ⟨HI, HR⟩, HL⟩⟩
  ihave Hc := (creds (F := F) c) $$ Hcr
  imodintro
  isplitl
  · isplitr [Hc]
    · iexists K
      isplitr [HL]
      · isplitl [HI]; · iexact HI
        isplitl [HR] <;> iassumption
      · iexact HL
    · iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ anyAll
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ anyAll Pipeline.ownSems0
  iintro ⟨Hr, HzB, HzX⟩
  isplitl [HzB]; · iexact HzB
  isplitl [HzX]; · iexact HzX
  iexact Hr

theorem lvS_stage (w : Fin cfg0.W) (s) : lvS (.dma ((cfg0.win w).sem s)) = 0 := by
  revert s; fin_cases w <;> decide

theorem waits (c : Dev nD) : (levAts L lv : sProp 𝕄) ⊢ Pipeline.cellsWaits cfgs (dats m ρ) () 0 c :=
  Pipeline.cellsWaits_intro cfgs (dats m ρ) () 0 c fun w s t => by
    have h (n : ℕ) := mayWait (F := F) c (.dma ((cfg0.win w).sem s)) n fun k _ _ => by
      rw [lvS_stage]; split <;> omega
    rcases t with ⟨_ | _, ht⟩
    · exact h 0
    · have h25 := h 25
      rw [owe_end] at h25
      exact h25

/-! ## The run -/

/-- What the array of window `w` on device `c` holds after the run. -/
def finalA (c : Dev nD) (w : Fin cfg0.W) : Buf (Elt F) ((cfg0.win w).arr.view.loc (c : Thread nD τ)) := (dats m ρ 0 c).arrAt w cfg0.N

/-- Every array of every device as computed. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution of the program on the mesh ends, with every semaphore at
    zero and every array of every device as computed. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => owe c 0) (howed₀ := fun _ => rfl) (howedN := fun _ => rfl)
    (L := L) (lv := lv) (hL := L_of_ne) (hwaits := waits m ρ)
    (G := G (contrib m)) (G' := G' (contrib m)) (u₀ := u₀)
    (hu₀ := by
      unfold u₀
      iintro Hu
      ihave H := (ownU_pair _ _) $$ Hu
      icases H with ⟨HP, HX⟩
      imod (fund_cells (contrib m)) $$ HX with HG
      imodintro
      isplitl [HP] <;> iassumption)
    (hglob := glob (contrib m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array after the run holds what it held. -/
theorem finalA_in (c : Dev nD) (w : Fin 6) (h : w ≠ 5) : finalA m ρ c w = (s₀ m ρ).mem ((cfg0.win w).arr.view.loc (c : Thread nD τ)) := by
  fin_cases w
  · exact (dats (F := F) m ρ 0 c).arrAt_in (0 : Fin 6) rfl _
  · exact (dats (F := F) m ρ 0 c).arrAt_in (1 : Fin 6) rfl _
  · exact (dats (F := F) m ρ 0 c).arrAt_in (2 : Fin 6) rfl _
  · exact (dats (F := F) m ρ 0 c).arrAt_in (3 : Fin 6) rfl _
  · exact (dats (F := F) m ρ 0 c).arrAt_in (4 : Fin 6) rfl _
  · exact absurd rfl h

end Cert.KernelIdeal.Halving
end
-- ==== Proof.Frames.lean ====
/-
The frames of the programs: each ends, leaves its arguments as they were and every semaphore at zero.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem Idealize.ShloMosaic.TcCoe
open Cert.KernelIdeal.Halving (QC finalA finalA_in run_main)

/-- When every array is as computed, the arguments are as they were. -/
theorem args_kept {F : FTy → Type} [FloatOps F] (m : (ℓ : Loc KernelIdeal.nD KernelIdeal.τ KernelIdeal.sig) → Buf (Elt F) ℓ) (ρ : Dev KernelIdeal.nD → PrngReg)
    {r : PUnit × MemSt KernelIdeal.nD KernelIdeal.τ KernelIdeal.sig (Elt F)} (h : QC m ρ r) (c : Dev KernelIdeal.nD) :
    r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4) :=
  ⟨(h c (0 : Fin 6)).trans (finalA_in m ρ c 0 (by decide)), (h c (1 : Fin 6)).trans (finalA_in m ρ c 1 (by decide)),
    (h c (2 : Fin 6)).trans (finalA_in m ρ c 2 (by decide)), (h c (3 : Fin 6)).trans (finalA_in m ρ c 3 (by decide)),
    (h c (4 : Fin 6)).trans (finalA_in m ρ c 4 (by decide))⟩

/-- What a frame says, of the program over any float values. -/
theorem frame_any {F : FTy → Type} [FloatOps F] (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4))
      ∧ r.2.sem = fun _ => 0) :=
  (θ_run KernelIdeal.defs _ _).mono (fun _ h => ⟨args_kept m ρ h.1, h.2⟩) (run_main m ρ)

/-- The bodies of the kernel and of its idealization are the same. -/
theorem defs_zero_eq {F : FTy → Type} [FloatOps F] [Kernel.Facts] [KernelIdeal.Facts] : Kernel.defs₀ (F := F) = KernelIdeal.defs₀ (F := F) := by
  unfold Kernel.defs₀ KernelIdeal.defs₀
  refine congrArg Defs.onTc ?_
  funext l a
  match l, a with
  | ⟨0, _⟩, (t, s) => rfl

/-- The body tables are the same. -/
theorem defs_eq {F : FTy → Type} [FloatOps F] [Kernel.Facts] [KernelIdeal.Facts] : Kernel.defs (F := F) = KernelIdeal.defs (F := F) := by
  unfold Kernel.defs KernelIdeal.defs
  exact congrArg (Pipeline.defs KernelIdeal.pcfgs) defs_zero_eq

/-- The programs are the same. -/
theorem main_eq {F : FTy → Type} [FloatOps F] [Kernel.Facts] [KernelIdeal.Facts] : Kernel.main (F := F) = KernelIdeal.main (F := F) := rfl

/-- The kernel's frame, over words: it is the same program. -/
theorem frame_kernel : Cert.quiescent_Kernel (hKernel := Kernel.Gen.facts) := by
  intro m ρ _
  rw [defs_eq, main_eq]
  exact frame_any (F := Bits) m ρ

/-- The idealized kernel's frame. -/
theorem frame_ideal : Cert.quiescent_KernelIdeal (hKernelIdeal := KernelIdeal.Gen.facts) := fun m ρ _ => frame_any (F := Ideal) m ρ

/-- The reference's frame: it has no semaphore. -/
theorem frame_reference : Cert.quiescent_ReferenceIdeal (hReferenceIdeal := ReferenceIdeal.Gen.facts) := fun m ρ _ =>
  (θ_run ReferenceIdeal.defs _ _).mono
    (fun r h => ⟨fun c => (h c).2, sem_eq_zero_of_no_sems (by decide) r.2⟩)
    (ReferenceIdeal.Value.run (F := Ideal) m ρ)

end Cert.Proof
end
-- ==== Proof.Scalars.lean ====
/-
The mathematics of one row: the softmax of its scores lies in the reals from zero on, and a factor of that kind
goes in and out of a sum.
-/
module

public import Idealize.ShloMosaic.Lib.Pointwise

@[expose] public section

noncomputable section

namespace Cert.Proof

open Idealize.ShloMosaic

/-- The score of row `r` for expert `e`. -/
def score (x : FVec Ideal ⟨2, ![1024, 512]⟩ .bf16) (rw : FVec Ideal ⟨2, ![512, 128]⟩ .bf16) (r : Fin 1024) (e : Fin 128) : EReal :=
  ∑ d : Fin 512, x (ix2 r d) * rw (ix2 d e)

/-- The largest score of row `r`. -/
def topScore (x : FVec Ideal ⟨2, ![1024, 512]⟩ .bf16) (rw : FVec Ideal ⟨2, ![512, 128]⟩ .bf16) (r : Fin 1024) : EReal :=
  Finset.univ.fold max (Ideal.ofBits FTy.f32 4286578688#32 : EReal) (score x rw r)

/-- The probability of expert `e` in row `r`. -/
def prob (x : FVec Ideal ⟨2, ![1024, 512]⟩ .bf16) (rw : FVec Ideal ⟨2, ![512, 128]⟩ .bf16) (r : Fin 1024) (e : Fin 128) : EReal :=
  Ideal.div (Ideal.exp (score x rw r e - topScore x rw r)) (∑ k : Fin 128, Ideal.exp (score x rw r k - topScore x rw r))

/-- The word of minus infinity denotes the bottom. -/
theorem word_bot : (Ideal.ofBits FTy.f32 4286578688#32 : EReal) = ⊥ := by
  simp [Ideal.ofBits, Ideal.ieee]

/-- The word of infinity denotes the top. -/
theorem word_top : (Ideal.ofBits FTy.f32 2139095040#32 : EReal) = ⊤ := by
  simp [Ideal.ofBits, Ideal.ieee]

/-- The exponential of a difference to a real bound is a real, not negative. -/
theorem exp_real {s : EReal} {M : ℝ} (h : s ≤ M) : ∃ t : ℝ, 0 ≤ t ∧ Ideal.exp (s - M) = (t : EReal) := by
  induction s using EReal.rec with
  | bot => exact ⟨0, le_refl _, by rw [EReal.bot_sub]; rfl⟩
  | coe a => exact ⟨Real.exp (a - M), (Real.exp_pos _).le, by rw [← EReal.coe_sub]; rfl⟩
  | top => exact absurd (top_le_iff.mp h) (EReal.coe_ne_top M)

/-- A sum of reals is a real. -/
theorem sum_real {ι : Type} (u : Finset ι) (t : ι → ℝ) : ∑ k ∈ u, (t k : EReal) = ((∑ k ∈ u, t k : ℝ) : EReal) := by
  classical
  induction u using Finset.induction_on with
  | empty => simp
  | insert a u ha ih => rw [Finset.sum_insert ha, Finset.sum_insert ha, ih, EReal.coe_add]

/-- Where the largest score is a real, a probability is a real, not negative. -/
theorem prob_real (x : FVec Ideal ⟨2, ![1024, 512]⟩ .bf16) (rw : FVec Ideal ⟨2, ![512, 128]⟩ .bf16) (r : Fin 1024) (e : Fin 128)
    (hb : topScore x rw r ≠ ⊥) (ht : topScore x rw r ≠ ⊤) : ∃ p : ℝ, 0 ≤ p ∧ prob x rw r e = (p : EReal) := by
  obtain ⟨M, hM⟩ : ∃ M : ℝ, topScore x rw r = (M : EReal) := ⟨_, (EReal.coe_toReal ht hb).symm⟩
  have hle : ∀ k, score x rw r k ≤ (M : EReal) := fun k => by
    rw [← hM]
    exact (Finset.fold_max_le (topScore x rw r)).mp (le_refl _) |>.2 k (Finset.mem_univ k)
  choose t ht0 hte using fun k => exp_real (hle k)
  have hatt : ∃ k, score x rw r k = (M : EReal) := by
    by_contra hno
    have hlt : topScore x rw r < (M : EReal) :=
      (Finset.fold_max_lt (M : EReal)).mpr ⟨by rw [word_bot]; exact EReal.bot_lt_coe M,
        fun k _ => lt_of_le_of_ne (hle k) fun hk => hno ⟨k, hk⟩⟩
    rw [hM] at hlt
    exact lt_irrefl _ hlt
  obtain ⟨k₀, hk₀⟩ := hatt
  have h1 : t k₀ = 1 := by
    have h := hte k₀
    rw [hk₀, ← EReal.coe_sub, sub_self] at h
    have h2 : Ideal.exp ((0 : ℝ) : EReal) = ((Real.exp 0 : ℝ) : EReal) := rfl
    rw [h2, Real.exp_zero] at h
    exact (EReal.coe_injective h).symm
  have hpos : 0 < ∑ k, t k := lt_of_lt_of_le (by rw [h1]; exact one_pos) (Finset.single_le_sum (fun k _ => ht0 k) (Finset.mem_univ k₀))
  refine ⟨t e * (∑ k, t k)⁻¹, mul_nonneg (ht0 e) (inv_nonneg.mpr hpos.le), ?_⟩
  unfold prob
  simp only [hM, hte]
  rw [sum_real]
  unfold Ideal.div
  rw [if_neg (fun h => hpos.ne' (EReal.coe_eq_zero.mp h)), ← EReal.coe_inv, ← EReal.coe_mul]

/-- A factor that is a real, not negative, goes out of a sum. -/
theorem factor_out {ι : Type} (u : Finset ι) (f : ι → EReal) {p : ℝ} (hp : 0 ≤ p) : ∑ k ∈ u, (p : EReal) * f k = (p : EReal) * ∑ k ∈ u, f k := by
  classical
  induction u using Finset.induction_on with
  | empty => simp
  | insert a u ha ih =>
    rw [Finset.sum_insert ha, Finset.sum_insert ha, ih,
      EReal.left_distrib_of_nonneg_of_ne_top (EReal.coe_nonneg.mpr hp) (EReal.coe_ne_top p)]

end Cert.Proof
end
-- ==== Proof.PreRead.lean ====
/-
What the precondition says.
-/
module

public import proofs.«01_k».proof.Defs
public import proofs.«01_k».proof.Proof.Scalars
public import Idealize.ShloMosaic.Lib.Pointwise

@[expose] public section

noncomputable section

namespace Cert.Proof

open Idealize.ShloMosaic

/-- The side conditions of the precondition over the kernel's arguments. -/
theorem facts_pre_kernel : Cert.Pre_routable_KernelIdeal.Facts where
  bitsLt_bf16_f32 := by decide
  reducesTo_S1024x128_S1024_d1 := by decide
  h_S_ := by decide
  bcast_S_S1024x1 := by decide
  reducesTo_S1024x1_S_d0_1 := by decide
  bcast_S_S1024 := by decide
  reducesTo_S1024_S_d0 := by decide
  dot_S1024x512_S512x128_S1024x128_1_0_0_1_n_n_wf := by decide

/-- The side conditions of the precondition over the reference's arguments. -/
theorem facts_pre_reference : Cert.Pre_routable_ReferenceIdeal.Facts where
  bitsLt_bf16_f32 := by decide
  reducesTo_S1024x128_S1024_d1 := by decide
  h_S_ := by decide
  bcast_S_S1024x1 := by decide
  reducesTo_S1024x1_S_d0_1 := by decide
  bcast_S_S1024 := by decide
  reducesTo_S1024_S_d0 := by decide
  dot_S1024x512_S512x128_S1024x128_1_0_0_1_n_n_wf := by decide

/-- A conjunction of two flags is set when both are. -/
theorem and_set (a b : BitVec 1) (h : IntOp.andi a b = 1#1) : a = 1#1 ∧ b = 1#1 := by
  revert a b
  decide

/-- A conjunction over a set is set when every flag is. -/
theorem all_set {ι : Type} (u : Finset ι) (f : ι → BitVec 1) (h : u.fold IntOp.andi (1#1) f = 1#1) : ∀ k ∈ u, f k = 1#1 := by
  classical
  induction u using Finset.induction_on with
  | empty => intro k hk; exact absurd hk (Finset.notMem_empty k)
  | insert a u ha ih =>
    rw [Finset.fold_insert ha] at h
    obtain ⟨h1, h2⟩ := and_set _ _ h
    intro k hk
    rcases Finset.mem_insert.mp hk with rfl | hk
    · exact h1
    · exact ih h2 k hk

/-- A set flag says that its condition holds. -/
theorem flag_set {b : Bool} (h : BitVec.ofBool b = 1#1) : b = true := by
  revert b
  decide

/-- A word from zero on and under 128 is the word of an expert's number. -/
theorem expert_of (w : BitVec 32) (h : IntOp.andi (IntOp.cmpi CmpIPredicate.sge w 0#32) (IntOp.cmpi CmpIPredicate.slt w 128#32) = 1#1) :
    ∃ e : Fin 128, w = BitVec.ofNat 32 e.val := by
  obtain ⟨h1, h2⟩ := and_set _ _ h
  have h1 : (0#32).sle w = true := flag_set h1
  have h2 : w.slt 128#32 = true := flag_set h2
  rw [BitVec.sle_iff_toInt_le] at h1
  rw [BitVec.slt_iff_toInt_lt] at h2
  change (0 : Int) ≤ _ at h1
  change _ < (128 : Int) at h2
  have hw := w.isLt
  rw [BitVec.toInt_eq_toNat_cond] at h1 h2
  have h3 : w.toNat < 128 := by split at h1 <;> split at h2 <;> omega
  refine ⟨⟨w.toNat, h3⟩, ?_⟩
  exact (BitVec.ofNat_toNat 32 w ▸ (BitVec.setWidth_eq w)).symm

section
open Cert.Pre_routable_KernelIdeal

set_option maxRecDepth 16384 in
/-- Under the precondition every row's index is an expert's number and every row's largest score a real. -/
theorem pre_read [Cert.Pre_routable_KernelIdeal.Facts] (x : FVec Ideal S1024x512 .bf16) (rw : FVec Ideal S512x128 .bf16) (i : IVec S1024x1 32) (e : FVec Ideal S4x512x1024 .bf16) (w : FVec Ideal S512x1024 .bf16)
    (h : Cert.Pre_routable_KernelIdeal.fn (F := Ideal) x rw i e w = fun _ => 1#1) (r : Fin 1024) :
    (∃ e : Fin 128, i (ix2 r 0) = BitVec.ofNat 32 e.val) ∧ topScore x rw r ≠ ⊥ ∧ topScore x rw r ≠ ⊤ := by
  have h0 := congrFun h ix0
  pointwise [Cert.Pre_routable_KernelIdeal.fn] at h0
  obtain ⟨h1, h2⟩ := and_set _ _ h0
  refine ⟨expert_of _ (all_set _ _ h1 (r, 0) (Finset.mem_univ _)), ?_⟩
  have h3 : max (topScore x rw r) (-topScore x rw r) < (Ideal.ofBits FTy.f32 2139095040#32 : EReal) := of_decide_eq_true (flag_set (all_set _ _ h2 r (Finset.mem_univ r)))
  rw [word_top] at h3
  constructor
  · intro hb
    rw [hb] at h3
    simp at h3
  · intro ht
    rw [ht] at h3
    simp at h3
end

end Cert.Proof
end
-- ==== Proof.Reads.lean ====
/-
The kernel's payloads at an index.
-/
module

public import proofs.«01_k».proof.Proof.Gen.KernelIdeal
public import proofs.«01_k».proof.Proof.Gen.KernelIdeal.Skeleton
public import proofs.«01_k».proof.Proof.Scalars
public import proofs.«01_k».proof.Proof.Schedule
public import proofs.«01_k».proof.Proof.Data
public import Idealize.ShloMosaic.Lib.Pointwise

@[expose] public section

noncomputable section

namespace Cert.Proof

open Idealize.ShloMosaic

open Cert.KernelIdeal Cert.KernelIdeal.Gen

/-- Words of experts' numbers are equal when the numbers are. -/
theorem word_eq (a b : Fin 128) : IntOp.cmpi CmpIPredicate.eq (BitVec.ofNat 32 a.val) (BitVec.ofNat 32 b.val) = if a = b then 1#1 else 0#1 := by
  show IntOp.cmpi CmpIPredicate.eq _ _ = _
  by_cases h : a = b
  · subst h
    rw [if_pos rfl]
    simp [IntOp.cmpi]
  · rw [if_neg h]
    have hne : BitVec.ofNat 32 a.val ≠ BitVec.ofNat 32 b.val := fun hw => h (Fin.ext (by
      have := congrArg BitVec.toNat hw
      simp only [BitVec.toNat_ofNat] at this
      have := a.isLt
      have := b.isLt
      omega))
    simp [IntOp.cmpi, beq_eq_false_iff_ne.mpr hne]

/-- The number that device `c` computes for its expert `j`. -/
theorem word_own (c : Fin 32) (j : Fin 4) :
    Scalar.addi (Scalar.muli (Halving.devW c) 4#32) (BitVec.ofNat 32 j.val) = BitVec.ofNat 32 (4 * c.val + j.val) := by
  revert c j
  decide +kernel

set_option maxRecDepth 16384 in
/-- The kernel's probabilities are the softmax of the scores. -/
theorem pay2_at (x : FVec Ideal S1024x512 .bf16) (w : FVec Ideal S512x128 .bf16) (r : Fin 1024) (e : Fin 128) :
    k0_pay2 (F := Ideal) x w (ix2 r e) = prob x w r e := by
  pointwise [k0_pay2, k0_pay1]
  rfl

set_option maxRecDepth 16384 in
/-- The masked sum of a row of probabilities is the one at the row's index. -/
theorem pay4_at (v : FVec Ideal S1024x128 .f32) (i : IVec S1024x1 32) (r : Fin 1024) (e : Fin 128) (h : i (ix2 r 0) = BitVec.ofNat 32 e.val) :
    k0_pay4 (F := Ideal) v i (ix2 r 0) = v (ix2 r e) := by
  pointwise [k0_pay4, k0_pay3]
  rw [h]
  rw [Finset.sum_eq_single e]
  · rw [word_eq, if_pos rfl]; rfl
  · intro k _ hk
    rw [word_eq, if_neg (Ne.symm hk)]; rfl
  · exact fun hn => absurd (Finset.mem_univ e) hn

/-- One device's product for its expert `j`: the weighted row's where the row's index is that expert, else zero. -/
def term (x : FVec Ideal S1024x512 .bf16) (rw : FVec Ideal S512x128 .bf16) (e : Fin 128) (c : Fin 32) (f : FVec Ideal S1x512x1024 .bf16) (j : Fin 4) (r h : Fin 1024) : EReal :=
  if e.val = 4 * c.val + j.val then ∑ d : Fin 512, x (ix2 r d) * prob x rw r e * f (ix3 0 d h) else 0

/-- A masked sum is the sum or zero. -/
theorem masked (e : Fin 128) (c : Fin 32) (j : Fin 4) (f : Fin 512 → EReal) :
    (∑ d : Fin 512, Scalar.select (IntOp.cmpi CmpIPredicate.eq (BitVec.ofNat 32 e.val) (Scalar.addi (Scalar.muli (Halving.devW c) 4#32) (BitVec.ofNat 32 j.val))) (f d) 0)
      = if e.val = 4 * c.val + j.val then ∑ d : Fin 512, f d else 0 := by
  have hw := word_eq e ⟨4 * c.val + j.val, by have := c.isLt; have := j.isLt; omega⟩
  rw [word_own, hw]
  by_cases he : e.val = 4 * c.val + j.val
  · rw [if_pos he, if_pos (Fin.ext he)]; rfl
  · rw [if_neg he, if_neg (fun hh => he (congrArg Fin.val hh))]
    exact Finset.sum_const_zero

set_option maxRecDepth 16384 in
/-- What a device adds to the sum, at an index. -/
theorem contribOf_at (c : Fin 32) (x : FVec Ideal S1024x512 .bf16) (rw : FVec Ideal S512x128 .bf16) (i : IVec S1024x1 32) (e₀ e₁ e₂ e₃ : FVec Ideal S1x512x1024 .bf16)
    (r h : Fin 1024) (e : Fin 128) (hi : i (ix2 r 0) = BitVec.ofNat 32 e.val) :
    Halving.contribOf (F := Ideal) c x rw i e₀ e₁ e₂ e₃ (ix2 r h)
      = term x rw e c e₀ 0 r h + term x rw e c e₁ 1 r h + term x rw e c e₂ 2 r h + term x rw e c e₃ 3 r h := by
  pointwise [Halving.contribOf, k0_pay7, k0_pay6, k0_pay5, k0_pay3, k0_pay1]
  rw [pay4_at _ _ r e hi, pay2_at, hi]
  unfold term
  rw [← masked e c 0, ← masked e c 1, ← masked e c 2, ← masked e c 3]
  rfl

set_option maxRecDepth 16384 in
/-- A device's result, of the sum: the sum and the shared expert's product. -/
theorem pay19_at (x : FVec Ideal S1024x512 .bf16) (w : FVec Ideal S512x1024 .bf16) (a : FVec Ideal S1024x1024 .bf16) (r h : Fin 1024) :
    k0_pay19 (F := Ideal) (k0_pay1 (F := Ideal) x) w a (ix2 r h) = a (ix2 r h) + ∑ d : Fin 512, x (ix2 r d) * w (ix2 d h) := by
  pointwise [k0_pay19, k0_pay1]

/-! ## The sum over the devices -/

/-- How often what device `c₀` adds is in the sum that device `c` has after `s` stages. -/
def cnt (g : ℕ) (c₀ : Fin 32) : ℕ → Fin 32 → ℕ
  | 0, c => if c = c₀ then 1 else 0
  | s + 1, c => cnt g c₀ s c + cnt g c₀ s (Halving.par (Halving.ord g s) c)

/-- After all stages every device has what every device adds, once. -/
theorem cnt_one : ∀ (g : Fin 2) (c₀ c : Fin 32), cnt g.val c₀ 5 c = 1 := by decide +kernel

/-- Where one device alone adds something, the sum has that so often. -/
theorem sumAt_cnt (A : Fin 32 → FVec Ideal S1024x1024 .bf16) (g : ℕ) (c₀ : Fin 32) (i : S1024x1024.Idx) (v : EReal)
    (h : ∀ c, A c i = if c = c₀ then v else 0) (s : ℕ) (c : Fin 32) :
    (Halving.sumAt (F := Ideal) A g s c i : EReal) = cnt g c₀ s c • v := by
  induction s generalizing c with
  | zero =>
    show A c i = _
    rw [h]
    unfold cnt
    split <;> simp
  | succ s ih =>
    show (Halving.sumAt (F := Ideal) A g s c i : EReal) + (Halving.sumAt (F := Ideal) A g s (Halving.par (Halving.ord g s) c) i : EReal) = _
    rw [ih, ih]
    exact (add_nsmul v _ _).symm

/-- Where one device alone adds something, the finished sum is that. -/
theorem total_at (A : Fin 32 → FVec Ideal S1024x1024 .bf16) (c₀ : Fin 32) (r h : Fin 1024) (v : EReal)
    (hA : ∀ c, A c (ix2 r h) = if c = c₀ then v else 0) : (Halving.total (F := Ideal) A (ix2 r h) : EReal) = v := by
  have hr : r.val / 512 < 2 := by have := r.isLt; omega
  show (Halving.sumAt (F := Ideal) A (r.val / 512) 5 _ _ : EReal) = v
  rw [sumAt_cnt A _ c₀ _ v hA, cnt_one ⟨r.val / 512, hr⟩, one_nsmul]

end Cert.Proof
end
-- ==== Proof.RefValue.lean ====
/-
What the reference returns, at an index.
-/
module

public import proofs.«01_k».proof.Proof.Gen.ReferenceIdeal
public import proofs.«01_k».proof.Proof.Scalars
public import Idealize.ShloMosaic.Lib.Pointwise

@[expose] public section

noncomputable section

namespace Cert.Proof

open Idealize.ShloMosaic

open Cert.ReferenceIdeal Cert.ReferenceIdeal.Gen Cert.ReferenceIdeal.Facts

/-- The router's scores. -/
def refScores (x : FVec Ideal S1024x512 .bf16) (rw : FVec Ideal S512x128 .bf16) : FVec Ideal S1024x128 .f32 :=
  Host.dotGeneral dot_S1024x512_S512x128_S1024x128_1_0_0_1_n_n none (extf .f32 x bitsLt_bf16_f32) (extf .f32 rw bitsLt_bf16_f32)

/-- The exponentials of the scores less their row's largest. -/
def refExps (x : FVec Ideal S1024x512 .bf16) (rw : FVec Ideal S512x128 .bf16) : FVec Ideal S1024x128 .f32 :=
  Host.exp (subf (refScores x rw) (broadcastInDim S1024x128 ![0, 1] bcast_S1024x1_S1024x128_0_1 (broadcastInDim S1024x1 ![0] bcast_S1024_S1024x1_0 (Host.reduce FloatOps.maximumf (refScores x rw) (constant S_ .f32 0xFF800000#32) reducesTo_S1024x128_S1024_d1 h_S_))))

/-- The probabilities. -/
def refProbs (x : FVec Ideal S1024x512 .bf16) (rw : FVec Ideal S512x128 .bf16) : FVec Ideal S1024x128 .f32 :=
  Host.divf (refExps x rw) (broadcastInDim S1024x128 ![0, 1] bcast_S1024x1_S1024x128_0_1 (broadcastInDim S1024x1 ![0] bcast_S1024_S1024x1_0 (Host.reduceAdd (refExps x rw) (constant S_ .f32 0x00000000#32) reducesTo_S1024x128_S1024_d1 h_S_)))

/-- The indices along the experts, a negative one counted from the end. -/
def refAlong (idx : IVec S1024x1 32) : IVec S1024x1x1 32 :=
  shapeCast _ (select (cmpi .slt idx (broadcastInDim S1024x1 ![] bcast_S_S1024x1 (constantI S_ 32 0#32))) (addi idx (broadcastInDim S1024x1 ![] bcast_S_S1024x1 (constantI S_ 32 128#32))) idx) shapeCasts_S1024x1_S1024x1x1

/-- The same for the rows of the experts' table. -/
def refRows (idx : IVec S1024x1 32) : IVec S1024x1 32 :=
  broadcastInDim S1024x1 ![0] bcast_S1024_S1024x1_0 (select (cmpi .slt (shapeCast _ idx shapeCasts_S1024x1_S1024) (broadcastInDim S1024 ![] bcast_S_S1024 (constantI S_ 32 0#32))) (addi (shapeCast _ idx shapeCasts_S1024x1_S1024) (broadcastInDim S1024 ![] bcast_S_S1024 (constantI S_ 32 128#32))) (shapeCast _ idx shapeCasts_S1024x1_S1024))

/-- Which indices lie among the experts. -/
def refIn (idx : IVec S1024x1 32) : IVec S1024x1 1 :=
  Host.reduce IntOp.andi (andi (cmpi .sge (refAlong idx) (broadcastInDim S1024x1x1 ![] bcast_S_S1024x1x1 (constantI S_ 32 0#32))) (cmpi .sle (refAlong idx) (broadcastInDim S1024x1x1 ![0, 1, 2] bcast_S1x1x1_S1024x1x1_0_1_2 (broadcastInDim S1x1x1 ![2] bcast_S1_S1x1x1_2 (constantI S1 32 127#32))))) (constantI S_ 1 1#1) reducesTo_S1024x1x1_S1024x1_d2 h_S_

/-- What the reference returns. -/
def refOut (x : FVec Ideal S1024x512 .bf16) (rw : FVec Ideal S512x128 .bf16) (idx : IVec S1024x1 32) (ew : FVec Ideal S128x512x1024 .bf16) (sw : FVec Ideal S512x1024 .bf16) : FVec Ideal S1024x1024 .f32 :=
  addf (Host.dotGeneral dot_S1024x512_S512x1024_S1024x1024_1_0_0_1_n_n none (extf .f32 x bitsLt_bf16_f32) (extf .f32 sw bitsLt_bf16_f32))
    (mulf (broadcastInDim S1024x1024 ![0, 1] bcast_S1024x1_S1024x1024_0_1
        (select (refIn idx) (Host.gather gather_S1024x128_S1024x1x1_S1024x1_n_1_0_0_1_2_11 (refProbs x rw) (refAlong idx)) (broadcastInDim S1024x1 ![] bcast_S_S1024x1 (constant S_ .f32 0x7FC00000#32))))
      (Host.dotGeneral dot_S1024x512_S1024x512x1024_S1024x1024_1_1_n_2_0_0 none (extf .f32 x bitsLt_bf16_f32)
        (Host.gather gather_S128x512x1024_S1024x1_S1024x512x1024_12_0_n_n_0_1_15121024 (extf .f32 ew bitsLt_bf16_f32) (refRows idx))))

set_option maxRecDepth 16384 in
/-- The gather along the experts reads the row at the index, held within the experts. -/
theorem gather_prob (v : FVec Ideal S1024x128 .f32) (i : IVec S1024x1x1 32) (r : Fin 1024) (e : Fin 128) (h : i (ix3 r 0 0) = BitVec.ofNat 32 e.val) :
    Host.gather gather_S1024x128_S1024x1x1_S1024x1_n_1_0_0_1_2_11 v i (ix2 r 0) = v (ix2 r e) := by
  have hs : ∀ a, gather_S1024x128_S1024x1x1_S1024x1_n_1_0_0_1_2_11.siIdx (ix2 r 0) a = ix3 r 0 0 := by
    intro a
    funext b
    refine Fin.ext ?_
    match b with
    | ⟨0, _⟩ => rfl
    | ⟨1, _⟩ => rfl
    | ⟨2, _⟩ => show a.val = 0; have := a.isLt; change a.val < 1 at this; omega
  have hi : (BitVec.ofNat 32 e.val).toInt.toNat = e.val := by
    have := e.isLt
    rw [BitVec.toInt_eq_toNat_of_lt (by rw [BitVec.toNat_ofNat]; omega), BitVec.toNat_ofNat]; omega
  unfold Host.gather
  congr 1
  funext a
  refine Fin.ext ?_
  show GatherDims.start _ _ _ a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · show 0 + r.val + 0 = r.val
    omega
  · unfold GatherDims.start
    rw [dif_pos (show (1 : Fin 2) ∈ gather_S1024x128_S1024x1x1_S1024x1_n_1_0_0_1_2_11.startIndexMap from List.mem_singleton.mpr rfl)]
    rw [hs, h, hi]
    show min e.val 127 + 0 + 0 = e.val
    omega

set_option maxRecDepth 16384 in
/-- The gather of the experts' blocks reads the block at the index, held within the experts. -/
theorem gather_expert (v : FVec Ideal S128x512x1024 .f32) (i : IVec S1024x1 32) (r : Fin 1024) (d : Fin 512) (c : Fin 1024) (e : Fin 128) (h : i (ix2 r 0) = BitVec.ofNat 32 e.val) :
    Host.gather gather_S128x512x1024_S1024x1_S1024x512x1024_12_0_n_n_0_1_15121024 v i (ix3 r d c) = v (ix3 e d c) := by
  have hs : ∀ a, gather_S128x512x1024_S1024x1_S1024x512x1024_12_0_n_n_0_1_15121024.siIdx (ix3 r d c) a = ix2 r 0 := by
    intro a
    funext b
    refine Fin.ext ?_
    match b with
    | ⟨0, _⟩ => rfl
    | ⟨1, _⟩ => show a.val = 0; have := a.isLt; change a.val < 1 at this; omega
  have hi : (BitVec.ofNat 32 e.val).toInt.toNat = e.val := by
    have := e.isLt
    rw [BitVec.toInt_eq_toNat_of_lt (by rw [BitVec.toNat_ofNat]; omega), BitVec.toNat_ofNat]; omega
  unfold Host.gather
  congr 1
  funext a
  refine Fin.ext ?_
  show GatherDims.start _ _ _ a + GatherDims.batchCoord _ _ a + GatherDims.offCoord _ _ a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start
    rw [dif_pos (show (0 : Fin 3) ∈ gather_S128x512x1024_S1024x1_S1024x512x1024_12_0_n_n_0_1_15121024.startIndexMap from List.mem_singleton.mpr rfl)]
    rw [hs, h, hi]
    show min e.val 127 + 0 + 0 = e.val
    omega
  · show 0 + 0 + d.val = d.val; omega
  · show 0 + 0 + c.val = c.val; omega

set_option maxRecDepth 16384 in
/-- The reference's probabilities are the softmax of the scores. -/
theorem probs_at (x : FVec Ideal S1024x512 .bf16) (rw : FVec Ideal S512x128 .bf16) (r : Fin 1024) (e : Fin 128) : refProbs x rw (ix2 r e) = prob x rw r e := by
  pointwise [refProbs, refExps, refScores]
  rfl

/-- An index among the experts is not counted from the end. -/
theorem not_wrapped (e : Fin 128) :
    Scalar.select (IntOp.cmpi CmpIPredicate.slt (BitVec.ofNat 32 e.val) 0#32) (IntOp.addi (BitVec.ofNat 32 e.val) 128#32) (BitVec.ofNat 32 e.val) = BitVec.ofNat 32 e.val := by
  revert e
  decide +kernel

/-- An index among the experts is at least the first and at most the last. -/
theorem among (e : Fin 128) :
    IntOp.andi (IntOp.cmpi CmpIPredicate.sge (BitVec.ofNat 32 e.val) 0#32) (IntOp.cmpi CmpIPredicate.sle (BitVec.ofNat 32 e.val) 127#32) = 1#1 := by
  revert e
  decide +kernel

set_option maxRecDepth 16384 in
/-- The index of a row along the experts. -/
theorem along_at (idx : IVec S1024x1 32) (r : Fin 1024) (e : Fin 128) (h : idx (ix2 r 0) = BitVec.ofNat 32 e.val) : refAlong idx (ix3 r 0 0) = BitVec.ofNat 32 e.val := by
  pointwise [refAlong]
  rw [h, not_wrapped]

set_option maxRecDepth 16384 in
/-- The index of a row in the experts' table. -/
theorem rows_at (idx : IVec S1024x1 32) (r : Fin 1024) (e : Fin 128) (h : idx (ix2 r 0) = BitVec.ofNat 32 e.val) : refRows idx (ix2 r 0) = BitVec.ofNat 32 e.val := by
  pointwise [refRows]
  rw [h, not_wrapped]

set_option maxRecDepth 16384 in
/-- The index of a row lies among the experts. -/
theorem in_at (idx : IVec S1024x1 32) (r : Fin 1024) (e : Fin 128) (h : idx (ix2 r 0) = BitVec.ofNat 32 e.val) : refIn idx (ix2 r 0) = 1#1 := by
  pointwise [refIn, refAlong]
  rw [h, not_wrapped, among]
  rfl

set_option maxRecDepth 16384 in
/-- What the reference returns: the shared expert's product and the row's own expert's, weighted by its probability. -/
theorem out_at (x : FVec Ideal S1024x512 .bf16) (rw : FVec Ideal S512x128 .bf16) (idx : IVec S1024x1 32) (ew : FVec Ideal S128x512x1024 .bf16) (sw : FVec Ideal S512x1024 .bf16)
    (r c : Fin 1024) (e : Fin 128) (h : idx (ix2 r 0) = BitVec.ofNat 32 e.val) :
    refOut x rw idx ew sw (ix2 r c)
      = (∑ d : Fin 512, x (ix2 r d) * sw (ix2 d c)) + prob x rw r e * ∑ d : Fin 512, x (ix2 r d) * ew (ix3 e d c) := by
  pointwise [refOut]
  rw [in_at idx r e h, gather_prob _ _ r e (along_at idx r e h), probs_at]
  simp only [gather_expert _ _ r _ _ e (rows_at idx r e h)]
  rfl

end Cert.Proof
end
-- ==== Proof.Value.lean ====
/-
What the kernel leaves in its result is what the reference returns.
-/
module

public import proofs.«01_k».proof.Defs
public import proofs.«01_k».proof.Proof.Frames
public import proofs.«01_k».proof.Proof.PreRead
public import proofs.«01_k».proof.Proof.Reads
public import proofs.«01_k».proof.Proof.RefValue

@[expose] public section

noncomputable section

namespace Cert.Proof

open Idealize.ShloMosaic

open Idealize.SL.Sem Idealize.ShloMosaic.TcCoe
open Cert.KernelIdeal.Halving (QC finalA finalA_in run_main xB rB iB eB wB slabE contrib contribOf outAt total)

/-! ## The blocks that the kernel stages -/

section
open Cert.KernelIdeal Cert.KernelIdeal.Gen

variable (m : (ℓ : Loc nD τ sig) → Buf (Elt Ideal) ℓ) (ρ : Dev nD → PrngReg) (c : Dev nD)

/-- The staged tokens are the whole array. -/
theorem xB_eq : xB m c = m ((c.tc : Thread nD τ).loc main_arg0) := by
  funext i
  refine congrArg (m ((c.tc : Thread nD τ).loc main_arg0)) (funext fun a => Fin.ext ?_)
  exact win0_0.rect_emb_val_of_index_zero t0_0 a rfl i

/-- The staged router is the whole array. -/
theorem rB_eq : rB m c = m ((c.tc : Thread nD τ).loc main_arg1) := by
  funext i
  refine congrArg (m ((c.tc : Thread nD τ).loc main_arg1)) (funext fun a => Fin.ext ?_)
  exact win0_1.rect_emb_val_of_index_zero t0_0 a rfl i

/-- The staged routing is the whole array. -/
theorem iB_eq : iB m c = m ((c.tc : Thread nD τ).loc main_arg2) := by
  funext i
  refine congrArg (m ((c.tc : Thread nD τ).loc main_arg2)) (funext fun a => Fin.ext ?_)
  exact win0_2.rect_emb_val_of_index_zero t0_0 a rfl i

/-- The staged experts are the whole array of the device's. -/
theorem eB_eq : eB m c = m ((c.tc : Thread nD τ).loc main_arg3) := by
  funext i
  refine congrArg (m ((c.tc : Thread nD τ).loc main_arg3)) (funext fun a => Fin.ext ?_)
  exact win0_3.rect_emb_val_of_index_zero t0_0 a rfl i

/-- The staged shared expert is the whole array. -/
theorem wB_eq : wB m c = m ((c.tc : Thread nD τ).loc main_arg4) := by
  funext i
  refine congrArg (m ((c.tc : Thread nD τ).loc main_arg4)) (funext fun a => Fin.ext ?_)
  exact win0_4.rect_emb_val_of_index_zero t0_0 a rfl i

/-- The result's array ends as the kernel computes it. -/
theorem finalA_out : finalA m ρ c 5 = outAt m c :=
  (Halving.dats m ρ 0 c).arrAt_eq_of_after_last (5 : Fin 6) t0_0 (by decide +kernel) (outAt m c) fun j => rfl

/-- A slab of the staged experts at an index. -/
theorem slab_at (f : (cc0_stg3_0 : Ref sig .tc).ty.Contents (Elt Ideal)) (j : Fin 4) (h) (d : Fin 512) (k : Fin 1024) :
    slabE f ![j.val, 0, 0] h (ix3 0 d k) = f (ix3 j d k) := by
  refine congrArg f ?_
  funext b
  refine Fin.ext ?_
  match b with
  | ⟨0, _⟩ => show j.val + 1 * 0 = j.val; omega
  | ⟨1, _⟩ => show 0 + 1 * d.val = d.val; omega
  | ⟨2, _⟩ => show 0 + 1 * k.val = k.val; omega

/-- An expert of a device, in the whole table. -/
theorem block_at (ew : FVec Ideal ⟨3, ![128, 512, 1024]⟩ .bf16) (c : Fin 32) (j : Fin 4) (d : Fin 512) (k : Fin 1024) (e : Fin 128) (he : e.val = 4 * c.val + j.val) :
    Layout.block ⟨3, ![4, 512, 1024]⟩ ⟨3, ![128, 512, 1024]⟩ 0 32 c ew (by decide) (ix3 j d k) = ew (ix3 e d k) := by
  refine congrArg ew ?_
  funext b
  refine Fin.ext ?_
  match b with
  | ⟨0, _⟩ => show c.val * 4 + j.val = e.val; omega
  | ⟨1, _⟩ => rfl
  | ⟨2, _⟩ => rfl

/-- One device's product for its expert `j`, of the whole table: the row's expert's product, weighted, or zero. -/
theorem term_at (x : FVec Ideal ⟨2, ![1024, 512]⟩ .bf16) (rw : FVec Ideal ⟨2, ![512, 128]⟩ .bf16) (ew : FVec Ideal ⟨3, ![128, 512, 1024]⟩ .bf16)
    (e : Fin 128) (c : Fin 32) (f : FVec Ideal S1x512x1024 .bf16) (j : Fin 4) (r k : Fin 1024)
    (hb : topScore x rw r ≠ ⊥) (ht : topScore x rw r ≠ ⊤)
    (hf : ∀ d, e.val = 4 * c.val + j.val → f (ix3 0 d k) = ew (ix3 e d k)) :
    term x rw e c f j r k = if e.val = 4 * c.val + j.val then prob x rw r e * ∑ d : Fin 512, x (ix2 r d) * ew (ix3 e d k) else 0 := by
  unfold term
  by_cases he : e.val = 4 * c.val + j.val
  · rw [if_pos he, if_pos he]
    obtain ⟨p, hp, hpe⟩ := prob_real x rw r e hb ht
    rw [hpe, ← factor_out _ _ hp]
    refine Finset.sum_congr rfl fun d _ => ?_
    rw [hf d he]
    show (x (ix2 r d) : EReal) * p * ew (ix3 e d k) = p * (x (ix2 r d) * ew (ix3 e d k))
    rw [mul_comm (x (ix2 r d) : EReal) p, mul_assoc]
  · rw [if_neg he, if_neg he]

/-- Of four flags for a device's experts, the sum is one value when the expert is the device's, else zero. -/
theorem four (e : Fin 128) (c : Fin 32) (v : EReal) :
    (if e.val = 4 * c.val + (0 : Fin 4).val then v else 0) + (if e.val = 4 * c.val + (1 : Fin 4).val then v else 0)
        + (if e.val = 4 * c.val + (2 : Fin 4).val then v else 0) + (if e.val = 4 * c.val + (3 : Fin 4).val then v else 0)
      = if c = (⟨e.val / 4, by omega⟩ : Fin 32) then v else 0 := by
  have h0 : (0 : Fin 4).val = 0 := rfl
  have h1 : (1 : Fin 4).val = 1 := rfl
  have h2 : (2 : Fin 4).val = 2 := rfl
  have h3 : (3 : Fin 4).val = 3 := rfl
  rw [h0, h1, h2, h3]
  by_cases hc : c = (⟨e.val / 4, by omega⟩ : Fin 32)
  · rw [if_pos hc]
    have hv : c.val = e.val / 4 := congrArg Fin.val hc
    have hm : e.val % 4 = 0 ∨ e.val % 4 = 1 ∨ e.val % 4 = 2 ∨ e.val % 4 = 3 := by omega
    rcases hm with hm | hm | hm | hm
    · rw [if_pos (by omega), if_neg (by omega), if_neg (by omega), if_neg (by omega)]; simp
    · rw [if_neg (by omega), if_pos (by omega), if_neg (by omega), if_neg (by omega)]; simp
    · rw [if_neg (by omega), if_neg (by omega), if_pos (by omega), if_neg (by omega)]; simp
    · rw [if_neg (by omega), if_neg (by omega), if_neg (by omega), if_pos (by omega)]; simp
  · have hv : c.val ≠ e.val / 4 := fun h => hc (Fin.ext h)
    rw [if_neg hc, if_neg (by omega), if_neg (by omega), if_neg (by omega), if_neg (by omega)]
    simp

/-- The kernel's result at an index, of the arrays that the reference is given. -/
theorem outAt_at (x : FVec Ideal ⟨2, ![1024, 512]⟩ .bf16) (rw : FVec Ideal ⟨2, ![512, 128]⟩ .bf16) (idx : IVec ⟨2, ![1024, 1]⟩ 32)
    (ew : FVec Ideal ⟨3, ![128, 512, 1024]⟩ .bf16) (sw : FVec Ideal ⟨2, ![512, 1024]⟩ .bf16)
    (h0 : ∀ c : Dev nD, m ((c.tc : Thread nD τ).loc main_arg0) = x)
    (h1 : ∀ c : Dev nD, m ((c.tc : Thread nD τ).loc main_arg1) = rw)
    (h2 : ∀ c : Dev nD, m ((c.tc : Thread nD τ).loc main_arg2) = idx)
    (h3 : ∀ c : Dev nD, m ((c.tc : Thread nD τ).loc main_arg3) = Layout.block ⟨3, ![4, 512, 1024]⟩ ⟨3, ![128, 512, 1024]⟩ 0 32 c ew)
    (h4 : ∀ c : Dev nD, m ((c.tc : Thread nD τ).loc main_arg4) = sw)
    (r k : Fin 1024) (e : Fin 128) (hi : idx (ix2 r 0) = BitVec.ofNat 32 e.val) (hb : topScore x rw r ≠ ⊥) (ht : topScore x rw r ≠ ⊤) :
    outAt m c (ix2 r k) = (∑ d : Fin 512, x (ix2 r d) * sw (ix2 d k)) + prob x rw r e * ∑ d : Fin 512, x (ix2 r d) * ew (ix3 e d k) := by
  have hs : (total (contrib m) (ix2 r k) : EReal) = prob x rw r e * ∑ d : Fin 512, x (ix2 r d) * ew (ix3 e d k) := by
    refine total_at (contrib m) ⟨e.val / 4, by omega⟩ r k _ fun c' => ?_
    have hslab : ∀ (j : Fin 4) h d, e.val = 4 * c'.val + j.val → slabE (eB m c') ![j.val, 0, 0] h (ix3 0 d k) = ew (ix3 e d k) := fun j h d he => by
      rw [slab_at, eB_eq, h3]
      exact block_at ew c' j d k e he
    refine (contribOf_at c' (xB m c') (rB m c') (iB m c') _ _ _ _ r k e (by rw [iB_eq, h2]; exact hi)).trans ?_
    rw [xB_eq, rB_eq, h0, h1,
      term_at x rw ew e c' (slabE (eB m c') ![0, 0, 0] inb_S4x512x1024_S1x512x1024_0_0_0) 0 r k hb ht (hslab 0 _),
      term_at x rw ew e c' (slabE (eB m c') ![1, 0, 0] inb_S4x512x1024_S1x512x1024_1_0_0) 1 r k hb ht (hslab 1 _),
      term_at x rw ew e c' (slabE (eB m c') ![2, 0, 0] inb_S4x512x1024_S1x512x1024_2_0_0) 2 r k hb ht (hslab 2 _),
      term_at x rw ew e c' (slabE (eB m c') ![3, 0, 0] inb_S4x512x1024_S1x512x1024_3_0_0) 3 r k hb ht (hslab 3 _)]
    exact four e c' _
  refine (pay19_at (xB m c) (wB m c) (total (contrib m)) r k).trans ?_
  rw [hs, xB_eq, wB_eq, h0, h4]
  exact add_comm _ _
end

/-! ## The claim -/

/-- The idealized kernel's frame under the precondition. -/
theorem frame_ideal_pre : Cert.quiescent_KernelIdeal_pre_routable_KernelIdeal (hKernelIdeal := KernelIdeal.Gen.facts) (hPre_routable_KernelIdeal := facts_pre_kernel) :=
  fun m ρ _ => frame_any (F := Ideal) m ρ

/-- The reference's frame under the precondition. -/
theorem frame_reference_pre : Cert.quiescent_ReferenceIdeal_pre_routable_ReferenceIdeal (hReferenceIdeal := ReferenceIdeal.Gen.facts) (hPre_routable_ReferenceIdeal := facts_pre_reference) :=
  fun m ρ _ => frame_reference m ρ trivial

/-- From equal arguments, an index of an expert for every row and a real largest score in every row, every device's result
    is the reference's. -/
theorem algebraic : Cert.algebraic_KernelIdeal_ReferenceIdeal_pre_routable_KernelIdeal (hKernelIdeal := KernelIdeal.Gen.facts)
    (hReferenceIdeal := ReferenceIdeal.Gen.facts) (hPre_routable_KernelIdeal := facts_pre_kernel) := by
  intro m ρ m' ρ' hpre hargs
  refine ⟨refOut (m' (((0 : Dev ReferenceIdeal.nD).tc : Thread ReferenceIdeal.nD ReferenceIdeal.τ).loc ReferenceIdeal.main_arg0))
    (m' (((0 : Dev ReferenceIdeal.nD).tc : Thread ReferenceIdeal.nD ReferenceIdeal.τ).loc ReferenceIdeal.main_arg1))
    (m' (((0 : Dev ReferenceIdeal.nD).tc : Thread ReferenceIdeal.nD ReferenceIdeal.τ).loc ReferenceIdeal.main_arg2))
    (m' (((0 : Dev ReferenceIdeal.nD).tc : Thread ReferenceIdeal.nD ReferenceIdeal.τ).loc ReferenceIdeal.main_arg3))
    (m' (((0 : Dev ReferenceIdeal.nD).tc : Thread ReferenceIdeal.nD ReferenceIdeal.τ).loc ReferenceIdeal.main_arg4)), ?_, ?_⟩
  · refine (θ_run KernelIdeal.defs _ _).mono (fun r h c => ⟨?_, args_kept m ρ h.1 c⟩) (run_main m ρ)
    refine ((h.1 c (5 : Fin 6)).trans (finalA_out m ρ c)).trans (funext fun i => ?_)
    obtain ⟨a, b, rfl⟩ : ∃ (a b : Fin 1024), i = ix2 a b := ⟨i 0, i 1, eq_ix2 i⟩
    obtain ⟨⟨e, he⟩, hb, ht⟩ := @pre_read facts_pre_kernel _ _ _ _ _ (hpre c) a
    rw [(hargs c).2.2.1] at he
    rw [(hargs c).1, (hargs c).2.1] at hb ht
    refine (outAt_at m c _ _ _ _ _ (fun c => (hargs c).1) (fun c => (hargs c).2.1) (fun c => (hargs c).2.2.1) (fun c => (hargs c).2.2.2.1)
      (fun c => (hargs c).2.2.2.2) a b e he hb ht).trans ?_
    exact (out_at _ _ _ _ _ a b e he).symm
  · exact (θ_run ReferenceIdeal.defs _ _).mono (fun r h => h 0) (ReferenceIdeal.Value.run (F := Ideal) m' ρ')

end Cert.Proof
end
-- ==== Proof.lean ====
/-
The proof of `Cert.Claim` (proofs.«01_k».proof.Defs), put together of the modules under Proof/.
-/
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

/-- The claim: the frames, that the idealized kernel is the kernel, and that it computes the reference. -/
theorem claim : Cert.Claim :=
  ⟨Cert.Kernel.Gen.facts, Cert.KernelIdeal.Gen.facts, Cert.ReferenceIdeal.Gen.facts, facts_pre_kernel, facts_pre_reference,
    frame_kernel, frame_ideal, frame_ideal_pre, frame_reference, frame_reference_pre, trivial, algebraic⟩

end Cert.Proof

end
